-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_Kernel2 [hPre_experts_named : Cert.Pre_experts_named.Facts] (m : (ℓ : Loc Cert.Kernel2.nD Cert.Kernel2.τ Cert.Kernel2.sig) → Buf (Elt Bits) ℓ) : Prop :=
  ∀ c : Dev Cert.Kernel2.nD,
    (Cert.Pre_experts_named.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_experts_named : Cert.Pre_experts_named.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts_named.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_experts_named [hPre_experts_named : Cert.Pre_experts_named.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_experts_named.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_merged_finite [hPre_merged_finite : Cert.Pre_merged_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_merged_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))).1 = (fun _ => 1#1)
    ∧ (Cert.Pre_merged_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))).2.1 = (fun _ => 1#1)
    ∧ (Cert.Pre_merged_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))).2.2.1 = (fun _ => 1#1)
    ∧ (Cert.Pre_merged_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))).2.2.2.1 = (fun _ => 1#1)
    ∧ (Cert.Pre_merged_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))).2.2.2.2.1 = (fun _ => 1#1)
    ∧ (Cert.Pre_merged_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))).2.2.2.2.2.1 = (fun _ => 1#1)
    ∧ (Cert.Pre_merged_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))).2.2.2.2.2.2.1 = (fun _ => 1#1)
    ∧ (Cert.Pre_merged_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))).2.2.2.2.2.2.2.1 = (fun _ => 1#1)
    ∧ (Cert.Pre_merged_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))).2.2.2.2.2.2.2.2.1 = (fun _ => 1#1)
    ∧ (Cert.Pre_merged_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))).2.2.2.2.2.2.2.2.2.1 = (fun _ => 1#1)
    ∧ (Cert.Pre_merged_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))).2.2.2.2.2.2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_merged_finite [hPre_merged_finite : Cert.Pre_merged_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_merged_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))).1 = (fun _ => 1#1)
    ∧ (Cert.Pre_merged_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))).2.1 = (fun _ => 1#1)
    ∧ (Cert.Pre_merged_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))).2.2.1 = (fun _ => 1#1)
    ∧ (Cert.Pre_merged_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))).2.2.2.1 = (fun _ => 1#1)
    ∧ (Cert.Pre_merged_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))).2.2.2.2.1 = (fun _ => 1#1)
    ∧ (Cert.Pre_merged_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))).2.2.2.2.2.1 = (fun _ => 1#1)
    ∧ (Cert.Pre_merged_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))).2.2.2.2.2.2.1 = (fun _ => 1#1)
    ∧ (Cert.Pre_merged_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))).2.2.2.2.2.2.2.1 = (fun _ => 1#1)
    ∧ (Cert.Pre_merged_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))).2.2.2.2.2.2.2.2.1 = (fun _ => 1#1)
    ∧ (Cert.Pre_merged_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))).2.2.2.2.2.2.2.2.2.1 = (fun _ => 1#1)
    ∧ (Cert.Pre_merged_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))).2.2.2.2.2.2.2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_projected_finite [hPre_projected_finite : Cert.Pre_projected_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_projected_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11))).1 = (fun _ => 1#1)
    ∧ (Cert.Pre_projected_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11))).2.1 = (fun _ => 1#1)
    ∧ (Cert.Pre_projected_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11))).2.2.1 = (fun _ => 1#1)
    ∧ (Cert.Pre_projected_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11))).2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_projected_finite [hPre_projected_finite : Cert.Pre_projected_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_projected_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11))).1 = (fun _ => 1#1)
    ∧ (Cert.Pre_projected_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11))).2.1 = (fun _ => 1#1)
    ∧ (Cert.Pre_projected_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11))).2.2.1 = (fun _ => 1#1)
    ∧ (Cert.Pre_projected_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] [hPre_experts_named : Cert.Pre_experts_named.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_experts_named : Cert.Pre_experts_named.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_experts_named [hReference2Ideal : Cert.Reference2Ideal.Facts] [hPre_experts_named : Cert.Pre_experts_named.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_experts_named m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Kernel3Ideal_pre_merged_finite [hKernel3Ideal : Cert.Kernel3Ideal.Facts] [hPre_merged_finite : Cert.Pre_merged_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_merged_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Reference3Ideal_pre_merged_finite [hReference3Ideal : Cert.Reference3Ideal.Facts] [hPre_merged_finite : Cert.Pre_merged_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_merged_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Kernel4Ideal_pre_projected_finite [hKernel4Ideal : Cert.Kernel4Ideal.Facts] [hPre_projected_finite : Cert.Pre_projected_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_projected_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def quiescent_Reference4Ideal_pre_projected_finite [hReference4Ideal : Cert.Reference4Ideal.Facts] [hPre_projected_finite : Cert.Pre_projected_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_projected_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] [hPre_experts_named : Cert.Pre_experts_named.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v38) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal_pre_merged_finite [hKernel3Ideal : Cert.Kernel3Ideal.Facts] [hReference3Ideal : Cert.Reference3Ideal.Facts] [hPre_merged_finite : Cert.Pre_merged_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_merged_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)) (v2 : (c : Dev Cert.Kernel3Ideal.nD) → Buf (Elt Ideal) ((c.tc : Thread Cert.Kernel3Ideal.nD Cert.Kernel3Ideal.τ).loc Cert.Kernel3Ideal.main_v5_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_v5_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_v40) = v1 c
          ∧ r.2.mem ((c.tc : Thread Cert.Reference3Ideal.nD Cert.Reference3Ideal.τ).loc Cert.Reference3Ideal.main_v41) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal_pre_projected_finite [hKernel4Ideal : Cert.Kernel4Ideal.Facts] [hReference4Ideal : Cert.Reference4Ideal.Facts] [hPre_projected_finite : Cert.Pre_projected_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_projected_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) →
    ∃ (v0 : (c : Dev Cert.Kernel4Ideal.nD) → Buf (Elt Ideal) ((c.tc : Thread Cert.Kernel4Ideal.nD Cert.Kernel4Ideal.τ).loc Cert.Kernel4Ideal.main_v105_0)) (v1 : (c : Dev Cert.Kernel4Ideal.nD) → Buf (Elt Ideal) ((c.tc : Thread Cert.Kernel4Ideal.nD Cert.Kernel4Ideal.τ).loc Cert.Kernel4Ideal.main_v105_1)) (v2 : (c : Dev Cert.Kernel4Ideal.nD) → Buf (Elt Ideal) ((c.tc : Thread Cert.Kernel4Ideal.nD Cert.Kernel4Ideal.τ).loc Cert.Kernel4Ideal.main_v105_2)) (v3 : (c : Dev Cert.Kernel4Ideal.nD) → Buf (Elt Ideal) ((c.tc : Thread Cert.Kernel4Ideal.nD Cert.Kernel4Ideal.τ).loc Cert.Kernel4Ideal.main_v105_5)) (v4 : (c : Dev Cert.Kernel4Ideal.nD) → Buf (Elt Ideal) ((c.tc : Thread Cert.Kernel4Ideal.nD Cert.Kernel4Ideal.τ).loc Cert.Kernel4Ideal.main_v105_6)) (v5 : (c : Dev Cert.Kernel4Ideal.nD) → Buf (Elt Ideal) ((c.tc : Thread Cert.Kernel4Ideal.nD Cert.Kernel4Ideal.τ).loc Cert.Kernel4Ideal.main_v105_7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v105_0) = v0 c
          ∧ r.2.mem ((c.tc : Thread Cert.Kernel4Ideal.nD Cert.Kernel4Ideal.τ).loc Cert.Kernel4Ideal.main_v105_1) = v1 c
          ∧ r.2.mem ((c.tc : Thread Cert.Kernel4Ideal.nD Cert.Kernel4Ideal.τ).loc Cert.Kernel4Ideal.main_v105_2) = v2 c
          ∧ r.2.mem ((c.tc : Thread Cert.Kernel4Ideal.nD Cert.Kernel4Ideal.τ).loc Cert.Kernel4Ideal.main_v105_5) = v3 c
          ∧ r.2.mem ((c.tc : Thread Cert.Kernel4Ideal.nD Cert.Kernel4Ideal.τ).loc Cert.Kernel4Ideal.main_v105_6) = v4 c
          ∧ r.2.mem ((c.tc : Thread Cert.Kernel4Ideal.nD Cert.Kernel4Ideal.τ).loc Cert.Kernel4Ideal.main_v105_7) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v107) = v0 c
          ∧ r.2.mem ((c.tc : Thread Cert.Reference4Ideal.nD Cert.Reference4Ideal.τ).loc Cert.Reference4Ideal.main_v108) = v1 c
          ∧ r.2.mem ((c.tc : Thread Cert.Reference4Ideal.nD Cert.Reference4Ideal.τ).loc Cert.Reference4Ideal.main_v109) = v2 c
          ∧ r.2.mem ((c.tc : Thread Cert.Reference4Ideal.nD Cert.Reference4Ideal.τ).loc Cert.Reference4Ideal.main_v110) = v3 c
          ∧ r.2.mem ((c.tc : Thread Cert.Reference4Ideal.nD Cert.Reference4Ideal.τ).loc Cert.Reference4Ideal.main_v111) = v4 c
          ∧ r.2.mem ((c.tc : Thread Cert.Reference4Ideal.nD Cert.Reference4Ideal.τ).loc Cert.Reference4Ideal.main_v112) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_experts_named : Cert.Pre_experts_named.Facts) (hPre_merged_finite : Cert.Pre_merged_finite.Facts) (hPre_projected_finite : Cert.Pre_projected_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_experts_named := hPre_experts_named)
    ∧ quiescent_Kernel2Ideal (hKernel2Ideal := hKernel2Ideal) (hPre_experts_named := hPre_experts_named)
    ∧ quiescent_Reference2Ideal (hReference2Ideal := hReference2Ideal)
    ∧ quiescent_Reference2Ideal_pre_experts_named (hReference2Ideal := hReference2Ideal) (hPre_experts_named := hPre_experts_named)
    ∧ quiescent_Kernel3 (hKernel3 := hKernel3)
    ∧ quiescent_Kernel3Ideal (hKernel3Ideal := hKernel3Ideal)
    ∧ quiescent_Kernel3Ideal_pre_merged_finite (hKernel3Ideal := hKernel3Ideal) (hPre_merged_finite := hPre_merged_finite)
    ∧ quiescent_Reference3Ideal (hReference3Ideal := hReference3Ideal)
    ∧ quiescent_Reference3Ideal_pre_merged_finite (hReference3Ideal := hReference3Ideal) (hPre_merged_finite := hPre_merged_finite)
    ∧ quiescent_Kernel4 (hKernel4 := hKernel4)
    ∧ quiescent_Kernel4Ideal (hKernel4Ideal := hKernel4Ideal)
    ∧ quiescent_Kernel4Ideal_pre_projected_finite (hKernel4Ideal := hKernel4Ideal) (hPre_projected_finite := hPre_projected_finite)
    ∧ quiescent_Reference4Ideal (hReference4Ideal := hReference4Ideal)
    ∧ quiescent_Reference4Ideal_pre_projected_finite (hReference4Ideal := hReference4Ideal) (hPre_projected_finite := hPre_projected_finite)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_experts_named := hPre_experts_named)
    ∧ preserves_Kernel3_Kernel3Ideal
    ∧ algebraic_Kernel3Ideal_Reference3Ideal_pre_merged_finite (hKernel3Ideal := hKernel3Ideal) (hReference3Ideal := hReference3Ideal) (hPre_merged_finite := hPre_merged_finite)
    ∧ preserves_Kernel4_Kernel4Ideal
    ∧ algebraic_Kernel4Ideal_Reference4Ideal_pre_projected_finite (hKernel4Ideal := hKernel4Ideal) (hReference4Ideal := hReference4Ideal) (hPre_projected_finite := hPre_projected_finite)
-- ==== Pre_experts_named.lean ====
abbrev S90112x1024 : Shape := ⟨2, ![90112, 1024]⟩
abbrev S352 : Shape := ⟨1, ![352]⟩
abbrev S1 : Shape := ⟨1, ![1]⟩
abbrev S2x64x1024x1024 : Shape := ⟨4, ![2, 64, 1024, 1024]⟩
abbrev S_ : Shape := ⟨0, ![]⟩

class Facts : Prop where
  bcast_S_S352 : S_.BroadcastsInDim S352 (![] : Fin 0 → Fin S352.rank)

variable [Facts]

def fn {F : FTy → Type} [FloatOps F] (main_arg0 : FVec F S90112x1024 .f32) (main_arg1 : IVec S352 32) (main_arg2 : IVec S1 32) (main_arg3 : FVec F S2x64x1024x1024 .f32) (main_arg4 : FVec F S2x64x1024x1024 .f32) (main_arg5 : FVec F S2x64x1024x1024 .f32) : IVec S352 1 :=
  let main_c : IVec S_ 32 := constantI S_ 32 0#32
  let main_v0 : IVec S352 32 := broadcastInDim S352 ![] bcast_S_S352 main_c
  let main_v1 : IVec S352 1 := cmpi .sge main_arg1 main_v0
  let main_c_0 : IVec S_ 32 := constantI S_ 32 64#32
  let main_v2 : IVec S352 32 := broadcastInDim S352 ![] bcast_S_S352 main_c_0
  let main_v3 : IVec S352 1 := cmpi .slt main_arg1 main_v2
  let main_v4 : IVec S352 1 := andi main_v1 main_v3
  main_v4
-- ==== Pre_finite.lean ====
abbrev S16x2048x1024 : Shape := ⟨3, ![16, 2048, 1024]⟩
abbrev S16x2048x512 : Shape := ⟨3, ![16, 2048, 512]⟩
abbrev S16x256x1024 : Shape := ⟨3, ![16, 256, 1024]⟩
abbrev S16x256x512 : Shape := ⟨3, ![16, 256, 512]⟩
abbrev S_ : Shape := ⟨0, ![]⟩

class Facts : Prop where
  bitsLt_bf16_f32 : FTy.bits .bf16 < FTy.bits .f32
  bcast_S_S16x2048x1024 : S_.BroadcastsInDim S16x2048x1024 (![] : Fin 0 → Fin S16x2048x1024.rank)
  bcast_S_S16x256x1024 : S_.BroadcastsInDim S16x256x1024 (![] : Fin 0 → Fin S16x256x1024.rank)

variable [Facts]

def fn {F : FTy → Type} [FloatOps F] (main_arg0 : FVec F S16x2048x1024 .bf16) (main_arg1 : FVec F S16x2048x1024 .bf16) (main_arg2 : FVec F S16x2048x512 .bf16) (main_arg3 : FVec F S16x256x1024 .bf16) (main_arg4 : FVec F S16x256x512 .bf16) : IVec S16x2048x1024 1 × IVec S16x2048x1024 1 × IVec S16x256x1024 1 :=
  let main_v0 : FVec F S16x2048x1024 .f32 := (extf .f32 · bitsLt_bf16_f32) main_arg0
  let main_v1 : FVec F S16x2048x1024 .f32 := Host.absf main_v0
  let main_cst : FVec F S_ .f32 := constant S_ .f32 0x7F800000#32
  let main_v2 : FVec F S16x2048x1024 .f32 := broadcastInDim S16x2048x1024 ![] bcast_S_S16x2048x1024 main_cst
  let main_v3 : IVec S16x2048x1024 1 := cmpf .olt main_v1 main_v2
  let main_v4 : FVec F S16x2048x1024 .f32 := (extf .f32 · bitsLt_bf16_f32) main_arg1
  let main_v5 : FVec F S16x2048x1024 .f32 := Host.absf main_v4
  let main_cst_0 : FVec F S_ .f32 := constant S_ .f32 0x7F800000#32
  let main_v6 : FVec F S16x2048x1024 .f32 := broadcastInDim S16x2048x1024 ![] bcast_S_S16x2048x1024 main_cst_0
  let main_v7 : IVec S16x2048x1024 1 := cmpf .olt main_v5 main_v6
  let main_v8 : FVec F S16x256x1024 .f32 := (extf .f32 · bitsLt_bf16_f32) main_arg3
  let main_v9 : FVec F S16x256x1024 .f32 := Host.absf main_v8
  let main_cst_1 : FVec F S_ .f32 := constant S_ .f32 0x7F800000#32
  let main_v10 : FVec F S16x256x1024 .f32 := broadcastInDim S16x256x1024 ![] bcast_S_S16x256x1024 main_cst_1
  let main_v11 : IVec S16x256x1024 1 := cmpf .olt main_v9 main_v10
  (main_v3, main_v7, main_v11)
-- ==== Pre_merged_finite.lean ====
abbrev S16x2048x1024 : Shape := ⟨3, ![16, 2048, 1024]⟩
abbrev S16x2048x512 : Shape := ⟨3, ![16, 2048, 512]⟩
abbrev S512x1024 : Shape := ⟨2, ![512, 1024]⟩
abbrev S1024x1024 : Shape := ⟨2, ![1024, 1024]⟩
abbrev S24x1x6144 : Shape := ⟨3, ![24, 1, 6144]⟩
abbrev S2x1x1024 : Shape := ⟨3, ![2, 1, 1024]⟩
abbrev S1024x64 : Shape := ⟨2, ![1024, 64]⟩
abbrev S_ : Shape := ⟨0, ![]⟩

class Facts : Prop where
  bcast_S_S16x2048x1024 : S_.BroadcastsInDim S16x2048x1024 (![] : Fin 0 → Fin S16x2048x1024.rank)
  bitsLt_bf16_f32 : FTy.bits .bf16 < FTy.bits .f32
  bcast_S_S16x2048x512 : S_.BroadcastsInDim S16x2048x512 (![] : Fin 0 → Fin S16x2048x512.rank)
  bcast_S_S512x1024 : S_.BroadcastsInDim S512x1024 (![] : Fin 0 → Fin S512x1024.rank)
  bcast_S_S1024x1024 : S_.BroadcastsInDim S1024x1024 (![] : Fin 0 → Fin S1024x1024.rank)
  bcast_S_S24x1x6144 : S_.BroadcastsInDim S24x1x6144 (![] : Fin 0 → Fin S24x1x6144.rank)
  bcast_S_S2x1x1024 : S_.BroadcastsInDim S2x1x1024 (![] : Fin 0 → Fin S2x1x1024.rank)
  bcast_S_S1024x64 : S_.BroadcastsInDim S1024x64 (![] : Fin 0 → Fin S1024x64.rank)

variable [Facts]

def fn_part2 {F : FTy → Type} [FloatOps F] (main_v2 : IVec S16x2048x1024 1) (main_v6 : IVec S16x2048x512 1) (main_v10 : IVec S16x2048x512 1) (main_v14 : IVec S16x2048x1024 1) (main_v18 : IVec S16x2048x1024 1) (main_v22 : IVec S512x1024 1) (main_v26 : IVec S512x1024 1) (main_v30 : IVec S1024x1024 1) (main_v33 : IVec S24x1x6144 1) (main_v36 : IVec S2x1x1024 1) (main_v37 : FVec F S1024x64 .f32) : IVec S16x2048x1024 1 × IVec S16x2048x512 1 × IVec S16x2048x512 1 × IVec S16x2048x1024 1 × IVec S16x2048x1024 1 × IVec S512x1024 1 × IVec S512x1024 1 × IVec S1024x1024 1 × IVec S24x1x6144 1 × IVec S2x1x1024 1 × IVec S1024x64 1 :=
  let main_cst_9 : FVec F S_ .f32 := constant S_ .f32 0x7F800000#32
  let main_v38 : FVec F S1024x64 .f32 := broadcastInDim S1024x64 ![] bcast_S_S1024x64 main_cst_9
  let main_v39 : IVec S1024x64 1 := cmpf .olt main_v37 main_v38
  (main_v2, main_v6, main_v10, main_v14, main_v18, main_v22, main_v26, main_v30, main_v33, main_v36, main_v39)

def fn_part1 {F : FTy → Type} [FloatOps F] (main_arg5 : FVec F S512x1024 .bf16) (main_arg6 : FVec F S512x1024 .bf16) (main_arg7 : FVec F S1024x1024 .bf16) (main_arg8 : FVec F S24x1x6144 .f32) (main_arg9 : FVec F S2x1x1024 .f32) (main_arg10 : FVec F S1024x64 .f32) (main_v2 : IVec S16x2048x1024 1) (main_v6 : IVec S16x2048x512 1) (main_v10 : IVec S16x2048x512 1) (main_v14 : IVec S16x2048x1024 1) (main_v18 : IVec S16x2048x1024 1) : IVec S16x2048x1024 1 × IVec S16x2048x512 1 × IVec S16x2048x512 1 × IVec S16x2048x1024 1 × IVec S16x2048x1024 1 × IVec S512x1024 1 × IVec S512x1024 1 × IVec S1024x1024 1 × IVec S24x1x6144 1 × IVec S2x1x1024 1 × IVec S1024x64 1 :=
  let main_v19 : FVec F S512x1024 .f32 := (extf .f32 · bitsLt_bf16_f32) main_arg5
  let main_v20 : FVec F S512x1024 .f32 := Host.absf main_v19
  let main_cst_4 : FVec F S_ .f32 := constant S_ .f32 0x7F800000#32
  let main_v21 : FVec F S512x1024 .f32 := broadcastInDim S512x1024 ![] bcast_S_S512x1024 main_cst_4
  let main_v22 : IVec S512x1024 1 := cmpf .olt main_v20 main_v21
  let main_v23 : FVec F S512x1024 .f32 := (extf .f32 · bitsLt_bf16_f32) main_arg6
  let main_v24 : FVec F S512x1024 .f32 := Host.absf main_v23
  let main_cst_5 : FVec F S_ .f32 := constant S_ .f32 0x7F800000#32
  let main_v25 : FVec F S512x1024 .f32 := broadcastInDim S512x1024 ![] bcast_S_S512x1024 main_cst_5
  let main_v26 : IVec S512x1024 1 := cmpf .olt main_v24 main_v25
  let main_v27 : FVec F S1024x1024 .f32 := (extf .f32 · bitsLt_bf16_f32) main_arg7
  let main_v28 : FVec F S1024x1024 .f32 := Host.absf main_v27
  let main_cst_6 : FVec F S_ .f32 := constant S_ .f32 0x7F800000#32
  let main_v29 : FVec F S1024x1024 .f32 := broadcastInDim S1024x1024 ![] bcast_S_S1024x1024 main_cst_6
  let main_v30 : IVec S1024x1024 1 := cmpf .olt main_v28 main_v29
  let main_v31 : FVec F S24x1x6144 .f32 := Host.absf main_arg8
  let main_cst_7 : FVec F S_ .f32 := constant S_ .f32 0x7F800000#32
  let main_v32 : FVec F S24x1x6144 .f32 := broadcastInDim S24x1x6144 ![] bcast_S_S24x1x6144 main_cst_7
  let main_v33 : IVec S24x1x6144 1 := cmpf .olt main_v31 main_v32
  let main_v34 : FVec F S2x1x1024 .f32 := Host.absf main_arg9
  let main_cst_8 : FVec F S_ .f32 := constant S_ .f32 0x7F800000#32
  let main_v35 : FVec F S2x1x1024 .f32 := broadcastInDim S2x1x1024 ![] bcast_S_S2x1x1024 main_cst_8
  let main_v36 : IVec S2x1x1024 1 := cmpf .olt main_v34 main_v35
  let main_v37 : FVec F S1024x64 .f32 := Host.absf main_arg10
  fn_part2 (F := F) main_v2 main_v6 main_v10 main_v14 main_v18 main_v22 main_v26 main_v30 main_v33 main_v36 main_v37

def fn {F : FTy → Type} [FloatOps F] (main_arg0 : FVec F S16x2048x1024 .f32) (main_arg1 : FVec F S16x2048x512 .bf16) (main_arg2 : FVec F S16x2048x512 .bf16) (main_arg3 : FVec F S16x2048x1024 .bf16) (main_arg4 : FVec F S16x2048x1024 .bf16) (main_arg5 : FVec F S512x1024 .bf16) (main_arg6 : FVec F S512x1024 .bf16) (main_arg7 : FVec F S1024x1024 .bf16) (main_arg8 : FVec F S24x1x6144 .f32) (main_arg9 : FVec F S2x1x1024 .f32) (main_arg10 : FVec F S1024x64 .f32) : IVec S16x2048x1024 1 × IVec S16x2048x512 1 × IVec S16x2048x512 1 × IVec S16x2048x1024 1 × IVec S16x2048x1024 1 × IVec S512x1024 1 × IVec S512x1024 1 × IVec S1024x1024 1 × IVec S24x1x6144 1 × IVec S2x1x1024 1 × IVec S1024x64 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_v3 : FVec F S16x2048x512 .f32 := (extf .f32 · bitsLt_bf16_f32) main_arg1
  let main_v4 : FVec F S16x2048x512 .f32 := Host.absf main_v3
  let main_cst_0 : FVec F S_ .f32 := constant S_ .f32 0x7F800000#32
  let main_v5 : FVec F S16x2048x512 .f32 := broadcastInDim S16x2048x512 ![] bcast_S_S16x2048x512 main_cst_0
  let main_v6 : IVec S16x2048x512 1 := cmpf .olt main_v4 main_v5
  let main_v7 : FVec F S16x2048x512 .f32 := (extf .f32 · bitsLt_bf16_f32) main_arg2
  let main_v8 : FVec F S16x2048x512 .f32 := Host.absf main_v7
  let main_cst_1 : FVec F S_ .f32 := constant S_ .f32 0x7F800000#32
  let main_v9 : FVec F S16x2048x512 .f32 := broadcastInDim S16x2048x512 ![] bcast_S_S16x2048x512 main_cst_1
  let main_v10 : IVec S16x2048x512 1 := cmpf .olt main_v8 main_v9
  let main_v11 : FVec F S16x2048x1024 .f32 := (extf .f32 · bitsLt_bf16_f32) main_arg3
  let main_v12 : FVec F S16x2048x1024 .f32 := Host.absf main_v11
  let main_cst_2 : FVec F S_ .f32 := constant S_ .f32 0x7F800000#32
  let main_v13 : FVec F S16x2048x1024 .f32 := broadcastInDim S16x2048x1024 ![] bcast_S_S16x2048x1024 main_cst_2
  let main_v14 : IVec S16x2048x1024 1 := cmpf .olt main_v12 main_v13
  let main_v15 : FVec F S16x2048x1024 .f32 := (extf .f32 · bitsLt_bf16_f32) main_arg4
  let main_v16 : FVec F S16x2048x1024 .f32 := Host.absf main_v15
  let main_cst_3 : FVec F S_ .f32 := constant S_ .f32 0x7F800000#32
  let main_v17 : FVec F S16x2048x1024 .f32 := broadcastInDim S16x2048x1024 ![] bcast_S_S16x2048x1024 main_cst_3
  let main_v18 : IVec S16x2048x1024 1 := cmpf .olt main_v16 main_v17
  fn_part1 (F := F) main_arg5 main_arg6 main_arg7 main_arg8 main_arg9 main_arg10 main_v2 main_v6 main_v10 main_v14 main_v18
-- ==== Pre_projected_finite.lean ====
abbrev S16x2048x1024 : Shape := ⟨3, ![16, 2048, 1024]⟩
abbrev S24x1x6144 : Shape := ⟨3, ![24, 1, 6144]⟩
abbrev S2x1x1024 : Shape := ⟨3, ![2, 1, 1024]⟩
abbrev S2x1024x4256 : Shape := ⟨3, ![2, 1024, 4256]⟩
abbrev S2x64 : Shape := ⟨2, ![2, 64]⟩
abbrev S2x384 : Shape := ⟨2, ![2, 384]⟩
abbrev S2x384x768 : Shape := ⟨3, ![2, 384, 768]⟩
abbrev S2x256 : Shape := ⟨2, ![2, 256]⟩
abbrev S2x256x1024 : Shape := ⟨3, ![2, 256, 1024]⟩
abbrev S2x96 : Shape := ⟨2, ![2, 96]⟩
abbrev S_ : Shape := ⟨0, ![]⟩

class Facts : Prop where
  bcast_S_S16x2048x1024 : S_.BroadcastsInDim S16x2048x1024 (![] : Fin 0 → Fin S16x2048x1024.rank)
  bcast_S_S24x1x6144 : S_.BroadcastsInDim S24x1x6144 (![] : Fin 0 → Fin S24x1x6144.rank)
  bcast_S_S2x1x1024 : S_.BroadcastsInDim S2x1x1024 (![] : Fin 0 → Fin S2x1x1024.rank)
  bcast_S_S2x1024x4256 : S_.BroadcastsInDim S2x1024x4256 (![] : Fin 0 → Fin S2x1024x4256.rank)

variable [Facts]

def fn {F : FTy → Type} [FloatOps F] (main_arg0 : FVec F S16x2048x1024 .f32) (main_arg1 : FVec F S24x1x6144 .f32) (main_arg2 : FVec F S2x1x1024 .f32) (main_arg3 : FVec F S2x1024x4256 .f32) (main_arg4 : FVec F S2x64 .f32) (main_arg5 : FVec F S2x64 .f32) (main_arg6 : FVec F S2x384 .f32) (main_arg7 : FVec F S2x384x768 .f32) (main_arg8 : FVec F S2x256 .f32) (main_arg9 : FVec F S2x256x1024 .f32) (main_arg10 : FVec F S2x96 .f32) (main_arg11 : FVec F S2x96 .f32) : IVec S16x2048x1024 1 × IVec S24x1x6144 1 × IVec S2x1x1024 1 × IVec S2x1024x4256 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_v3 : FVec F S24x1x6144 .f32 := Host.absf main_arg1
  let main_cst_0 : FVec F S_ .f32 := constant S_ .f32 0x7F800000#32
  let main_v4 : FVec F S24x1x6144 .f32 := broadcastInDim S24x1x6144 ![] bcast_S_S24x1x6144 main_cst_0
  let main_v5 : IVec S24x1x6144 1 := cmpf .olt main_v3 main_v4
  let main_v6 : FVec F S2x1x1024 .f32 := Host.absf main_arg2
  let main_cst_1 : FVec F S_ .f32 := constant S_ .f32 0x7F800000#32
  let main_v7 : FVec F S2x1x1024 .f32 := broadcastInDim S2x1x1024 ![] bcast_S_S2x1x1024 main_cst_1
  let main_v8 : IVec S2x1x1024 1 := cmpf .olt main_v6 main_v7
  let main_v9 : FVec F S2x1024x4256 .f32 := Host.absf main_arg3
  let main_cst_2 : FVec F S_ .f32 := constant S_ .f32 0x7F800000#32
  let main_v10 : FVec F S2x1024x4256 .f32 := broadcastInDim S2x1024x4256 ![] bcast_S_S2x1024x4256 main_cst_2
  let main_v11 : IVec S2x1024x4256 1 := cmpf .olt main_v9 main_v10
  (main_v2, main_v5, main_v8, main_v11)
-- ==== Kernel.lean ====
abbrev S16x2048x1024 : Shape := ⟨3, ![16, 2048, 1024]⟩
abbrev S16x2048x512 : Shape := ⟨3, ![16, 2048, 512]⟩
abbrev S16x256x1024 : Shape := ⟨3, ![16, 256, 1024]⟩
abbrev S16x256x512 : Shape := ⟨3, ![16, 256, 512]⟩
abbrev S1x256x256 : Shape := ⟨3, ![1, 256, 256]⟩
abbrev S1x2048x256 : Shape := ⟨3, ![1, 2048, 256]⟩
abbrev S1x2048x128 : Shape := ⟨3, ![1, 2048, 128]⟩
abbrev S1x256x128 : Shape := ⟨3, ![1, 256, 128]⟩
abbrev S2048x128 : Shape := ⟨2, ![2048, 128]⟩
abbrev S256x128 : Shape := ⟨2, ![256, 128]⟩
abbrev S256x2048 : Shape := ⟨2, ![256, 2048]⟩
abbrev S256x256 : Shape := ⟨2, ![256, 256]⟩
abbrev S256 : Shape := ⟨1, ![256]⟩
abbrev S256x1 : Shape := ⟨2, ![256, 1]⟩

abbrev nBuf : Space → Nat
  | .hbm => 6
  | .vmem => 12
  | .smem => 0
  | _ => 0

abbrev bufTy : (tb : Table) → Fin (tcTables nBuf tb) → BufTy
  | .hbm, ⟨0, _⟩ => ⟨S16x2048x1024, .bf16⟩
  | .hbm, ⟨1, _⟩ => ⟨S16x2048x1024, .bf16⟩
  | .hbm, ⟨2, _⟩ => ⟨S16x2048x512, .bf16⟩
  | .hbm, ⟨3, _⟩ => ⟨S16x256x1024, .bf16⟩
  | .hbm, ⟨4, _⟩ => ⟨S16x256x512, .bf16⟩
  | .hbm, ⟨5, _⟩ => ⟨S16x2048x512, .bf16⟩
  | .local _ .vmem, ⟨0, _⟩ => ⟨S1x256x256, .bf16⟩
  | .local _ .vmem, ⟨1, _⟩ => ⟨S1x256x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x256x256, .bf16⟩
  | .local _ .vmem, ⟨7, _⟩ => ⟨S1x256x256, .bf16⟩
  | .local _ .vmem, ⟨8, _⟩ => ⟨S1x256x128, .bf16⟩
  | .local _ .vmem, ⟨9, _⟩ => ⟨S1x256x128, .bf16⟩
  | .local _ .vmem, ⟨10, _⟩ => ⟨S1x256x128, .bf16⟩
  | .local _ .vmem, ⟨11, _⟩ => ⟨S1x256x128, .bf16⟩
  | _, _ => ⟨S16x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 4, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S16x2048x1024 : Shape := ⟨3, ![16, 2048, 1024]⟩
abbrev S16x2048x512 : Shape := ⟨3, ![16, 2048, 512]⟩
abbrev S16x256x1024 : Shape := ⟨3, ![16, 256, 1024]⟩
abbrev S16x256x512 : Shape := ⟨3, ![16, 256, 512]⟩
abbrev S16x2048x8x128 : Shape := ⟨4, ![16, 2048, 8, 128]⟩
abbrev S16x2048x8x64 : Shape := ⟨4, ![16, 2048, 8, 64]⟩
abbrev S16x256x8x128 : Shape := ⟨4, ![16, 256, 8, 128]⟩
abbrev S16x256x8x64 : Shape := ⟨4, ![16, 256, 8, 64]⟩
abbrev S16x8x2048x2048 : Shape := ⟨4, ![16, 8, 2048, 2048]⟩
abbrev S16x8x2048x256 : Shape := ⟨4, ![16, 8, 2048, 256]⟩
abbrev S16x8x2048x2304 : Shape := ⟨4, ![16, 8, 2048, 2304]⟩
abbrev S_ : Shape := ⟨0, ![]⟩
abbrev S16x8x2048 : Shape := ⟨3, ![16, 8, 2048]⟩
abbrev S16x8x2048x1 : Shape := ⟨4, ![16, 8, 2048, 1]⟩
abbrev S16x8x64x2048 : Shape := ⟨4, ![16, 8, 64, 2048]⟩

abbrev nBuf : Space → Nat
  | .hbm => 41
  | .vmem => 0
  | .smem => 0
  | _ => 0

abbrev bufTy : (tb : Table) → Fin (tcTables nBuf tb) → BufTy
  | .hbm, ⟨0, _⟩ => ⟨S16x2048x1024, .bf16⟩
  | .hbm, ⟨1, _⟩ => ⟨S16x2048x1024, .bf16⟩
  | .hbm, ⟨2, _⟩ => ⟨S16x2048x512, .bf16⟩
  | .hbm, ⟨3, _⟩ => ⟨S16x256x1024, .bf16⟩
  | .hbm, ⟨4, _⟩ => ⟨S16x256x512, .bf16⟩
  | .hbm, ⟨5, _⟩ => ⟨S16x2048x1024, .f32⟩
  | .hbm, ⟨6, _⟩ => ⟨S16x2048x8x128, .f32⟩
  | .hbm, ⟨7, _⟩ => ⟨S16x2048x1024, .f32⟩
  | .hbm, ⟨8, _⟩ => ⟨S16x2048x8x128, .f32⟩
  | .hbm, ⟨9, _⟩ => ⟨S16x2048x512, .f32⟩
  | .hbm, ⟨10, _⟩ => ⟨S16x2048x8x64, .f32⟩
  | .hbm, ⟨11, _⟩ => ⟨S16x256x1024, .f32⟩
  | .hbm, ⟨12, _⟩ => ⟨S16x256x8x128, .f32⟩
  | .hbm, ⟨13, _⟩ => ⟨S16x256x512, .f32⟩
  | .hbm, ⟨14, _⟩ => ⟨S16x256x8x64, .f32⟩
  | .hbm, ⟨15, _⟩ => ⟨S16x8x2048x2048, .f32⟩
  | .hbm, ⟨16, _⟩ => ⟨S16x8x2048x256, .f32⟩
  | .hbm, ⟨17, _⟩ => ⟨S16x8x2048x2304, .f32⟩
  | .hbm, ⟨18, _⟩ => ⟨S_, .f32⟩
  | .hbm, ⟨19, _⟩ => ⟨S16x8x2048, .f32⟩
  | .hbm, ⟨20, _⟩ => ⟨S_, .f32⟩
  | .hbm, ⟨21, _⟩ => ⟨S16x8x2048, .f32⟩
  | .hbm, ⟨22, _⟩ => ⟨S16x8x2048, .f32⟩
  | .hbm, ⟨23, _⟩ => ⟨S16x8x2048x1, .f32⟩
  | .hbm, ⟨24, _⟩ => ⟨S16x8x2048x2304, .f32⟩
  | .hbm, ⟨25, _⟩ => ⟨S16x8x2048x2304, .f32⟩
  | .hbm, ⟨26, _⟩ => ⟨S16x8x2048x2304, .f32⟩
  | .hbm, ⟨27, _⟩ => ⟨S_, .f32⟩
  | .hbm, ⟨28, _⟩ => ⟨S16x8x2048, .f32⟩
  | .hbm, ⟨29, _⟩ => ⟨S16x8x2048x1, .f32⟩
  | .hbm, ⟨30, _⟩ => ⟨S16x8x2048x2304, .f32⟩
  | .hbm, ⟨31, _⟩ => ⟨S16x8x2048x2304, .f32⟩
  | .hbm, ⟨32, _⟩ => ⟨S16x8x2048x2048, .f32⟩
  | .hbm, ⟨33, _⟩ => ⟨S16x8x64x2048, .f32⟩
  | .hbm, ⟨34, _⟩ => ⟨S16x2048x8x64, .f32⟩
  | .hbm, ⟨35, _⟩ => ⟨S16x8x2048x256, .f32⟩
  | .hbm, ⟨36, _⟩ => ⟨S16x8x64x2048, .f32⟩
  | .hbm, ⟨37, _⟩ => ⟨S16x2048x8x64, .f32⟩
  | .hbm, ⟨38, _⟩ => ⟨S16x2048x8x64, .f32⟩
  | .hbm, ⟨39, _⟩ => ⟨S16x2048x512, .f32⟩
  | .hbm, ⟨40, _⟩ => ⟨S16x2048x512, .bf16⟩
  | _, _ => ⟨S16x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩

abbrev nD : Nat := 1
abbrev τ : Topo := Topo.v7x

variable {F : FTy → Type} [FloatOps F]
-- ==== Kernel2.lean ====
abbrev S90112x1024 : Shape := ⟨2, ![90112, 1024]⟩
abbrev S352 : Shape := ⟨1, ![352]⟩
abbrev S1 : Shape := ⟨1, ![1]⟩
abbrev S2x64x1024x1024 : Shape := ⟨4, ![2, 64, 1024, 1024]⟩
abbrev S256x1024 : Shape := ⟨2, ![256, 1024]⟩
abbrev S1x1x1024x1024 : Shape := ⟨4, ![1, 1, 1024, 1024]⟩
abbrev S1024x1024 : Shape := ⟨2, ![1024, 1024]⟩

abbrev nBuf : Space → Nat
  | .hbm => 5
  | .vmem => 13
  | .smem => 2
  | _ => 0

abbrev bufTy : (tb : Table) → Fin (tcTables nBuf tb) → BufTy
  | .hbm, ⟨0, _⟩ => ⟨S90112x1024, .f32⟩
  | .hbm, ⟨1, _⟩ => ⟨S2x64x1024x1024, .f32⟩
  | .hbm, ⟨2, _⟩ => ⟨S2x64x1024x1024, .f32⟩
  | .hbm, ⟨3, _⟩ => ⟨S2x64x1024x1024, .f32⟩
  | .hbm, ⟨4, _⟩ => ⟨S90112x1024, .f32⟩
  | .local _ .vmem, ⟨0, _⟩ => ⟨S256x1024, .f32⟩
  | .local _ .vmem, ⟨1, _⟩ => ⟨S256x1024, .f32⟩
  | .local _ .vmem, ⟨2, _⟩ => ⟨S1x1x1024x1024, .f32⟩
  | .local _ .vmem, ⟨3, _⟩ => ⟨S1x1x1024x1024, .f32⟩
  | .local _ .vmem, ⟨4, _⟩ => ⟨S1x1x1024x1024, .f32⟩
  | .local _ .vmem, ⟨5, _⟩ => ⟨S1x1x1024x1024, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S256x1024, .f32⟩
  | .local _ .vmem, ⟨9, _⟩ => ⟨S256x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .smem, ⟨0, _⟩ => ⟨S352, .i32⟩
  | .local _ .smem, ⟨1, _⟩ => ⟨S1, .i32⟩
  | _, _ => ⟨S90112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![352], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v7 : BitVec 32 := Scalar.subi arg0 c1_i32
  let c0_i32_1 : BitVec 32 := 0#32
  let v8 : BitVec 32 := Scalar.maxsi v7 c0_i32_1
  let v9 : Index := Scalar.indexCast v8
  ![v9.toNat]
def k0_off3 (i : grid0.Coords) : Fin 1 → Nat :=
  let arg0 : BitVec 32 := BitVec.ofNat 32 (i 0).val
  let v12 : Index := Scalar.indexCast arg0
  ![v12.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond3 (i : grid0.Coords) (v0 : BitVec 32) : BitVec 1 :=
  let arg0 : BitVec 32 := BitVec.ofNat 32 (i 0).val
  let v1 : BitVec 1 := Scalar.cmpi .slt arg0 v0
  let v_true : BitVec 1 := 1#1
  let v4 : BitVec 1 := Scalar.xori v1 v_true
  let v5 : BitVec 32 := Scalar.extui v4
  let c0_i32_0 : BitVec 32 := 0#32
  let v6 : BitVec 1 := Scalar.cmpi .ne v5 c0_i32_0
  v6

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S352.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S352) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S352.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S352) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S352.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S352) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S90112x1024 : Shape := ⟨2, ![90112, 1024]⟩
abbrev S352 : Shape := ⟨1, ![352]⟩
abbrev S1 : Shape := ⟨1, ![1]⟩
abbrev S2x64x1024x1024 : Shape := ⟨4, ![2, 64, 1024, 1024]⟩
abbrev S352x256x1024 : Shape := ⟨3, ![352, 256, 1024]⟩
abbrev S1x64x1024x1024 : Shape := ⟨4, ![1, 64, 1024, 1024]⟩
abbrev S64x1024x1024 : Shape := ⟨3, ![64, 1024, 1024]⟩
abbrev S_ : Shape := ⟨0, ![]⟩
abbrev S352x1 : Shape := ⟨2, ![352, 1]⟩
abbrev S352x1024x1024 : Shape := ⟨3, ![352, 1024, 1024]⟩
abbrev S352x1x1 : Shape := ⟨3, ![352, 1, 1]⟩

abbrev nBuf : Space → Nat
  | .hbm => 63
  | .vmem => 0
  | .smem => 0
  | _ => 0

abbrev bufTy : (tb : Table) → Fin (tcTables nBuf tb) → BufTy
  | .hbm, ⟨0, _⟩ => ⟨S90112x1024, .f32⟩
  | .hbm, ⟨1, _⟩ => ⟨S352, .i32⟩
  | .hbm, ⟨2, _⟩ => ⟨S1, .i32⟩
  | .hbm, ⟨3, _⟩ => ⟨S2x64x1024x1024, .f32⟩
  | .hbm, ⟨4, _⟩ => ⟨S2x64x1024x1024, .f32⟩
  | .hbm, ⟨5, _⟩ => ⟨S2x64x1024x1024, .f32⟩
  | .hbm, ⟨6, _⟩ => ⟨S352x256x1024, .f32⟩
  | .hbm, ⟨7, _⟩ => ⟨S1x64x1024x1024, .f32⟩
  | .hbm, ⟨8, _⟩ => ⟨S64x1024x1024, .f32⟩
  | .hbm, ⟨9, _⟩ => ⟨S_, .i32⟩
  | .hbm, ⟨10, _⟩ => ⟨S352, .i32⟩
  | .hbm, ⟨11, _⟩ => ⟨S352, .i1⟩
  | .hbm, ⟨12, _⟩ => ⟨S_, .i32⟩
  | .hbm, ⟨13, _⟩ => ⟨S352, .i32⟩
  | .hbm, ⟨14, _⟩ => ⟨S352, .i32⟩
  | .hbm, ⟨15, _⟩ => ⟨S352, .i32⟩
  | .hbm, ⟨16, _⟩ => ⟨S352x1, .i32⟩
  | .hbm, ⟨17, _⟩ => ⟨S352x1024x1024, .f32⟩
  | .hbm, ⟨18, _⟩ => ⟨S352x256x1024, .f32⟩
  | .hbm, ⟨19, _⟩ => ⟨S1x64x1024x1024, .f32⟩
  | .hbm, ⟨20, _⟩ => ⟨S64x1024x1024, .f32⟩
  | .hbm, ⟨21, _⟩ => ⟨S_, .i32⟩
  | .hbm, ⟨22, _⟩ => ⟨S352, .i32⟩
  | .hbm, ⟨23, _⟩ => ⟨S352, .i1⟩
  | .hbm, ⟨24, _⟩ => ⟨S_, .i32⟩
  | .hbm, ⟨25, _⟩ => ⟨S352, .i32⟩
  | .hbm, ⟨26, _⟩ => ⟨S352, .i32⟩
  | .hbm, ⟨27, _⟩ => ⟨S352, .i32⟩
  | .hbm, ⟨28, _⟩ => ⟨S352x1, .i32⟩
  | .hbm, ⟨29, _⟩ => ⟨S352x1024x1024, .f32⟩
  | .hbm, ⟨30, _⟩ => ⟨S352x256x1024, .f32⟩
  | .hbm, ⟨31, _⟩ => ⟨S352x256x1024, .f32⟩
  | .hbm, ⟨32, _⟩ => ⟨S352x256x1024, .f32⟩
  | .hbm, ⟨33, _⟩ => ⟨S_, .f32⟩
  | .hbm, ⟨34, _⟩ => ⟨S352x256x1024, .f32⟩
  | .hbm, ⟨35, _⟩ => ⟨S352x256x1024, .f32⟩
  | .hbm, ⟨36, _⟩ => ⟨S_, .f32⟩
  | .hbm, ⟨37, _⟩ => ⟨S352x256x1024, .f32⟩
  | .hbm, ⟨38, _⟩ => ⟨S352x256x1024, .f32⟩
  | .hbm, ⟨39, _⟩ => ⟨S352x256x1024, .f32⟩
  | .hbm, ⟨40, _⟩ => ⟨S352x256x1024, .f32⟩
  | .hbm, ⟨41, _⟩ => ⟨S1x64x1024x1024, .f32⟩
  | .hbm, ⟨42, _⟩ => ⟨S64x1024x1024, .f32⟩
  | .hbm, ⟨43, _⟩ => ⟨S_, .i32⟩
  | .hbm, ⟨44, _⟩ => ⟨S352, .i32⟩
  | .hbm, ⟨45, _⟩ => ⟨S352, .i1⟩
  | .hbm, ⟨46, _⟩ => ⟨S_, .i32⟩
  | .hbm, ⟨47, _⟩ => ⟨S352, .i32⟩
  | .hbm, ⟨48, _⟩ => ⟨S352, .i32⟩
  | .hbm, ⟨49, _⟩ => ⟨S352, .i32⟩
  | .hbm, ⟨50, _⟩ => ⟨S352x1, .i32⟩
  | .hbm, ⟨51, _⟩ => ⟨S352x1024x1024, .f32⟩
  | .hbm, ⟨52, _⟩ => ⟨S352x256x1024, .f32⟩
  | .hbm, ⟨53, _⟩ => ⟨S352, .i32⟩
  | .hbm, ⟨54, _⟩ => ⟨S352, .i32⟩
  | .hbm, ⟨55, _⟩ => ⟨S352, .i1⟩
  | .hbm, ⟨56, _⟩ => ⟨S352x1x1, .i1⟩
  | .hbm, ⟨57, _⟩ => ⟨S_, .f32⟩
  | .hbm, ⟨58, _⟩ => ⟨S_, .f32⟩
  | .hbm, ⟨59, _⟩ => ⟨S352x256x1024, .i1⟩
  | .hbm, ⟨60, _⟩ => ⟨S352x256x1024, .f32⟩
  | .hbm, ⟨61, _⟩ => ⟨S352x256x1024, .f32⟩
  | .hbm, ⟨62, _⟩ => ⟨S90112x1024, .f32⟩
  | _, _ => ⟨S90112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_3 : Ref sig .tc := ⟨.hbm, 43, rfl⟩
abbrev main_v25 : Ref sig .tc := ⟨.hbm, 44, rfl⟩
abbrev main_v26 : Ref sig .tc := ⟨.hbm, 45, rfl⟩
abbrev main_c_4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v37 : Ref sig .tc := ⟨.hbm, 61, rfl⟩
abbrev main_v38 : Ref sig .tc := ⟨.hbm, 62, rfl⟩

abbrev nD : Nat := 1
abbrev τ : Topo := Topo.v7x

variable {F : FTy → Type} [FloatOps F]
-- ==== Kernel3.lean ====
abbrev S16x2048x1024 : Shape := ⟨3, ![16, 2048, 1024]⟩
abbrev S16x2048x512 : Shape := ⟨3, ![16, 2048, 512]⟩
abbrev S512x1024 : Shape := ⟨2, ![512, 1024]⟩
abbrev S1024x1024 : Shape := ⟨2, ![1024, 1024]⟩
abbrev S24x1x6144 : Shape := ⟨3, ![24, 1, 6144]⟩
abbrev S2x1x1024 : Shape := ⟨3, ![2, 1, 1024]⟩
abbrev S1024x64 : Shape := ⟨2, ![1024, 64]⟩
abbrev S64x1024 : Shape := ⟨2, ![64, 1024]⟩
abbrev S32768x1024 : Shape := ⟨2, ![32768, 1024]⟩
abbrev S64x32768 : Shape := ⟨2, ![64, 32768]⟩
abbrev S1x256x1024 : Shape := ⟨3, ![1, 256, 1024]⟩
abbrev S1x256x512 : Shape := ⟨3, ![1, 256, 512]⟩
abbrev S1x1x1024 : Shape := ⟨3, ![1, 1, 1024]⟩
abbrev S256x1024 : Shape := ⟨2, ![256, 1024]⟩
abbrev S64x256 : Shape := ⟨2, ![64, 256]⟩
abbrev S256x512 : Shape := ⟨2, ![256, 512]⟩
abbrev S1x1024 : Shape := ⟨2, ![1, 1024]⟩
abbrev S256 : Shape := ⟨1, ![256]⟩
abbrev S256x1 : Shape := ⟨2, ![256, 1]⟩

abbrev nBuf : Space → Nat
  | .hbm => 19
  | .vmem => 28
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .bf16⟩
  | .hbm, ⟨2, _⟩ => ⟨S16x2048x512, .bf16⟩
  | .hbm, ⟨3, _⟩ => ⟨S16x2048x1024, .bf16⟩
  | .hbm, ⟨4, _⟩ => ⟨S16x2048x1024, .bf16⟩
  | .hbm, ⟨5, _⟩ => ⟨S512x1024, .bf16⟩
  | .hbm, ⟨6, _⟩ => ⟨S512x1024, .bf16⟩
  | .hbm, ⟨7, _⟩ => ⟨S1024x1024, .bf16⟩
  | .hbm, ⟨8, _⟩ => ⟨S24x1x6144, .f32⟩
  | .hbm, ⟨9, _⟩ => ⟨S2x1x1024, .f32⟩
  | .hbm, ⟨10, _⟩ => ⟨S1024x64, .f32⟩
  | .hbm, ⟨11, _⟩ => ⟨S64x1024, .f32⟩
  | .hbm, ⟨12, _⟩ => ⟨S64x1024, .bf16⟩
  | .hbm, ⟨13, _⟩ => ⟨S64x1024, .f32⟩
  | .hbm, ⟨14, _⟩ => ⟨S64x1024, .f32⟩
  | .hbm, ⟨15, _⟩ => ⟨S64x1024, .bf16⟩
  | .hbm, ⟨16, _⟩ => ⟨S16x2048x1024, .f32⟩
  | .hbm, ⟨17, _⟩ => ⟨S32768x1024, .f32⟩
  | .hbm, ⟨18, _⟩ => ⟨S64x32768, .f32⟩
  | .local _ .vmem, ⟨0, _⟩ => ⟨S1x256x1024, .f32⟩
  | .local _ .vmem, ⟨1, _⟩ => ⟨S1x256x1024, .f32⟩
  | .local _ .vmem, ⟨2, _⟩ => ⟨S1x256x512, .bf16⟩
  | .local _ .vmem, ⟨3, _⟩ => ⟨S1x256x512, .bf16⟩
  | .local _ .vmem, ⟨4, _⟩ => ⟨S1x256x512, .bf16⟩
  | .local _ .vmem, ⟨5, _⟩ => ⟨S1x256x512, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1x1024, .f32⟩
  | .local _ .vmem, ⟨20, _⟩ => ⟨S64x1024, .bf16⟩
  | .local _ .vmem, ⟨21, _⟩ => ⟨S64x1024, .bf16⟩
  | .local _ .vmem, ⟨22, _⟩ => ⟨S1x256x1024, .f32⟩
  | .local _ .vmem, ⟨23, _⟩ => ⟨S1x256x1024, .f32⟩
  | .local _ .vmem, ⟨24, _⟩ => ⟨S256x1024, .f32⟩
  | .local _ .vmem, ⟨25, _⟩ => ⟨S256x1024, .f32⟩
  | .local _ .vmem, ⟨26, _⟩ => ⟨S64x256, .f32⟩
  | .local _ .vmem, ⟨27, _⟩ => ⟨S64x256, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev main_v5_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![arg0.toNat, c0_i32.toNat, c3_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![arg0.toNat, c0_i32.toNat, c4_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S64x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S64x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S64x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference3Ideal.lean ====
abbrev S16x2048x1024 : Shape := ⟨3, ![16, 2048, 1024]⟩
abbrev S16x2048x512 : Shape := ⟨3, ![16, 2048, 512]⟩
abbrev S512x1024 : Shape := ⟨2, ![512, 1024]⟩
abbrev S1024x1024 : Shape := ⟨2, ![1024, 1024]⟩
abbrev S24x1x6144 : Shape := ⟨3, ![24, 1, 6144]⟩
abbrev S2x1x1024 : Shape := ⟨3, ![2, 1, 1024]⟩
abbrev S1024x64 : Shape := ⟨2, ![1024, 64]⟩
abbrev S16x1x1024 : Shape := ⟨3, ![16, 1, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1x1024 : Shape := ⟨2, ![1, 1024]⟩
abbrev S32768x1024 : Shape := ⟨2, ![32768, 1024]⟩
abbrev S64x32768 : Shape := ⟨2, ![64, 32768]⟩

abbrev nBuf : Space → Nat
  | .hbm => 57
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .bf16⟩
  | .hbm, ⟨2, _⟩ => ⟨S16x2048x512, .bf16⟩
  | .hbm, ⟨3, _⟩ => ⟨S16x2048x1024, .bf16⟩
  | .hbm, ⟨4, _⟩ => ⟨S16x2048x1024, .bf16⟩
  | .hbm, ⟨5, _⟩ => ⟨S512x1024, .bf16⟩
  | .hbm, ⟨6, _⟩ => ⟨S512x1024, .bf16⟩
  | .hbm, ⟨7, _⟩ => ⟨S1024x1024, .bf16⟩
  | .hbm, ⟨8, _⟩ => ⟨S24x1x6144, .f32⟩
  | .hbm, ⟨9, _⟩ => ⟨S2x1x1024, .f32⟩
  | .hbm, ⟨10, _⟩ => ⟨S1024x64, .f32⟩
  | .hbm, ⟨11, _⟩ => ⟨S16x2048x512, .f32⟩
  | .hbm, ⟨12, _⟩ => ⟨S16x2048x512, .f32⟩
  | .hbm, ⟨13, _⟩ => ⟨S16x2048x1024, .f32⟩
  | .hbm, ⟨14, _⟩ => ⟨S16x2048x1024, .f32⟩
  | .hbm, ⟨15, _⟩ => ⟨S512x1024, .f32⟩
  | .hbm, ⟨16, _⟩ => ⟨S512x1024, .f32⟩
  | .hbm, ⟨17, _⟩ => ⟨S1024x1024, .f32⟩
  | .hbm, ⟨18, _⟩ => ⟨S16x1x1024, .f32⟩
  | .hbm, ⟨19, _⟩ => ⟨S16x1x1024, .f32⟩
  | .hbm, ⟨20, _⟩ => ⟨S16x1x1024, .f32⟩
  | .hbm, ⟨21, _⟩ => ⟨S16x2048x1024, .f32⟩
  | .hbm, ⟨22, _⟩ => ⟨S16x2048x1024, .f32⟩
  | .hbm, ⟨23, _⟩ => ⟨S16x2048x1024, .f32⟩
  | .hbm, ⟨24, _⟩ => ⟨S16x2048x1024, .f32⟩
  | .hbm, ⟨25, _⟩ => ⟨S16x2048x1024, .f32⟩
  | .hbm, ⟨26, _⟩ => ⟨S16x2048x1024, .f32⟩
  | .hbm, ⟨27, _⟩ => ⟨S16x2048x1024, .f32⟩
  | .hbm, ⟨28, _⟩ => ⟨S16x2048x1024, .f32⟩
  | .hbm, ⟨29, _⟩ => ⟨S16x2048x1024, .f32⟩
  | .hbm, ⟨30, _⟩ => ⟨S16x2048x1024, .f32⟩
  | .hbm, ⟨31, _⟩ => ⟨S_, .f32⟩
  | .hbm, ⟨32, _⟩ => ⟨S16x2048, .f32⟩
  | .hbm, ⟨33, _⟩ => ⟨S16x2048x1, .f32⟩
  | .hbm, ⟨34, _⟩ => ⟨S_, .f32⟩
  | .hbm, ⟨35, _⟩ => ⟨S16x2048x1, .f32⟩
  | .hbm, ⟨36, _⟩ => ⟨S16x2048x1, .f32⟩
  | .hbm, ⟨37, _⟩ => ⟨S_, .f32⟩
  | .hbm, ⟨38, _⟩ => ⟨S16x2048x1, .f32⟩
  | .hbm, ⟨39, _⟩ => ⟨S16x2048x1, .f32⟩
  | .hbm, ⟨40, _⟩ => ⟨S16x2048x1, .f32⟩
  | .hbm, ⟨41, _⟩ => ⟨S16x2048x1024, .f32⟩
  | .hbm, ⟨42, _⟩ => ⟨S16x2048x1024, .f32⟩
  | .hbm, ⟨43, _⟩ => ⟨S1x1x1024, .f32⟩
  | .hbm, ⟨44, _⟩ => ⟨S1x1024, .f32⟩
  | .hbm, ⟨45, _⟩ => ⟨S1x1x1024, .f32⟩
  | .hbm, ⟨46, _⟩ => ⟨S16x2048x1024, .f32⟩
  | .hbm, ⟨47, _⟩ => ⟨S16x2048x1024, .f32⟩
  | .hbm, ⟨48, _⟩ => ⟨S_, .f32⟩
  | .hbm, ⟨49, _⟩ => ⟨S16x1x1024, .f32⟩
  | .hbm, ⟨50, _⟩ => ⟨S16x1x1024, .f32⟩
  | .hbm, ⟨51, _⟩ => ⟨S16x2048x1024, .f32⟩
  | .hbm, ⟨52, _⟩ => ⟨S16x2048x1024, .f32⟩
  | .hbm, ⟨53, _⟩ => ⟨S16x2048x1024, .f32⟩
  | .hbm, ⟨54, _⟩ => ⟨S16x2048x1024, .f32⟩
  | .hbm, ⟨55, _⟩ => ⟨S32768x1024, .f32⟩
  | .hbm, ⟨56, _⟩ => ⟨S64x32768, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst : Ref sig .tc := ⟨.hbm, 31, rfl⟩
abbrev main_v20 : Ref sig .tc := ⟨.hbm, 32, rfl⟩
abbrev main_v21 : Ref sig .tc := ⟨.hbm, 33, rfl⟩
abbrev main_cst_0 : Ref sig .tc := ⟨.hbm, 34, rfl⟩
abbrev main_v22 : Ref sig .tc := ⟨.hbm, 35, rfl⟩
abbrev main_v23 : Ref sig .tc := ⟨.hbm, 36, rfl⟩
abbrev main_cst_1 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_2 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]
-- ==== Kernel4.lean ====
abbrev S16x2048x1024 : Shape := ⟨3, ![16, 2048, 1024]⟩
abbrev S24x1x6144 : Shape := ⟨3, ![24, 1, 6144]⟩
abbrev S2x1x1024 : Shape := ⟨3, ![2, 1, 1024]⟩
abbrev S2x1024x4256 : Shape := ⟨3, ![2, 1024, 4256]⟩
abbrev S2x64 : Shape := ⟨2, ![2, 64]⟩
abbrev S2x384 : Shape := ⟨2, ![2, 384]⟩
abbrev S2x384x768 : Shape := ⟨3, ![2, 384, 768]⟩
abbrev S2x256 : Shape := ⟨2, ![2, 256]⟩
abbrev S2x256x1024 : Shape := ⟨3, ![2, 256, 1024]⟩
abbrev S2x96 : Shape := ⟨2, ![2, 96]⟩
abbrev S1x1024x4256 : Shape := ⟨3, ![1, 1024, 4256]⟩
abbrev S1024x4256 : Shape := ⟨2, ![1024, 4256]⟩
abbrev S_ : Shape := ⟨0, ![]⟩
abbrev S1024x128 : Shape := ⟨2, ![1024, 128]⟩
abbrev S1024x32 : Shape := ⟨2, ![1024, 32]⟩
abbrev S1 : Shape := ⟨1, ![1]⟩
abbrev S1024x2176 : Shape := ⟨2, ![1024, 2176]⟩
abbrev S1024x2048 : Shape := ⟨2, ![1024, 2048]⟩
abbrev S1024x4352 : Shape := ⟨2, ![1024, 4352]⟩
abbrev S1x256x1024 : Shape := ⟨3, ![1, 256, 1024]⟩
abbrev S256x1024 : Shape := ⟨2, ![256, 1024]⟩
abbrev S256x8x128 : Shape := ⟨3, ![256, 8, 128]⟩
abbrev S512 : Shape := ⟨1, ![512]⟩
abbrev S512x1 : Shape := ⟨2, ![512, 1]⟩
abbrev S128 : Shape := ⟨1, ![128]⟩
abbrev S1x128 : Shape := ⟨2, ![1, 128]⟩
abbrev S512x128 : Shape := ⟨2, ![512, 128]⟩
abbrev S1x64 : Shape := ⟨2, ![1, 64]⟩
abbrev S64 : Shape := ⟨1, ![64]⟩
abbrev S8x64 : Shape := ⟨2, ![8, 64]⟩
abbrev S1x512 : Shape := ⟨2, ![1, 512]⟩
abbrev S1x384 : Shape := ⟨2, ![1, 384]⟩
abbrev S384 : Shape := ⟨1, ![384]⟩
abbrev S1x256 : Shape := ⟨2, ![1, 256]⟩
abbrev S256 : Shape := ⟨1, ![256]⟩
abbrev S1x384x768 : Shape := ⟨3, ![1, 384, 768]⟩
abbrev S384x768 : Shape := ⟨2, ![384, 768]⟩
abbrev S384x8x96 : Shape := ⟨3, ![384, 8, 96]⟩
abbrev S384x8x128 : Shape := ⟨3, ![384, 8, 128]⟩
abbrev S384x1024 : Shape := ⟨2, ![384, 1024]⟩
abbrev S256x8x64 : Shape := ⟨3, ![256, 8, 64]⟩
abbrev S256x512 : Shape := ⟨2, ![256, 512]⟩
abbrev S1x96 : Shape := ⟨2, ![1, 96]⟩
abbrev S96 : Shape := ⟨1, ![96]⟩
abbrev S128x512 : Shape := ⟨2, ![128, 512]⟩
abbrev S2048 : Shape := ⟨1, ![2048]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S2048x64 : Shape := ⟨2, ![2048, 64]⟩
abbrev S2048x32 : Shape := ⟨2, ![2048, 32]⟩
abbrev S2048x128 : Shape := ⟨2, ![2048, 128]⟩
abbrev S16x2048x512 : Shape := ⟨3, ![16, 2048, 512]⟩
abbrev S1x1x1024 : Shape := ⟨3, ![1, 1, 1024]⟩
abbrev S256x128 : Shape := ⟨2, ![256, 128]⟩
abbrev S1x256x512 : Shape := ⟨3, ![1, 256, 512]⟩
abbrev S256x1 : Shape := ⟨2, ![256, 1]⟩
abbrev S1x1024 : Shape := ⟨2, ![1, 1024]⟩
abbrev S1024x512 : Shape := ⟨2, ![1024, 512]⟩
abbrev S1024x384 : Shape := ⟨2, ![1024, 384]⟩
abbrev S256x384 : Shape := ⟨2, ![256, 384]⟩
abbrev S1x256x128 : Shape := ⟨3, ![1, 256, 128]⟩
abbrev S1024x256 : Shape := ⟨2, ![1024, 256]⟩
abbrev S256x256 : Shape := ⟨2, ![256, 256]⟩
abbrev S1024x1024 : Shape := ⟨2, ![1024, 1024]⟩

abbrev nBuf : Space → Nat
  | .hbm => 197
  | .vmem => 41
  | .smem => 0
  | _ => 0

abbrev hbmTy0_0 (i : Nat) : BufTy := match i % 128 with
  | 0 => ⟨S16x2048x1024, .f32⟩
  | 1 => ⟨S24x1x6144, .f32⟩
  | 2 => ⟨S2x1x1024, .f32⟩
  | 3 => ⟨S2x1024x4256, .f32⟩
  | 4 => ⟨S2x64, .f32⟩
  | 5 => ⟨S2x64, .f32⟩
  | 6 => ⟨S2x384, .f32⟩
  | 7 => ⟨S2x384x768, .f32⟩
  | 8 => ⟨S2x256, .f32⟩
  | 9 => ⟨S2x256x1024, .f32⟩
  | 10 => ⟨S2x96, .f32⟩
  | 11 => ⟨S2x96, .f32⟩
  | 12 => ⟨S1x1024x4256, .f32⟩
  | 13 => ⟨S1024x4256, .f32⟩
  | 14 => ⟨S_, .f32⟩
  | 15 => ⟨S1024x128, .f32⟩
  | 16 => ⟨S1024x32, .f32⟩
  | 17 => ⟨S_, .i32⟩
  | 18 => ⟨S1, .i32⟩
  | 19 => ⟨S1024x128, .f32⟩
  | 20 => ⟨S1024x2176, .f32⟩
  | 21 => ⟨S1024x2048, .f32⟩
  | 22 => ⟨S1024x4352, .f32⟩
  | 23 => ⟨S1024x4352, .bf16⟩
  | 24 => ⟨S1x256x1024, .f32⟩
  | 25 => ⟨S256x1024, .f32⟩
  | 26 => ⟨S256x8x128, .f32⟩
  | 27 => ⟨S512, .i32⟩
  | 28 => ⟨S512x1, .i32⟩
  | 29 => ⟨S_, .i32⟩
  | 30 => ⟨S_, .i32⟩
  | 31 => ⟨S512x1, .i32⟩
  | 32 => ⟨S512x1, .i32⟩
  | 33 => ⟨S512x1, .i32⟩
  | 34 => ⟨S_, .i32⟩
  | 35 => ⟨S512x1, .i32⟩
  | 36 => ⟨S512x1, .i1⟩
  | 37 => ⟨S512x1, .i32⟩
  | 38 => ⟨S512x1, .i32⟩
  | 39 => ⟨S_, .i32⟩
  | 40 => ⟨S512x1, .i32⟩
  | 41 => ⟨S512x1, .i1⟩
  | 42 => ⟨S512x1, .i1⟩
  | 43 => ⟨S_, .i32⟩
  | 44 => ⟨S512x1, .i32⟩
  | 45 => ⟨S512x1, .i32⟩
  | 46 => ⟨S512x1, .i32⟩
  | 47 => ⟨S128, .i32⟩
  | 48 => ⟨S1x128, .i32⟩
  | 49 => ⟨S512x128, .i32⟩
  | 50 => ⟨S512x128, .i32⟩
  | 51 => ⟨S512x128, .i1⟩
  | 52 => ⟨S512x128, .bf16⟩
  | 53 => ⟨S1x64, .f32⟩
  | 54 => ⟨S64, .f32⟩
  | 55 => ⟨S1x64, .f32⟩
  | 56 => ⟨S8x64, .f32⟩
  | 57 => ⟨S512, .f32⟩
  | 58 => ⟨S1x512, .f32⟩
  | 59 => ⟨S1x64, .f32⟩
  | 60 => ⟨S64, .f32⟩
  | 61 => ⟨S1x64, .f32⟩
  | 62 => ⟨S8x64, .f32⟩
  | 63 => ⟨S512, .f32⟩
  | 64 => ⟨S1x512, .f32⟩
  | 65 => ⟨S1x384, .f32⟩
  | 66 => ⟨S384, .f32⟩
  | 67 => ⟨S1x384, .f32⟩
  | 68 => ⟨S1x256, .f32⟩
  | 69 => ⟨S256, .f32⟩
  | 70 => ⟨S1x256, .f32⟩
  | 71 => ⟨S1x384x768, .f32⟩
  | 72 => ⟨S384x768, .f32⟩
  | 73 => ⟨S384x8x96, .f32⟩
  | 74 => ⟨S_, .i32⟩
  | 75 => ⟨S_, .f32⟩
  | 76 => ⟨S384x8x128, .f32⟩
  | 77 => ⟨S384x1024, .f32⟩
  | 78 => ⟨S384x1024, .bf16⟩
  | 79 => ⟨S256x8x64, .f32⟩
  | 80 => ⟨S256x512, .f32⟩
  | 81 => ⟨S256x8x64, .f32⟩
  | 82 => ⟨S_, .i32⟩
  | 83 => ⟨S_, .f32⟩
  | 84 => ⟨S256x8x128, .f32⟩
  | 85 => ⟨S256x1024, .f32⟩
  | 86 => ⟨S256x1024, .bf16⟩
  | 87 => ⟨S256x8x64, .f32⟩
  | 88 => ⟨S256x512, .f32⟩
  | 89 => ⟨S256x512, .bf16⟩
  | 90 => ⟨S1x96, .f32⟩
  | 91 => ⟨S96, .f32⟩
  | 92 => ⟨S_, .i32⟩
  | 93 => ⟨S_, .f32⟩
  | 94 => ⟨S128, .f32⟩
  | 95 => ⟨S1x128, .f32⟩
  | 96 => ⟨S1x96, .f32⟩
  | 97 => ⟨S96, .f32⟩
  | 98 => ⟨S_, .i32⟩
  | 99 => ⟨S_, .f32⟩
  | 100 => ⟨S128, .f32⟩
  | 101 => ⟨S1x128, .f32⟩
  | 102 => ⟨S128x512, .bf16⟩
  | 103 => ⟨S2048, .i32⟩
  | 104 => ⟨S8, .f32⟩
  | 105 => ⟨S8, .f32⟩
  | 106 => ⟨S_, .f32⟩
  | 107 => ⟨S8, .f32⟩
  | 108 => ⟨S8, .f32⟩
  | 109 => ⟨S_, .f32⟩
  | 110 => ⟨S8, .f32⟩
  | 111 => ⟨S8, .f32⟩
  | 112 => ⟨S_, .i32⟩
  | 113 => ⟨S_, .i32⟩
  | 114 => ⟨S2048, .i32⟩
  | 115 => ⟨S2048, .i32⟩
  | 116 => ⟨S2048, .i32⟩
  | 117 => ⟨S_, .i32⟩
  | 118 => ⟨S2048, .i32⟩
  | 119 => ⟨S2048, .i1⟩
  | 120 => ⟨S2048, .i32⟩
  | 121 => ⟨S2048, .i32⟩
  | 122 => ⟨S_, .i32⟩
  | 123 => ⟨S2048, .i32⟩
  | 124 => ⟨S2048, .i1⟩
  | 125 => ⟨S2048, .i1⟩
  | 126 => ⟨S_, .i32⟩
  | 127 => ⟨S2048, .i32⟩
  | _ => ⟨S16x2048x1024, .f32⟩

abbrev hbmTy0_1 (i : Nat) : BufTy := match i % 128 with
  | 0 => ⟨S2048, .i32⟩
  | 1 => ⟨S2048, .i32⟩
  | 2 => ⟨S2048, .f32⟩
  | 3 => ⟨S2048x1, .f32⟩
  | 4 => ⟨S1x8, .f32⟩
  | 5 => ⟨S2048x8, .f32⟩
  | 6 => ⟨S2048x8, .f32⟩
  | 7 => ⟨S2048x8, .f32⟩
  | 8 => ⟨S_, .i32⟩
  | 9 => ⟨S_, .i32⟩
  | 10 => ⟨S_, .i32⟩
  | 11 => ⟨S_, .i1⟩
  | 12 => ⟨S_, .i32⟩
  | 13 => ⟨S_, .i32⟩
  | 14 => ⟨S2048, .i32⟩
  | 15 => ⟨S2048, .i32⟩
  | 16 => ⟨S_, .i32⟩
  | 17 => ⟨S2048, .i32⟩
  | 18 => ⟨S2048, .i1⟩
  | 19 => ⟨S_, .i32⟩
  | 20 => ⟨S2048, .i32⟩
  | 21 => ⟨S2048, .i1⟩
  | 22 => ⟨S_, .i32⟩
  | 23 => ⟨S_, .i1⟩
  | 24 => ⟨S2048, .i1⟩
  | 25 => ⟨S2048, .i1⟩
  | 26 => ⟨S2048, .i1⟩
  | 27 => ⟨S2048, .i32⟩
  | 28 => ⟨S2048, .i32⟩
  | 29 => ⟨S2048, .i32⟩
  | 30 => ⟨S2048, .f32⟩
  | 31 => ⟨S2048x1, .f32⟩
  | 32 => ⟨S1x8, .f32⟩
  | 33 => ⟨S2048x8, .f32⟩
  | 34 => ⟨S2048x8, .f32⟩
  | 35 => ⟨S2048x8, .f32⟩
  | 36 => ⟨S_, .f32⟩
  | 37 => ⟨S2048x8, .f32⟩
  | 38 => ⟨S_, .f32⟩
  | 39 => ⟨S2048x64, .f32⟩
  | 40 => ⟨S_, .f32⟩
  | 41 => ⟨S2048x32, .f32⟩
  | 42 => ⟨S_, .f32⟩
  | 43 => ⟨S2048x64, .f32⟩
  | 44 => ⟨S2048x64, .f32⟩
  | 45 => ⟨S2048x8, .f32⟩
  | 46 => ⟨S2048x8, .f32⟩
  | 47 => ⟨S2048x8, .f32⟩
  | 48 => ⟨S2048x8, .f32⟩
  | 49 => ⟨S_, .f32⟩
  | 50 => ⟨S2048x32, .f32⟩
  | 51 => ⟨S2048x32, .f32⟩
  | 52 => ⟨S2048x128, .f32⟩
  | 53 => ⟨S2048x8, .f32⟩
  | 54 => ⟨S2048x8, .f32⟩
  | 55 => ⟨S2048x8, .f32⟩
  | 56 => ⟨S2048x8, .f32⟩
  | 57 => ⟨S2048x128, .f32⟩
  | 58 => ⟨S2048x8, .f32⟩
  | 59 => ⟨S2048x8, .f32⟩
  | 60 => ⟨S2048x128, .f32⟩
  | 61 => ⟨S16x2048x512, .bf16⟩
  | 62 => ⟨S16x2048x512, .bf16⟩
  | 63 => ⟨S16x2048x512, .bf16⟩
  | 64 => ⟨S16x2048x1024, .bf16⟩
  | 65 => ⟨S16x2048x1024, .bf16⟩
  | 66 => ⟨S16x2048x512, .bf16⟩
  | 67 => ⟨S16x2048x1024, .bf16⟩
  | 68 => ⟨S16x2048x1024, .bf16⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x4352, .bf16⟩
  | .local _ .vmem, ⟨8, _⟩ => ⟨S1x512, .f32⟩
  | .local _ .vmem, ⟨9, _⟩ => ⟨S1x512, .f32⟩
  | .local _ .vmem, ⟨10, _⟩ => ⟨S1x384, .f32⟩
  | .local _ .vmem, ⟨11, _⟩ => ⟨S1x256, .f32⟩
  | .local _ .vmem, ⟨12, _⟩ => ⟨S384x1024, .bf16⟩
  | .local _ .vmem, ⟨13, _⟩ => ⟨S256x1024, .bf16⟩
  | .local _ .vmem, ⟨14, _⟩ => ⟨S256x512, .bf16⟩
  | .local _ .vmem, ⟨15, _⟩ => ⟨S1x128, .f32⟩
  | .local _ .vmem, ⟨16, _⟩ => ⟨S1x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S256x128, .f32⟩
  | .local _ .vmem, ⟨21, _⟩ => ⟨S256x128, .f32⟩
  | .local _ .vmem, ⟨22, _⟩ => ⟨S256x128, .f32⟩
  | .local _ .vmem, ⟨23, _⟩ => ⟨S512x128, .bf16⟩
  | .local _ .vmem, ⟨24, _⟩ => ⟨S128x512, .bf16⟩
  | .local _ .vmem, ⟨25, _⟩ => ⟨S1x256x512, .bf16⟩
  | .local _ .vmem, ⟨26, _⟩ => ⟨S1x256x512, .bf16⟩
  | .local _ .vmem, ⟨27, _⟩ => ⟨S1x256x512, .bf16⟩
  | .local _ .vmem, ⟨28, _⟩ => ⟨S1x256x512, .bf16⟩
  | .local _ .vmem, ⟨29, _⟩ => ⟨S1x256x512, .bf16⟩
  | .local _ .vmem, ⟨30, _⟩ => ⟨S1x256x512, .bf16⟩
  | .local _ .vmem, ⟨31, _⟩ => ⟨S1x256x1024, .bf16⟩
  | .local _ .vmem, ⟨32, _⟩ => ⟨S1x256x1024, .bf16⟩
  | .local _ .vmem, ⟨33, _⟩ => ⟨S1x256x1024, .bf16⟩
  | .local _ .vmem, ⟨34, _⟩ => ⟨S1x256x1024, .bf16⟩
  | .local _ .vmem, ⟨35, _⟩ => ⟨S1x256x512, .bf16⟩
  | .local _ .vmem, ⟨36, _⟩ => ⟨S1x256x512, .bf16⟩
  | .local _ .vmem, ⟨37, _⟩ => ⟨S1x256x1024, .bf16⟩
  | .local _ .vmem, ⟨38, _⟩ => ⟨S1x256x1024, .bf16⟩
  | .local _ .vmem, ⟨39, _⟩ => ⟨S1x256x1024, .bf16⟩
  | .local _ .vmem, ⟨40, _⟩ => ⟨S1x256x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_0 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_c : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_c_0 : Ref sig .tc := ⟨.hbm, 43, rfl⟩
abbrev main_call0_v12 : Ref sig .tc := ⟨.hbm, 44, rfl⟩
abbrev main_call0_v13 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_c_1 : Ref sig .tc := ⟨.hbm, 74, rfl⟩
abbrev main_call1_v0 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_c_2 : Ref sig .tc := ⟨.hbm, 82, rfl⟩
abbrev main_call2_v0 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_c_3 : Ref sig .tc := ⟨.hbm, 92, rfl⟩
abbrev main_call3_v0 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_c_4 : Ref sig .tc := ⟨.hbm, 98, rfl⟩
abbrev main_call4_v0 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_cst_5 : Ref sig .tc := ⟨.hbm, 106, rfl⟩
abbrev main_v67 : Ref sig .tc := ⟨.hbm, 107, rfl⟩
abbrev main_v68 : Ref sig .tc := ⟨.hbm, 108, rfl⟩
abbrev main_cst_6 : Ref sig .tc := ⟨.hbm, 109, rfl⟩
abbrev main_v69 : Ref sig .tc := ⟨.hbm, 110, rfl⟩
abbrev main_v70 : Ref sig .tc := ⟨.hbm, 111, rfl⟩
abbrev main_c_7 : Ref sig .tc := ⟨.hbm, 112, rfl⟩
abbrev main_call5_v0 : Ref sig .tc := ⟨.hbm, 113, rfl⟩
abbrev main_call5_v1 : Ref sig .tc := ⟨.hbm, 114, rfl⟩
abbrev main_call5_v2 : Ref sig .tc := ⟨.hbm, 115, rfl⟩
abbrev main_call5_v3 : Ref sig .tc := ⟨.hbm, 116, rfl⟩
abbrev main_call5_v4 : Ref sig .tc := ⟨.hbm, 117, rfl⟩
abbrev main_call5_v5 : Ref sig .tc := ⟨.hbm, 118, rfl⟩
abbrev main_call5_v6 : Ref sig .tc := ⟨.hbm, 119, rfl⟩
abbrev main_call5_v7 : Ref sig .tc := ⟨.hbm, 120, rfl⟩
abbrev main_call5_v8 : Ref sig .tc := ⟨.hbm, 121, rfl⟩
abbrev main_call5_c : Ref sig .tc := ⟨.hbm, 122, rfl⟩
abbrev main_call5_v9 : Ref sig .tc := ⟨.hbm, 123, rfl⟩
abbrev main_call5_v10 : Ref sig .tc := ⟨.hbm, 124, rfl⟩
abbrev main_call5_v11 : Ref sig .tc := ⟨.hbm, 125, rfl⟩
abbrev main_call5_c_0 : Ref sig .tc := ⟨.hbm, 126, rfl⟩
abbrev main_call5_v12 : Ref sig .tc := ⟨.hbm, 127, rfl⟩
abbrev main_call5_v13 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_c_8 : Ref sig .tc := ⟨.hbm, 136, rfl⟩
abbrev main_call6_v0 : Ref sig .tc := ⟨.hbm, 137, rfl⟩
abbrev main_call6_c : Ref sig .tc := ⟨.hbm, 138, rfl⟩
abbrev main_call6_v1 : Ref sig .tc := ⟨.hbm, 139, rfl⟩
abbrev main_call6_c_0 : Ref sig .tc := ⟨.hbm, 140, rfl⟩
abbrev main_call6_v2 : Ref sig .tc := ⟨.hbm, 141, rfl⟩
abbrev main_call6_v3 : Ref sig .tc := ⟨.hbm, 142, rfl⟩
abbrev main_call6_v4 : Ref sig .tc := ⟨.hbm, 143, rfl⟩
abbrev main_call6_c_1 : Ref sig .tc := ⟨.hbm, 144, rfl⟩
abbrev main_call6_v5 : Ref sig .tc := ⟨.hbm, 145, rfl⟩
abbrev main_call6_v6 : Ref sig .tc := ⟨.hbm, 146, rfl⟩
abbrev main_call6_c_2 : Ref sig .tc := ⟨.hbm, 147, rfl⟩
abbrev main_call6_v7 : Ref sig .tc := ⟨.hbm, 148, rfl⟩
abbrev main_call6_v8 : Ref sig .tc := ⟨.hbm, 149, rfl⟩
abbrev main_call6_c_3 : Ref sig .tc := ⟨.hbm, 150, rfl⟩
abbrev main_call6_v9 : Ref sig .tc := ⟨.hbm, 151, rfl⟩
abbrev main_call6_v10 : Ref sig .tc := ⟨.hbm, 152, rfl⟩
abbrev main_call6_v11 : Ref sig .tc := ⟨.hbm, 153, rfl⟩
abbrev main_call6_v12 : Ref sig .tc := ⟨.hbm, 154, rfl⟩
abbrev main_call6_v13 : Ref sig .tc := ⟨.hbm, 155, rfl⟩
abbrev main_call6_v14 : Ref sig .tc := ⟨.hbm, 156, rfl⟩
abbrev main_v78 : Ref sig .tc := ⟨.hbm, 157, rfl⟩
abbrev main_v79 : Ref sig .tc := ⟨.hbm, 158, rfl⟩
abbrev main_v80 : Ref sig .tc := ⟨.hbm, 159, rfl⟩
abbrev main_v81 : Ref sig .tc := ⟨.hbm, 160, rfl⟩
abbrev main_v82 : Ref sig .tc := ⟨.hbm, 161, rfl⟩
abbrev main_v83 : Ref sig .tc := ⟨.hbm, 162, rfl⟩
abbrev main_v84 : Ref sig .tc := ⟨.hbm, 163, rfl⟩
abbrev main_cst_9 : Ref sig .tc := ⟨.hbm, 164, rfl⟩
abbrev main_v85 : Ref sig .tc := ⟨.hbm, 165, rfl⟩
abbrev main_cst_10 : Ref sig .tc := ⟨.hbm, 166, rfl⟩
abbrev main_v86 : Ref sig .tc := ⟨.hbm, 167, rfl⟩
abbrev main_cst_11 : Ref sig .tc := ⟨.hbm, 168, rfl⟩
abbrev main_v87 : Ref sig .tc := ⟨.hbm, 169, rfl⟩
abbrev main_cst_12 : Ref sig .tc := ⟨.hbm, 170, rfl⟩
abbrev main_v88 : Ref sig .tc := ⟨.hbm, 171, rfl⟩
abbrev main_v89 : Ref sig .tc := ⟨.hbm, 172, rfl⟩
abbrev main_v90 : Ref sig .tc := ⟨.hbm, 173, rfl⟩
abbrev main_v91 : Ref sig .tc := ⟨.hbm, 174, rfl⟩
abbrev main_v92 : Ref sig .tc := ⟨.hbm, 175, rfl⟩
abbrev main_v93 : Ref sig .tc := ⟨.hbm, 176, rfl⟩
abbrev main_cst_13 : Ref sig .tc := ⟨.hbm, 177, rfl⟩
abbrev main_v94 : Ref sig .tc := ⟨.hbm, 178, rfl⟩
abbrev main_v95 : Ref sig .tc := ⟨.hbm, 179, rfl⟩
abbrev main_v96 : Ref sig .tc := ⟨.hbm, 180, rfl⟩
abbrev main_v97 : Ref sig .tc := ⟨.hbm, 181, rfl⟩
abbrev main_v98 : Ref sig .tc := ⟨.hbm, 182, rfl⟩
abbrev main_v99 : Ref sig .tc := ⟨.hbm, 183, rfl⟩
abbrev main_v100 : Ref sig .tc := ⟨.hbm, 184, rfl⟩
abbrev main_v101 : Ref sig .tc := ⟨.hbm, 185, rfl⟩
abbrev main_v102 : Ref sig .tc := ⟨.hbm, 186, rfl⟩
abbrev main_v103 : Ref sig .tc := ⟨.hbm, 187, rfl⟩
abbrev main_v104 : Ref sig .tc := ⟨.hbm, 188, rfl⟩
abbrev main_v105_0 : Ref sig .tc := ⟨.hbm, 189, rfl⟩
abbrev main_v105_1 : Ref sig .tc := ⟨.hbm, 190, rfl⟩
abbrev main_v105_2 : Ref sig .tc := ⟨.hbm, 191, rfl⟩
abbrev main_v105_3 : Ref sig .tc := ⟨.hbm, 192, rfl⟩
abbrev main_v105_4 : Ref sig .tc := ⟨.hbm, 193, rfl⟩
abbrev main_v105_5 : Ref sig .tc := ⟨.hbm, 194, rfl⟩
abbrev main_v105_6 : Ref sig .tc := ⟨.hbm, 195, rfl⟩
abbrev main_v105_7 : Ref sig .tc := ⟨.hbm, 196, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg19_0 : Ref sig .tc := ⟨.vmem, 25, rfl⟩
abbrev cc0_stg19_1 : Ref sig .tc := ⟨.vmem, 26, rfl⟩
abbrev cc0_stg20_0 : Ref sig .tc := ⟨.vmem, 27, rfl⟩
abbrev cc0_stg20_1 : Ref sig .tc := ⟨.vmem, 28, rfl⟩
abbrev cc0_stg21_0 : Ref sig .tc := ⟨.vmem, 29, rfl⟩
abbrev cc0_stg21_1 : Ref sig .tc := ⟨.vmem, 30, rfl⟩
abbrev cc0_stg22_0 : Ref sig .tc := ⟨.vmem, 31, rfl⟩
abbrev cc0_stg22_1 : Ref sig .tc := ⟨.vmem, 32, rfl⟩
abbrev cc0_stg23_0 : Ref sig .tc := ⟨.vmem, 33, rfl⟩
abbrev cc0_stg23_1 : Ref sig .tc := ⟨.vmem, 34, rfl⟩
abbrev cc0_stg24_0 : Ref sig .tc := ⟨.vmem, 35, rfl⟩
abbrev cc0_stg24_1 : Ref sig .tc := ⟨.vmem, 36, rfl⟩
abbrev cc0_stg25_0 : Ref sig .tc := ⟨.vmem, 37, rfl⟩
abbrev cc0_stg25_1 : Ref sig .tc := ⟨.vmem, 38, rfl⟩
abbrev cc0_stg26_0 : Ref sig .tc := ⟨.vmem, 39, rfl⟩
abbrev cc0_stg26_1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem18_0 : DmaSem sig := 24
abbrev cc0_sem19_0 : DmaSem sig := 25
abbrev cc0_sem19_1 : DmaSem sig := 26
abbrev cc0_sem20_0 : DmaSem sig := 27
abbrev cc0_sem20_1 : DmaSem sig := 28
abbrev cc0_sem21_0 : DmaSem sig := 29
abbrev cc0_sem21_1 : DmaSem sig := 30
abbrev cc0_sem22_0 : DmaSem sig := 31
abbrev cc0_sem22_1 : DmaSem sig := 32
abbrev cc0_sem23_0 : DmaSem sig := 33
abbrev cc0_sem23_1 : DmaSem sig := 34
abbrev cc0_sem24_0 : DmaSem sig := 35
abbrev cc0_sem24_1 : DmaSem sig := 36
abbrev cc0_sem25_0 : DmaSem sig := 37
abbrev cc0_sem25_1 : DmaSem sig := 38
abbrev cc0_sem26_0 : DmaSem sig := 39
abbrev cc0_sem26_1 : DmaSem sig := 40

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_25 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_26 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x4352 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S384x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true]

abbrev stage0_16 : Fin 2 → Memref sig .tc .vmem S256x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![false, true]

abbrev stage0_17 : Fin 1 → Memref sig .tc .vmem S512x128 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S128x512 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 2 → Memref sig .tc .vmem S1x256x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x256x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x256x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x256x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x256x1024 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x256x512 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S1x256x1024 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]

abbrev stage0_26 : Fin 2 → Memref sig .tc .vmem S1x256x1024 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true]
-- ==== Reference4Ideal.lean ====
abbrev S16x2048x1024 : Shape := ⟨3, ![16, 2048, 1024]⟩
abbrev S24x1x6144 : Shape := ⟨3, ![24, 1, 6144]⟩
abbrev S2x1x1024 : Shape := ⟨3, ![2, 1, 1024]⟩
abbrev S2x1024x4256 : Shape := ⟨3, ![2, 1024, 4256]⟩
abbrev S2x64 : Shape := ⟨2, ![2, 64]⟩
abbrev S2x384 : Shape := ⟨2, ![2, 384]⟩
abbrev S2x384x768 : Shape := ⟨3, ![2, 384, 768]⟩
abbrev S2x256 : Shape := ⟨2, ![2, 256]⟩
abbrev S2x256x1024 : Shape := ⟨3, ![2, 256, 1024]⟩
abbrev S2x96 : Shape := ⟨2, ![2, 96]⟩
abbrev S1x1x1024 : Shape := ⟨3, ![1, 1, 1024]⟩
abbrev S1x1024 : Shape := ⟨2, ![1, 1024]⟩
abbrev S_ : Shape := ⟨0, ![]⟩
abbrev S16x2048 : Shape := ⟨2, ![16, 2048]⟩
abbrev S16x2048x1 : Shape := ⟨3, ![16, 2048, 1]⟩
abbrev S16x1x1024 : Shape := ⟨3, ![16, 1, 1024]⟩
abbrev S1x1024x4256 : Shape := ⟨3, ![1, 1024, 4256]⟩
abbrev S1024x4256 : Shape := ⟨2, ![1024, 4256]⟩
abbrev S16x2048x4256 : Shape := ⟨3, ![16, 2048, 4256]⟩
abbrev S16x2048x1536 : Shape := ⟨3, ![16, 2048, 1536]⟩
abbrev S16x2048x384 : Shape := ⟨3, ![16, 2048, 384]⟩
abbrev S16x2048x256 : Shape := ⟨3, ![16, 2048, 256]⟩
abbrev S16x2048x32 : Shape := ⟨3, ![16, 2048, 32]⟩
abbrev S1x256 : Shape := ⟨2, ![1, 256]⟩
abbrev S256 : Shape := ⟨1, ![256]⟩
abbrev S1x1x256 : Shape := ⟨3, ![1, 1, 256]⟩
abbrev S1x256x1024 : Shape := ⟨3, ![1, 256, 1024]⟩
abbrev S256x1024 : Shape := ⟨2, ![256, 1024]⟩
abbrev S16x2048x8x128 : Shape := ⟨4, ![16, 2048, 8, 128]⟩
abbrev S16x2048x3x8x64 : Shape := ⟨5, ![16, 2048, 3, 8, 64]⟩
abbrev S16x2048x1x8x64 : Shape := ⟨5, ![16, 2048, 1, 8, 64]⟩
abbrev S16x2048x8x64 : Shape := ⟨4, ![16, 2048, 8, 64]⟩
abbrev S1x64 : Shape := ⟨2, ![1, 64]⟩
abbrev S64 : Shape := ⟨1, ![64]⟩
abbrev S16x2048x8 : Shape := ⟨3, ![16, 2048, 8]⟩
abbrev S16x2048x8x1 : Shape := ⟨4, ![16, 2048, 8, 1]⟩
abbrev S1x1x1x64 : Shape := ⟨4, ![1, 1, 1, 64]⟩
abbrev S16x2048x512 : Shape := ⟨3, ![16, 2048, 512]⟩

abbrev nBuf : Space → Nat
  | .hbm => 143
  | .vmem => 0
  | .smem => 0
  | _ => 0

abbrev hbmTy0_0 (i : Nat) : BufTy := match i % 128 with
  | 0 => ⟨S16x2048x1024, .f32⟩
  | 1 => ⟨S24x1x6144, .f32⟩
  | 2 => ⟨S2x1x1024, .f32⟩
  | 3 => ⟨S2x1024x4256, .f32⟩
  | 4 => ⟨S2x64, .f32⟩
  | 5 => ⟨S2x64, .f32⟩
  | 6 => ⟨S2x384, .f32⟩
  | 7 => ⟨S2x384x768, .f32⟩
  | 8 => ⟨S2x256, .f32⟩
  | 9 => ⟨S2x256x1024, .f32⟩
  | 10 => ⟨S2x96, .f32⟩
  | 11 => ⟨S2x96, .f32⟩
  | 12 => ⟨S1x1x1024, .f32⟩
  | 13 => ⟨S1x1024, .f32⟩
  | 14 => ⟨S16x2048x1024, .f32⟩
  | 15 => ⟨S_, .f32⟩
  | 16 => ⟨S16x2048, .f32⟩
  | 17 => ⟨S16x2048x1, .f32⟩
  | 18 => ⟨S_, .f32⟩
  | 19 => ⟨S16x2048x1, .f32⟩
  | 20 => ⟨S16x2048x1, .f32⟩
  | 21 => ⟨S_, .f32⟩
  | 22 => ⟨S16x2048x1, .f32⟩
  | 23 => ⟨S16x2048x1, .f32⟩
  | 24 => ⟨S16x2048x1, .f32⟩
  | 25 => ⟨S16x2048x1024, .f32⟩
  | 26 => ⟨S16x2048x1024, .f32⟩
  | 27 => ⟨S1x1x1024, .f32⟩
  | 28 => ⟨S16x2048x1024, .f32⟩
  | 29 => ⟨S16x2048x1024, .f32⟩
  | 30 => ⟨S16x1x1024, .f32⟩
  | 31 => ⟨S_, .f32⟩
  | 32 => ⟨S16x1x1024, .f32⟩
  | 33 => ⟨S16x1x1024, .f32⟩
  | 34 => ⟨S16x2048x1024, .f32⟩
  | 35 => ⟨S16x2048x1024, .f32⟩
  | 36 => ⟨S16x1x1024, .f32⟩
  | 37 => ⟨S16x2048x1024, .f32⟩
  | 38 => ⟨S16x2048x1024, .f32⟩
  | 39 => ⟨S1x1024x4256, .f32⟩
  | 40 => ⟨S1024x4256, .f32⟩
  | 41 => ⟨S16x2048x4256, .f32⟩
  | 42 => ⟨S16x2048x1536, .f32⟩
  | 43 => ⟨S16x2048x384, .f32⟩
  | 44 => ⟨S16x2048x256, .f32⟩
  | 45 => ⟨S16x2048x32, .f32⟩
  | 46 => ⟨S16x2048x1024, .f32⟩
  | 47 => ⟨S16x2048x1024, .f32⟩
  | 48 => ⟨S1x256, .f32⟩
  | 49 => ⟨S256, .f32⟩
  | 50 => ⟨S16x2048x256, .f32⟩
  | 51 => ⟨S_, .f32⟩
  | 52 => ⟨S16x2048, .f32⟩
  | 53 => ⟨S16x2048x1, .f32⟩
  | 54 => ⟨S_, .f32⟩
  | 55 => ⟨S16x2048x1, .f32⟩
  | 56 => ⟨S16x2048x1, .f32⟩
  | 57 => ⟨S_, .f32⟩
  | 58 => ⟨S16x2048x1, .f32⟩
  | 59 => ⟨S16x2048x1, .f32⟩
  | 60 => ⟨S16x2048x1, .f32⟩
  | 61 => ⟨S16x2048x256, .f32⟩
  | 62 => ⟨S16x2048x256, .f32⟩
  | 63 => ⟨S1x1x256, .f32⟩
  | 64 => ⟨S16x2048x256, .f32⟩
  | 65 => ⟨S16x2048x256, .f32⟩
  | 66 => ⟨S1x256x1024, .f32⟩
  | 67 => ⟨S256x1024, .f32⟩
  | 68 => ⟨S16x2048x1024, .f32⟩
  | 69 => ⟨S16x2048x8x128, .f32⟩
  | 70 => ⟨S16x2048x3x8x64, .f32⟩
  | 71 => ⟨S16x2048x1x8x64, .f32⟩
  | 72 => ⟨S16x2048x8x64, .f32⟩
  | 73 => ⟨S1x64, .f32⟩
  | 74 => ⟨S64, .f32⟩
  | 75 => ⟨S16x2048x8x64, .f32⟩
  | 76 => ⟨S_, .f32⟩
  | 77 => ⟨S16x2048x8, .f32⟩
  | 78 => ⟨S16x2048x8x1, .f32⟩
  | 79 => ⟨S_, .f32⟩
  | 80 => ⟨S16x2048x8x1, .f32⟩
  | 81 => ⟨S16x2048x8x1, .f32⟩
  | 82 => ⟨S_, .f32⟩
  | 83 => ⟨S16x2048x8x1, .f32⟩
  | 84 => ⟨S16x2048x8x1, .f32⟩
  | 85 => ⟨S16x2048x8x1, .f32⟩
  | 86 => ⟨S16x2048x8x64, .f32⟩
  | 87 => ⟨S16x2048x8x64, .f32⟩
  | 88 => ⟨S1x1x1x64, .f32⟩
  | 89 => ⟨S16x2048x8x64, .f32⟩
  | 90 => ⟨S16x2048x8x64, .f32⟩
  | 91 => ⟨S_, .f32⟩
  | 92 => ⟨S16x2048x8x64, .f32⟩
  | 93 => ⟨S16x2048x8x64, .f32⟩
  | 94 => ⟨S16x2048x1x8x64, .f32⟩
  | 95 => ⟨S16x2048x8x64, .f32⟩
  | 96 => ⟨S1x64, .f32⟩
  | 97 => ⟨S64, .f32⟩
  | 98 => ⟨S16x2048x8x64, .f32⟩
  | 99 => ⟨S_, .f32⟩
  | 100 => ⟨S16x2048x8, .f32⟩
  | 101 => ⟨S16x2048x8x1, .f32⟩
  | 102 => ⟨S_, .f32⟩
  | 103 => ⟨S16x2048x8x1, .f32⟩
  | 104 => ⟨S16x2048x8x1, .f32⟩
  | 105 => ⟨S_, .f32⟩
  | 106 => ⟨S16x2048x8x1, .f32⟩
  | 107 => ⟨S16x2048x8x1, .f32⟩
  | 108 => ⟨S16x2048x8x1, .f32⟩
  | 109 => ⟨S16x2048x8x64, .f32⟩
  | 110 => ⟨S16x2048x8x64, .f32⟩
  | 111 => ⟨S1x1x1x64, .f32⟩
  | 112 => ⟨S16x2048x8x64, .f32⟩
  | 113 => ⟨S16x2048x8x64, .f32⟩
  | 114 => ⟨S16x2048x1x8x64, .f32⟩
  | 115 => ⟨S16x2048x8x64, .f32⟩
  | 116 => ⟨S16x2048x8x64, .f32⟩
  | 117 => ⟨S16x2048x512, .f32⟩
  | 118 => ⟨S16x2048x512, .f32⟩
  | 119 => ⟨S16x2048x512, .f32⟩
  | 120 => ⟨S16x2048x512, .f32⟩
  | 121 => ⟨S16x2048x1024, .f32⟩
  | 122 => ⟨S16x2048x1024, .f32⟩
  | 123 => ⟨S_, .f32⟩
  | 124 => ⟨S16x2048x1024, .f32⟩
  | 125 => ⟨S16x2048x1024, .f32⟩
  | 126 => ⟨S_, .f32⟩
  | 127 => ⟨S16x2048x1024, .f32⟩
  | _ => ⟨S16x2048x1024, .f32⟩

abbrev hbmTy0_1 (i : Nat) : BufTy := match i % 128 with
  | 0 => ⟨S16x2048x1024, .f32⟩
  | 1 => ⟨S16x2048x1024, .f32⟩
  | 2 => ⟨S16x2048x1024, .f32⟩
  | 3 => ⟨S_, .f32⟩
  | 4 => ⟨S16x2048x1024, .f32⟩
  | 5 => ⟨S16x2048x1024, .f32⟩
  | 6 => ⟨S_, .f32⟩
  | 7 => ⟨S16x2048x1024, .f32⟩
  | 8 => ⟨S16x2048x1024, .f32⟩
  | 9 => ⟨S16x2048x512, .bf16⟩
  | 10 => ⟨S16x2048x512, .bf16⟩
  | 11 => ⟨S16x2048x512, .bf16⟩
  | 12 => ⟨S16x2048x512, .bf16⟩
  | 13 => ⟨S16x2048x1024, .bf16⟩
  | 14 => ⟨S16x2048x1024, .bf16⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_3 : Ref sig .tc := ⟨.hbm, 51, rfl⟩
abbrev main_v35 : Ref sig .tc := ⟨.hbm, 52, rfl⟩
abbrev main_v36 : Ref sig .tc := ⟨.hbm, 53, rfl⟩
abbrev main_cst_4 : Ref sig .tc := ⟨.hbm, 54, rfl⟩
abbrev main_v37 : Ref sig .tc := ⟨.hbm, 55, rfl⟩
abbrev main_v38 : Ref sig .tc := ⟨.hbm, 56, rfl⟩
abbrev main_cst_5 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_6 : Ref sig .tc := ⟨.hbm, 76, rfl⟩
abbrev main_v57 : Ref sig .tc := ⟨.hbm, 77, rfl⟩
abbrev main_v58 : Ref sig .tc := ⟨.hbm, 78, rfl⟩
abbrev main_cst_7 : Ref sig .tc := ⟨.hbm, 79, rfl⟩
abbrev main_v59 : Ref sig .tc := ⟨.hbm, 80, rfl⟩
abbrev main_v60 : Ref sig .tc := ⟨.hbm, 81, rfl⟩
abbrev main_cst_8 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_9 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_10 : Ref sig .tc := ⟨.hbm, 99, rfl⟩
abbrev main_v76 : Ref sig .tc := ⟨.hbm, 100, rfl⟩
abbrev main_v77 : Ref sig .tc := ⟨.hbm, 101, rfl⟩
abbrev main_cst_11 : Ref sig .tc := ⟨.hbm, 102, rfl⟩
abbrev main_v78 : Ref sig .tc := ⟨.hbm, 103, rfl⟩
abbrev main_v79 : Ref sig .tc := ⟨.hbm, 104, rfl⟩
abbrev main_cst_12 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_cst_13 : Ref sig .tc := ⟨.hbm, 123, rfl⟩
abbrev main_v97 : Ref sig .tc := ⟨.hbm, 124, rfl⟩
abbrev main_v98 : Ref sig .tc := ⟨.hbm, 125, rfl⟩
abbrev main_cst_14 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_cst_15 : Ref sig .tc := ⟨.hbm, 131, rfl⟩
abbrev main_v103 : Ref sig .tc := ⟨.hbm, 132, rfl⟩
abbrev main_v104 : Ref sig .tc := ⟨.hbm, 133, rfl⟩
abbrev main_cst_16 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩

abbrev nD : Nat := 1
abbrev τ : Topo := Topo.v7x

variable {F : FTy → Type} [FloatOps F]
-- ==== Proof.Softmax.lean ====
/- A softmax over two lists of scores, on the extended reals: dividing the weighted sum of the values once by the sum of
   the weights, or dividing every weight first, is the same thing when every score is a real number. -/
module

public import Idealize.ShloMosaic.PureOps.Ideal.Laws

@[expose] public section

noncomputable section

namespace Cert.Softmax

open Idealize.ShloMosaic

/-- The largest of finitely many extended reals, −∞ of none. -/
def top {K : ℕ} (s : Fin K → EReal) : EReal := Finset.univ.fold max ⊥ s

theorem top_eq_sup {K : ℕ} (s : Fin K → EReal) : top s = Finset.univ.sup s := rfl

/-- The largest of the two lists of scores. -/
def top2 {K C : ℕ} (s : Fin K → EReal) (t : Fin C → EReal) : EReal := max (top s) (top t)

/-- The weight of a score against the largest. -/
def weight (m s : EReal) : EReal := Ideal.exp (s - m)

/-- The sum of the weights of both lists. -/
def total {K C : ℕ} (s : Fin K → EReal) (t : Fin C → EReal) : EReal :=
  (∑ k, weight (top2 s t) (s k)) + ∑ c, weight (top2 s t) (t c)

/-- The weighted sum of the values, divided once by the sum of the weights. -/
def after {K C : ℕ} (s : Fin K → EReal) (t : Fin C → EReal) (v : Fin K → EReal) (w : Fin C → EReal) : EReal :=
  Ideal.div ((∑ k, weight (top2 s t) (s k) * v k) + ∑ c, weight (top2 s t) (t c) * w c) (total s t)

/-- The values weighted by the weights divided by their sum. -/
def before {K C : ℕ} (s : Fin K → EReal) (t : Fin C → EReal) (v : Fin K → EReal) (w : Fin C → EReal) : EReal :=
  (∑ k, Ideal.div (weight (top2 s t) (s k)) (total s t) * v k) + ∑ c, Ideal.div (weight (top2 s t) (t c)) (total s t) * w c

/-- A real number. -/
def IsReal (x : EReal) : Prop := x ≠ ⊥ ∧ x ≠ ⊤

theorem isReal_coe (r : ℝ) : IsReal (r : EReal) := ⟨EReal.coe_ne_bot r, EReal.coe_ne_top r⟩

theorem IsReal.exists {x : EReal} (h : IsReal x) : ∃ r : ℝ, x = (r : EReal) :=
  ⟨x.toReal, (EReal.coe_toReal h.2 h.1).symm⟩

theorem IsReal.mul {x y : EReal} (hx : IsReal x) (hy : IsReal y) : IsReal (x * y) := by
  obtain ⟨a, rfl⟩ := hx.exists
  obtain ⟨b, rfl⟩ := hy.exists
  rw [← EReal.coe_mul]
  exact isReal_coe _

theorem IsReal.add {x y : EReal} (hx : IsReal x) (hy : IsReal y) : IsReal (x + y) := by
  obtain ⟨a, rfl⟩ := hx.exists
  obtain ⟨b, rfl⟩ := hy.exists
  rw [← EReal.coe_add]
  exact isReal_coe _

theorem isReal_sum {ι : Type*} (S : Finset ι) (f : ι → EReal) (h : ∀ i ∈ S, IsReal (f i)) : IsReal (∑ i ∈ S, f i) := by
  classical
  induction S using Finset.induction_on with
  | empty => rw [Finset.sum_empty]; exact isReal_coe 0
  | insert a S ha ih =>
    rw [Finset.sum_insert ha]
    exact (h a (Finset.mem_insert_self a S)).add (ih fun i hi => h i (Finset.mem_insert_of_mem hi))

theorem top_lt_top {K : ℕ} (s : Fin K → EReal) (h : ∀ k, IsReal (s k)) : top s < ⊤ := by
  rw [top_eq_sup, Finset.sup_lt_iff bot_lt_top]
  exact fun k _ => lt_of_le_of_ne le_top (h k).2

theorem le_top_apply {K : ℕ} (s : Fin K → EReal) (k : Fin K) : s k ≤ top s := by
  rw [top_eq_sup]; exact Finset.le_sup (f := s) (Finset.mem_univ k)

/-- The largest of two lists of real scores, one of them not empty, is a real number. -/
theorem isReal_top2 {K C : ℕ} (s : Fin K → EReal) (t : Fin C → EReal) (hK : 0 < K)
    (hs : ∀ k, IsReal (s k)) (ht : ∀ c, IsReal (t c)) : IsReal (top2 s t) := by
  refine ⟨?_, (max_lt (top_lt_top s hs) (top_lt_top t ht)).ne⟩
  have h1 : s ⟨0, hK⟩ ≤ top2 s t := (le_top_apply s _).trans (le_max_left _ _)
  intro h
  rw [h, le_bot_iff] at h1
  exact (hs _).1 h1

/-- A product with a nonnegative real number distributes over a finite sum, whatever the summands. -/
theorem sum_mul_coe {ι : Type*} (S : Finset ι) (f : ι → EReal) {c : ℝ} (hc : 0 ≤ c) :
    (∑ i ∈ S, f i) * (c : EReal) = ∑ i ∈ S, f i * (c : EReal) := by
  classical
  induction S using Finset.induction_on with
  | empty => rw [Finset.sum_empty, Finset.sum_empty, zero_mul]
  | insert a S ha ih =>
    rw [Finset.sum_insert ha, Finset.sum_insert ha, ← ih]
    exact EReal.right_distrib_of_nonneg_of_ne_top (EReal.coe_nonneg.mpr hc) (EReal.coe_ne_top c) _ _

/-- A weight of a real score against a real maximum is a positive real number. -/
theorem weight_pos {m s : EReal} (hm : IsReal m) (hs : IsReal s) : ∃ r : ℝ, 0 < r ∧ weight m s = (r : EReal) := by
  obtain ⟨a, rfl⟩ := hs.exists
  obtain ⟨b, rfl⟩ := hm.exists
  exact ⟨Real.exp (a - b), Real.exp_pos _, by rw [weight, ← EReal.coe_sub, Ideal.exp_coe]⟩

theorem coe_sum {ι : Type*} (S : Finset ι) (g : ι → ℝ) : ((∑ i ∈ S, g i : ℝ) : EReal) = ∑ i ∈ S, (g i : EReal) := by
  classical
  induction S using Finset.induction_on with
  | empty => rw [Finset.sum_empty, Finset.sum_empty, EReal.coe_zero]
  | insert a S ha ih => rw [Finset.sum_insert ha, Finset.sum_insert ha, EReal.coe_add, ih]

theorem sum_pos_real {K : ℕ} (f : Fin K → EReal) (h : ∀ k, ∃ r : ℝ, 0 < r ∧ f k = (r : EReal)) :
    ∃ r : ℝ, 0 ≤ r ∧ (0 < K → 0 < r) ∧ ∑ k, f k = (r : EReal) := by
  choose g hg hf using h
  refine ⟨∑ k, g k, Finset.sum_nonneg fun k _ => (hg k).le,
    fun hK => Finset.sum_pos (fun k _ => hg k) ⟨⟨0, hK⟩, Finset.mem_univ _⟩, ?_⟩
  rw [coe_sum]
  exact Finset.sum_congr rfl fun k _ => hf k

/-- The sum of the weights is a positive real number. -/
theorem total_pos {K C : ℕ} (s : Fin K → EReal) (t : Fin C → EReal) (hK : 0 < K)
    (hs : ∀ k, IsReal (s k)) (ht : ∀ c, IsReal (t c)) : ∃ r : ℝ, 0 < r ∧ total s t = (r : EReal) := by
  have hm := isReal_top2 s t hK hs ht
  obtain ⟨a, _, ha, ea⟩ := sum_pos_real _ fun k => weight_pos hm (hs k)
  obtain ⟨b, hb, _, eb⟩ := sum_pos_real _ fun c => weight_pos hm (ht c)
  exact ⟨a + b, add_pos_of_pos_of_nonneg (ha hK) hb, by rw [total, ea, eb, EReal.coe_add]⟩

/-- Dividing once at the end is dividing every weight. -/
theorem after_eq_before {K C : ℕ} (s : Fin K → EReal) (t : Fin C → EReal) (v : Fin K → EReal) (w : Fin C → EReal) (hK : 0 < K)
    (hs : ∀ k, IsReal (s k)) (ht : ∀ c, IsReal (t c)) : after s t v w = before s t v w := by
  obtain ⟨r, hr, e⟩ := total_pos s t hK hs ht
  have hd : (0 : ℝ) ≤ 1 / r := (one_div_pos.mpr hr).le
  rw [after, before, e, Ideal.div_coe hr.ne',
    EReal.right_distrib_of_nonneg_of_ne_top (EReal.coe_nonneg.mpr hd) (EReal.coe_ne_top _), sum_mul_coe _ _ hd, sum_mul_coe _ _ hd]
  refine congrArg₂ (· + ·) (Finset.sum_congr rfl fun k _ => ?_) (Finset.sum_congr rfl fun c _ => ?_)
  · rw [Ideal.div_coe hr.ne', mul_right_comm]
  · rw [Ideal.div_coe hr.ne', mul_right_comm]

/-! ## The two lists as one -/

/-- The largest of a list is that of its two parts. -/
theorem top_append {K C : ℕ} (f : Fin (K + C) → EReal) :
    top f = top2 (fun k => f (Fin.castAdd C k)) (fun c => f (Fin.natAdd K c)) := by
  refine le_antisymm ?_ (max_le ?_ ?_)
  · rw [top_eq_sup]
    refine Finset.sup_le fun i _ => ?_
    refine Fin.addCases (fun k => ?_) (fun c => ?_) i
    · exact (le_top_apply (fun k => f (Fin.castAdd C k)) k).trans (le_max_left _ _)
    · exact (le_top_apply (fun c => f (Fin.natAdd K c)) c).trans (le_max_right _ _)
  · rw [top_eq_sup]; exact Finset.sup_le fun k _ => le_top_apply f _
  · rw [top_eq_sup]; exact Finset.sup_le fun c _ => le_top_apply f _

/-- Position `k` of the first of two lists laid one after the other. -/
def fst {n K : ℕ} (C : ℕ) (hn : K + C = n) (k : Fin K) : Fin n := ⟨k.val, by omega⟩
/-- Position `c` of the second. -/
def snd {n C : ℕ} (K : ℕ) (hn : K + C = n) (c : Fin C) : Fin n := ⟨K + c.val, by omega⟩

theorem top_split {n K C : ℕ} (hn : K + C = n) (f : Fin n → EReal) :
    top f = top2 (fun k => f (fst C hn k)) (fun c => f (snd K hn c)) := by
  subst hn
  exact top_append f

theorem sum_split {n K C : ℕ} (hn : K + C = n) (f : Fin n → EReal) :
    ∑ i, f i = (∑ k, f (fst C hn k)) + ∑ c, f (snd K hn c) := by
  subst hn
  exact Fin.sum_univ_add f

end Cert.Softmax

end
-- ==== Proof.Rows.lean ====
/- Operations on the rows of a matrix read at an index, on the extended reals: a row's largest element and sum, a column
   spread over the lanes, a plain product and one against the rows of the other matrix. -/
module

public import proofs.«01_k».proof.Proof.Softmax
public import Idealize.ShloMosaic.Lib.MatmulPlain
public import Idealize.ShloMosaic.Lib.ValueIdx
public import Idealize.ShloMosaic.Lib.Pipeline.Value

@[expose] public section

set_option maxRecDepth 16384

noncomputable section

namespace Cert.Rows

open Idealize.ShloMosaic Idealize.ShloMosaic.ValueIdx Cert.Softmax

/-- Two indices of the same coordinates are one. -/
theorem ext1 {n0 : ℕ} {i j : (⟨1, ![n0]⟩ : Shape).Idx} (h0 : (i 0).val = (j 0).val) : i = j := funext fun a => Fin.ext (by
  match a with
  | ⟨0, _⟩ => exact h0)

theorem ext2 {n0 n1 : ℕ} {i j : (⟨2, ![n0, n1]⟩ : Shape).Idx} (h0 : (i 0).val = (j 0).val) (h1 : (i 1).val = (j 1).val) : i = j :=
  funext fun a => Fin.ext (by
    match a with
    | ⟨0, _⟩ => exact h0
    | ⟨1, _⟩ => exact h1)

theorem ext3 {n0 n1 n2 : ℕ} {i j : (⟨3, ![n0, n1, n2]⟩ : Shape).Idx} (h0 : (i 0).val = (j 0).val) (h1 : (i 1).val = (j 1).val)
    (h2 : (i 2).val = (j 2).val) : i = j := funext fun a => Fin.ext (by
  match a with
  | ⟨0, _⟩ => exact h0
  | ⟨1, _⟩ => exact h1
  | ⟨2, _⟩ => exact h2)

theorem ext4 {n0 n1 n2 n3 : ℕ} {i j : (⟨4, ![n0, n1, n2, n3]⟩ : Shape).Idx} (h0 : (i 0).val = (j 0).val) (h1 : (i 1).val = (j 1).val)
    (h2 : (i 2).val = (j 2).val) (h3 : (i 3).val = (j 3).val) : i = j := funext fun a => Fin.ext (by
  match a with
  | ⟨0, _⟩ => exact h0
  | ⟨1, _⟩ => exact h1
  | ⟨2, _⟩ => exact h2
  | ⟨3, _⟩ => exact h3)

/-- The word of −∞. -/
theorem neg_inf : (FloatOps.ofBits (F := Ideal) .f32 0xFF800000#32 : EReal) = ⊥ := by
  show Ideal.ofBits .f32 0xFF800000#32 = ⊥
  simp [Ideal.ofBits, Ideal.ieee]

variable {n m p : ℕ}

/-- The largest element of row `r`. -/
theorem rowMax_at (x : FVec Ideal ⟨2, ![n, m]⟩ .f32) (h : Shape.Reduces ⟨2, ![n, m]⟩ [1] ⟨1, ![n]⟩) (hφ : FKind.Formats .f32)
    (hacc : 0xFF800000#32 = FKind.maximumf.neutral .f32 hφ) (r : Fin n) :
    multiReduction .maximumf [1] ⟨1, ![n]⟩ x 0xFF800000#32 h hφ hacc (ix1 r) = top fun k : Fin m => x (ix2 r k) := by
  refine (Ideal.multiReduction_maximumf_single x _ h hφ hacc (ix1 r)).trans ?_
  rw [neg_inf]
  exact congrArg (Finset.univ.fold max ⊥) (funext fun k => congrArg x (ext2 rfl rfl))

/-- The sum of row `r`. -/
theorem rowSum_at (x : FVec Ideal ⟨2, ![n, m]⟩ .f32) (h : Shape.Reduces ⟨2, ![n, m]⟩ [1] ⟨1, ![n]⟩) (hφ : FKind.Formats .f32)
    (hacc : 0x00000000#32 = FKind.add.neutral .f32 hφ) (r : Fin n) :
    multiReduction .add [1] ⟨1, ![n]⟩ x 0x00000000#32 h hφ hacc (ix1 r) = ∑ k : Fin m, x (ix2 r k) := by
  refine (Ideal.multiReduction_add_single x _ h hφ hacc (ix1 r)).trans ?_
  exact Finset.sum_congr rfl fun k _ => congrArg x (ext2 rfl rfl)

/-- A list as a column. -/
theorem column_at {α : Type} (x : (⟨1, ![n]⟩ : Shape).Idx → α) (h : Shape.ShapeCasts ⟨1, ![n]⟩ ⟨2, ![n, 1]⟩) (r : Fin n) :
    shapeCast ⟨2, ![n, 1]⟩ x h (ix2 r 0) = x (ix1 r) :=
  shapeCast_apply x h _ (ix1 r) (by
    rw [Shape.rowMajor_val_one, Shape.rowMajor_val_two]
    show r.val = r.val * 1 + 0
    omega)

/-- A column spread over the lanes. -/
theorem spread_at {α : Type} (hn : n ≠ 1) (x : (⟨2, ![n, 1]⟩ : Shape).Idx → α) (h : Shape.Broadcasts ⟨2, ![n, 1]⟩ ⟨2, ![n, m]⟩) (r : Fin n)
    (k : Fin m) : broadcastTo ⟨2, ![n, m]⟩ x h (ix2 r k) = x (ix2 r 0) :=
  broadcastTo_apply x h _ (ix2 r 0) fun a => by
    match a with
    | ⟨0, _⟩ => exact (if_neg hn).symm
    | ⟨1, _⟩ => exact (if_pos rfl).symm

/-- A block's leading axis of one, dropped. -/
theorem drop_at {α : Type} (x : (⟨3, ![1, n, m]⟩ : Shape).Idx → α) (h : Shape.ShapeCasts ⟨3, ![1, n, m]⟩ ⟨2, ![n, m]⟩) (r : Fin n) (k : Fin m) :
    shapeCast ⟨2, ![n, m]⟩ x h (ix2 r k) = x (ix3 0 r k) :=
  shapeCast_apply x h _ (ix3 0 r k) (by
    rw [Shape.rowMajor_val_three, Shape.rowMajor_val_two]
    show (0 * n + r.val) * m + k.val = r.val * m + k.val
    rw [Nat.zero_mul, Nat.zero_add])

/-- And added. -/
theorem add_at {α : Type} (x : (⟨2, ![n, m]⟩ : Shape).Idx → α) (h : Shape.ShapeCasts ⟨2, ![n, m]⟩ ⟨3, ![1, n, m]⟩) (r : Fin n) (k : Fin m) :
    shapeCast ⟨3, ![1, n, m]⟩ x h (ix3 0 r k) = x (ix2 r k) :=
  shapeCast_apply x h _ (ix2 r k) (by
    rw [Shape.rowMajor_val_three, Shape.rowMajor_val_two]
    show r.val * m + k.val = (0 * n + r.val) * m + k.val
    rw [Nat.zero_mul, Nat.zero_add])

/-- A product from zero, of the rows of one matrix with the columns of the other. -/
theorem plain_at {φ₁ φ₂ : FTy} (d : DotDims ⟨2, ![n, m]⟩ ⟨2, ![m, p]⟩ ⟨2, ![n, p]⟩) (hd : d = DotDims.plain n m p) (x : FVec Ideal ⟨2, ![n, m]⟩ φ₁)
    (y : FVec Ideal ⟨2, ![m, p]⟩ φ₂) (r : Fin n) (c : Fin p) :
    FloatOps.matmul d none x y (constant ⟨2, ![n, p]⟩ .f32 0x00000000#32) (ix2 r c) = ∑ k : Fin m, x (ix2 r k) * y (ix2 k c) := by
  subst hd
  refine (Ideal.matmul_plain_apply none x y _ r c).trans ((congrArg (· + _) Ideal.ofBits_zero_f32).trans (zero_add _))

/-- A product from zero, of the rows of one matrix with the rows of the other. -/
theorem rows_at {φ₁ φ₂ : FTy} (d : DotDims ⟨2, ![n, m]⟩ ⟨2, ![p, m]⟩ ⟨2, ![n, p]⟩) (hd : d = DotDims.transposedRhs n m p) (x : FVec Ideal ⟨2, ![n, m]⟩ φ₁)
    (y : FVec Ideal ⟨2, ![p, m]⟩ φ₂) (r : Fin n) (c : Fin p) :
    FloatOps.matmul d none x y (constant ⟨2, ![n, p]⟩ .f32 0x00000000#32) (ix2 r c) = ∑ k : Fin m, x (ix2 r k) * y (ix2 c k) := by
  subst hd
  refine (Ideal.matmul_transposedRhs_apply none x y _ r c).trans ((congrArg (· + _) Ideal.ofBits_zero_f32).trans (zero_add _))

end Cert.Rows

end
-- ==== Proof.MlaKernel.lean ====
/- One block of the latent attention's kernel read at an index: for each of the block's two heads the weights of the scores
   against the image's keys and the context's, the weighted values divided once by the sum of the weights. -/
module

public import proofs.«01_k».proof.Proof.Gen.KernelIdeal.Value
public import proofs.«01_k».proof.Proof.Rows
public import Idealize.ShloMosaic.Lib.Pipeline.ValueKit.Tiles

@[expose] public section

set_option maxRecDepth 16384

noncomputable section

namespace Cert.MlaBlock

open Cert.KernelIdeal Cert.KernelIdeal.Gen Idealize.ShloMosaic Idealize.ShloMosaic.ValueIdx Cert.Softmax Cert.Rows

/-- Row `r` of the block's queries against row `k` of a list of keys, for one head's lanes. -/
def dot {S : ℕ} (q : Vec Ideal S1x256x128 .bf16) (x : Vec Ideal ⟨3, ![1, S, 128]⟩ .bf16) (r : Fin 256) (k : Fin S) : EReal :=
  ∑ d : Fin 128, q (ix3 0 r d) * x (ix3 0 k d)

/-- Lane `c` of row `k` of the values. -/
def val {S : ℕ} (x : Vec Ideal ⟨3, ![1, S, 128]⟩ .bf16) (c : Fin 128) (k : Fin S) : EReal := x (ix3 0 k c)

variable (v : Vec Ideal S1x2048x128 .bf16) (w : Vec Ideal S1x256x128 .bf16)
variable (q : Vec Ideal S1x256x128 .bf16) (x : Vec Ideal S1x2048x128 .bf16) (y : Vec Ideal S1x256x128 .bf16)

theorem pay5_at (r : Fin 256) (k : Fin 2048) : k0_pay5 (F := Ideal) q x (ix2 r k) = dot q x r k := by
  refine (rows_at _ rfl _ _ r k).trans (Finset.sum_congr rfl fun d _ => congrArg₂ (· * ·) (drop_at q _ r d) (drop_at x _ k d))

theorem pay6_at (r : Fin 256) (k : Fin 256) : k0_pay6 (F := Ideal) q y (ix2 r k) = dot q y r k := by
  refine (rows_at _ rfl _ _ r k).trans (Finset.sum_congr rfl fun d _ => congrArg₂ (· * ·) (drop_at q _ r d) (drop_at y _ k d))

theorem pay7_at (r : Fin 256) : k0_pay7 (F := Ideal) q x y (ix2 r 0) = top2 (dot q x r) (dot q y r) := by
  refine congrArg₂ max ((column_at _ _ r).trans ((rowMax_at _ _ _ _ r).trans (congrArg top (funext fun k => pay5_at q x r k))))
    ((column_at _ _ r).trans ((rowMax_at _ _ _ _ r).trans (congrArg top (funext fun k => pay6_at q y r k))))

theorem pay8_at (r : Fin 256) (k : Fin 2048) :
    k0_pay8 (F := Ideal) q x y (ix2 r k) = weight (top2 (dot q x r) (dot q y r)) (dot q x r k) := by
  refine congrArg Ideal.exp (congrArg₂ (· - ·) (pay5_at q x r k) ((spread_at (by decide) _ _ r k).trans (pay7_at q x y r)))

theorem pay9_at (r : Fin 256) (k : Fin 256) :
    k0_pay9 (F := Ideal) q x y (ix2 r k) = weight (top2 (dot q x r) (dot q y r)) (dot q y r k) := by
  refine congrArg Ideal.exp (congrArg₂ (· - ·) (pay6_at q y r k) ((spread_at (by decide) _ _ r k).trans (pay7_at q x y r)))

theorem pay10_at (r : Fin 256) (c : Fin 128) : k0_pay10 (F := Ideal) v w q x y (ix2 r c)
    = (∑ k, weight (top2 (dot q x r) (dot q y r)) (dot q x r k) * val v c k)
      + ∑ k, weight (top2 (dot q x r) (dot q y r)) (dot q y r k) * val w c k := by
  refine congrArg₂ (· + ·)
    ((plain_at _ rfl _ _ r c).trans (Finset.sum_congr rfl fun k _ => congrArg₂ (· * ·) (pay8_at q x y r k) (drop_at v _ k c)))
    ((plain_at _ rfl _ _ r c).trans (Finset.sum_congr rfl fun k _ => congrArg₂ (· * ·) (pay9_at q x y r k) (drop_at w _ k c)))

theorem pay11_at (r : Fin 256) (c : Fin 128) : k0_pay11 (F := Ideal) q x y (ix2 r c) = total (dot q x r) (dot q y r) := by
  unfold k0_pay11
  refine (spread_at (by decide) _ _ r c).trans ?_
  refine congrArg₂ (fun a b : EReal => a + b) ?_ ?_
  · exact (column_at _ _ r).trans ((rowSum_at _ _ _ _ r).trans (Finset.sum_congr rfl fun k _ => pay8_at q x y r k))
  · exact (column_at _ _ r).trans ((rowSum_at _ _ _ _ r).trans (Finset.sum_congr rfl fun k _ => pay9_at q x y r k))

/-- One head of the block. -/
theorem head_at (r : Fin 256) (c : Fin 128) : divf (k0_pay10 (F := Ideal) v w q x y) (k0_pay11 (F := Ideal) q x y) (ix2 r c)
    = after (dot q x r) (dot q y r) (val v c) (val w c) :=
  congrArg₂ Ideal.div (pay10_at v w q x y r c) (pay11_at q x y r c)

variable (q' : Vec Ideal S1x256x128 .bf16) (x' : Vec Ideal S1x2048x128 .bf16) (y' : Vec Ideal S1x256x128 .bf16)

/-- The block is the first head on its first 64 lanes and the second on the others. -/
theorem pay12_eq : k0_pay12 (F := Ideal) (k0_pay2 (F := Ideal) v) (k0_pay3 (F := Ideal) w) (k0_pay10 (F := Ideal) v w q x y) (k0_pay11 (F := Ideal) q x y) q' x' y'
    = truncf .bf16 (select (cmpi .slt (iota .tc S256x128 32 [1] iota_S256x128_d1_w32) (broadcast S256x128 64#32))
        (divf (k0_pay10 (F := Ideal) v w q x y) (k0_pay11 (F := Ideal) q x y)) (divf (k0_pay10 (F := Ideal) v w q' x' y') (k0_pay11 (F := Ideal) q' x' y'))) bitsLt_bf16_f32 := rfl

theorem mask_at (r : Fin 256) (c : Fin 128) :
    cmpi .slt (iota .tc S256x128 32 [1] iota_S256x128_d1_w32) (broadcast S256x128 64#32) (ix2 r c) = if c.val < 64 then 1#1 else 0#1 := by
  have key : ∀ n < 128, IntOp.cmpi .slt (BitVec.ofNat 32 n) 64#32 = if n < 64 then 1#1 else 0#1 := by decide +kernel
  have e : iota .tc S256x128 32 [1] iota_S256x128_d1_w32 (ix2 r c) = BitVec.ofNat 32 c.val := iota_single_apply _ _ _ _ _ _
  show IntOp.cmpi .slt (iota .tc S256x128 32 [1] iota_S256x128_d1_w32 (ix2 r c)) 64#32 = _
  rw [e]
  exact key _ c.isLt

theorem pay12_at (r : Fin 256) (c : Fin 128) :
    k0_pay12 (F := Ideal) (k0_pay2 (F := Ideal) v) (k0_pay3 (F := Ideal) w) (k0_pay10 (F := Ideal) v w q x y) (k0_pay11 (F := Ideal) q x y) q' x' y' (ix2 r c)
      = if c.val < 64 then after (dot q x r) (dot q y r) (val v c) (val w c) else after (dot q' x' r) (dot q' y' r) (val v c) (val w c) := by
  rw [pay12_eq]
  refine (select_apply _ _ _ _).trans ?_
  rw [mask_at]
  by_cases h : c.val < 64
  · rw [if_pos h, if_pos h, select_one]
    exact head_at v w q x y r c
  · rw [if_neg h, if_neg h, select_zero]
    exact head_at v w q' x' y' r c

theorem hz : (![0, 0, 0] : Fin 3 → Nat) = fun _ => 0 := funext fun a => by fin_cases a <;> rfl

/-- Lane `d` of the block's head `j`, among its two heads' 128 lanes each, and lane `c` of its values' 64. -/
def qlane (j : Fin 2) (d : Fin 128) : Fin 256 := ⟨j.val * 128 + d.val, by omega⟩
def clane (j : Fin 2) (c : Fin 64) : Fin 128 := ⟨j.val * 64 + c.val, by omega⟩

/-- What the body leaves of the blocks it is given. -/
theorem out_at (x0 : Vec Ideal S1x256x256 .bf16) (x1 : Vec Ideal S1x2048x256 .bf16) (x2 : Vec Ideal S1x2048x128 .bf16)
    (x3 : Vec Ideal S1x256x256 .bf16) (x4 : Vec Ideal S1x256x128 .bf16) (r : Fin 256) (j : Fin 2) (c : Fin 64) :
    out0_5 (F := Ideal) x0 x1 x2 x3 x4 (ix3 0 r (clane j c))
      = after (fun k : Fin 2048 => ∑ d : Fin 128, x0 (ix3 0 r (qlane j d)) * x1 (ix3 0 k (qlane j d)))
          (fun k : Fin 256 => ∑ d : Fin 128, x0 (ix3 0 r (qlane j d)) * x3 (ix3 0 k (qlane j d)))
          (fun k : Fin 2048 => x2 (ix3 0 k (clane j c))) (fun k : Fin 256 => x4 (ix3 0 k (clane j c))) := by
  unfold out0_5
  rw [View.canon_unit_zero hz]
  refine (add_at _ _ r (clane j c)).trans ((pay12_at _ _ _ _ _ _ _ _ r (clane j c)).trans ?_)
  have h2 : val (View.ld x2 r0_0) (clane j c) = fun k : Fin 2048 => x2 (ix3 0 k (clane j c)) := by
    rw [View.ld_unit_zero hz]; rfl
  have h4 : val (View.ld x4 r0_1) (clane j c) = fun k : Fin 256 => x4 (ix3 0 k (clane j c)) := by
    rw [View.ld_unit_zero hz]; rfl
  rw [h2, h4]
  match j with
  | ⟨0, _⟩ =>
    refine (if_pos (show 0 * 64 + c.val < 64 by omega)).trans ?_
    refine congrArg₂ (fun s t => after s t _ _) (funext fun k => ?_) (funext fun k => ?_)
    all_goals
      refine Finset.sum_congr rfl fun d _ => congrArg₂ (· * ·) ?_ ?_ <;>
      exact View.ld_unit_apply_of _ _ _ _ _ _ fun a => by
        match a with
        | ⟨0, _⟩ => rfl
        | ⟨1, _⟩ => exact (Nat.zero_add _).symm
        | ⟨2, _⟩ => show 0 * 128 + d.val = 0 + d.val; omega
  | ⟨1, _⟩ =>
    refine (if_neg (show ¬ 1 * 64 + c.val < 64 by omega)).trans ?_
    refine congrArg₂ (fun s t => after s t _ _) (funext fun k => ?_) (funext fun k => ?_)
    all_goals
      refine Finset.sum_congr rfl fun d _ => congrArg₂ (· * ·) ?_ ?_ <;>
      exact View.ld_unit_apply_of _ _ _ _ _ _ fun a => by
        match a with
        | ⟨0, _⟩ => rfl
        | ⟨1, _⟩ => exact (Nat.zero_add _).symm
        | ⟨2, _⟩ => show 1 * 128 + d.val = 128 + d.val; omega

end Cert.MlaBlock

end
-- ==== Proof.MlaRef.lean ====
/- The latent attention's reference read at an index: for each image, query row and head a softmax over the scores against
   the image's own keys and against the context's, the values weighted by the divided weights. -/
module

public import proofs.«01_k».proof.Proof.Gen.ReferenceIdeal.Read
public import proofs.«01_k».proof.Proof.Rows
public import Idealize.ShloMosaic.Lib.KernelVsHost

@[expose] public section

set_option maxRecDepth 16384

noncomputable section

namespace Cert.Mla

open Cert.ReferenceIdeal Cert.ReferenceIdeal.Gen Cert.ReferenceIdeal.Read Idealize.ShloMosaic Idealize.ShloMosaic.ValueIdx Cert.Softmax Cert.Rows

/-- The arrays of the call: queries, keys, values, and the context's keys and values. -/
abbrev Q := FVec Ideal S16x2048x1024 .bf16
abbrev V := FVec Ideal S16x2048x512 .bf16
abbrev KC := FVec Ideal S16x256x1024 .bf16
abbrev VC := FVec Ideal S16x256x512 .bf16

/-- Lane `d` of head `h` among the eight heads of 128 lanes. -/
def lane (h : Fin 8) (d : Fin 128) : Fin 1024 := ⟨h.val * 128 + d.val, by omega⟩
/-- Lane `c` of head `h` among the eight heads of 64 lanes. -/
def vlane (h : Fin 8) (c : Fin 64) : Fin 512 := ⟨h.val * 64 + c.val, by omega⟩

/-- The score of query row `q` against key row `k` in head `h` of image `b`. -/
def score {S : ℕ} (x0 : Q) (x1 : FVec Ideal ⟨3, ![16, S, 1024]⟩ .bf16) (b : Fin 16) (h : Fin 8) (q : Fin 2048) (k : Fin S) : EReal :=
  ∑ d : Fin 128, x0 (ix3 b q (lane h d)) * x1 (ix3 b k (lane h d))

/-- Lane `c` of the value row `k` in head `h` of image `b`. -/
def value {S : ℕ} (x2 : FVec Ideal ⟨3, ![16, S, 512]⟩ .bf16) (b : Fin 16) (h : Fin 8) (c : Fin 64) (k : Fin S) : EReal :=
  x2 (ix3 b k (vlane h c))

theorem v1_at (x0 : Q) (i : S16x2048x8x128.Idx) : val_main_v1 (F := Ideal) x0 i = x0 (ix3 (i 0) (i 1) (lane (i 2) (i 3))) := by
  rw [val_main_v1_apply, val_main_v0_apply]
  have h0 : (i 0).val < 16 := (i 0).isLt
  have h1 : (i 1).val < 2048 := (i 1).isLt
  have h2 : (i 2).val < 8 := (i 2).isLt
  have h3 : (i 3).val < 128 := (i 3).isLt
  refine congrArg x0 (funext fun a => Fin.ext ?_)
  match a with
  | ⟨0, _⟩ => show ((((i 0).val * 2048 + (i 1).val) * 8 + (i 2).val) * 128 + (i 3).val) / 2097152 = (i 0).val; omega
  | ⟨1, _⟩ => show ((((i 0).val * 2048 + (i 1).val) * 8 + (i 2).val) * 128 + (i 3).val) / 1024 % 2048 = (i 1).val; omega
  | ⟨2, _⟩ => show ((((i 0).val * 2048 + (i 1).val) * 8 + (i 2).val) * 128 + (i 3).val) % 1024 = (i 2).val * 128 + (i 3).val; omega

theorem v3_at (x1 : Q) (i : S16x2048x8x128.Idx) : val_main_v3 (F := Ideal) x1 i = x1 (ix3 (i 0) (i 1) (lane (i 2) (i 3))) :=
  v1_at x1 i

theorem v5_at (x2 : V) (i : S16x2048x8x64.Idx) : val_main_v5 (F := Ideal) x2 i = x2 (ix3 (i 0) (i 1) (vlane (i 2) (i 3))) := by
  rw [val_main_v5_apply, val_main_v4_apply]
  have h0 : (i 0).val < 16 := (i 0).isLt
  have h1 : (i 1).val < 2048 := (i 1).isLt
  have h2 : (i 2).val < 8 := (i 2).isLt
  have h3 : (i 3).val < 64 := (i 3).isLt
  refine congrArg x2 (funext fun a => Fin.ext ?_)
  match a with
  | ⟨0, _⟩ => show ((((i 0).val * 2048 + (i 1).val) * 8 + (i 2).val) * 64 + (i 3).val) / 1048576 = (i 0).val; omega
  | ⟨1, _⟩ => show ((((i 0).val * 2048 + (i 1).val) * 8 + (i 2).val) * 64 + (i 3).val) / 512 % 2048 = (i 1).val; omega
  | ⟨2, _⟩ => show ((((i 0).val * 2048 + (i 1).val) * 8 + (i 2).val) * 64 + (i 3).val) % 512 = (i 2).val * 64 + (i 3).val; omega

theorem v7_at (x3 : KC) (i : S16x256x8x128.Idx) : val_main_v7 (F := Ideal) x3 i = x3 (ix3 (i 0) (i 1) (lane (i 2) (i 3))) := by
  rw [val_main_v7_apply, val_main_v6_apply]
  have h0 : (i 0).val < 16 := (i 0).isLt
  have h1 : (i 1).val < 256 := (i 1).isLt
  have h2 : (i 2).val < 8 := (i 2).isLt
  have h3 : (i 3).val < 128 := (i 3).isLt
  refine congrArg x3 (funext fun a => Fin.ext ?_)
  match a with
  | ⟨0, _⟩ => show ((((i 0).val * 256 + (i 1).val) * 8 + (i 2).val) * 128 + (i 3).val) / 262144 = (i 0).val; omega
  | ⟨1, _⟩ => show ((((i 0).val * 256 + (i 1).val) * 8 + (i 2).val) * 128 + (i 3).val) / 1024 % 256 = (i 1).val; omega
  | ⟨2, _⟩ => show ((((i 0).val * 256 + (i 1).val) * 8 + (i 2).val) * 128 + (i 3).val) % 1024 = (i 2).val * 128 + (i 3).val; omega

theorem v9_at (x4 : VC) (i : S16x256x8x64.Idx) : val_main_v9 (F := Ideal) x4 i = x4 (ix3 (i 0) (i 1) (vlane (i 2) (i 3))) := by
  rw [val_main_v9_apply, val_main_v8_apply]
  have h0 : (i 0).val < 16 := (i 0).isLt
  have h1 : (i 1).val < 256 := (i 1).isLt
  have h2 : (i 2).val < 8 := (i 2).isLt
  have h3 : (i 3).val < 64 := (i 3).isLt
  refine congrArg x4 (funext fun a => Fin.ext ?_)
  match a with
  | ⟨0, _⟩ => show ((((i 0).val * 256 + (i 1).val) * 8 + (i 2).val) * 64 + (i 3).val) / 131072 = (i 0).val; omega
  | ⟨1, _⟩ => show ((((i 0).val * 256 + (i 1).val) * 8 + (i 2).val) * 64 + (i 3).val) / 512 % 256 = (i 1).val; omega
  | ⟨2, _⟩ => show ((((i 0).val * 256 + (i 1).val) * 8 + (i 2).val) * 64 + (i 3).val) % 512 = (i 2).val * 64 + (i 3).val; omega

/-- The scores against the image's keys. -/
theorem v10_at (x0 x1 : Q) (b : Fin 16) (h : Fin 8) (q k : Fin 2048) :
    val_main_v10 (F := Ideal) x0 x1 (ix4 b h q k) = score x0 x1 b h q k := by
  rw [val_main_v10_apply]
  exact Finset.sum_congr rfl fun d _ => congrArg₂ (· * ·) (v1_at x0 _) (v3_at x1 _)

/-- The scores against the context's keys. -/
theorem v11_at (x0 : Q) (x3 : KC) (b : Fin 16) (h : Fin 8) (q : Fin 2048) (k : Fin 256) :
    val_main_v11 (F := Ideal) x0 x3 (ix4 b h q k) = score x0 x3 b h q k := by
  rw [val_main_v11_apply]
  exact Finset.sum_congr rfl fun d _ => congrArg₂ (· * ·) (v1_at x0 _) (v7_at x3 _)

/-- Both, the image's first. -/
theorem v12_left (x0 x1 : Q) (x3 : KC) (b : Fin 16) (h : Fin 8) (q k : Fin 2048) :
    val_main_v12 (F := Ideal) x0 x1 x3 (ix4 b h q (fst 256 rfl k)) = score x0 x1 b h q k := by
  unfold val_main_v12
  rw [← v10_at]
  refine concatenate_pair_apply_left (t := S16x8x2048x2304) (s₁ := S16x8x2048x2048) (s₂ := S16x8x2048x256) 3 _ _ _ _ rfl (ix4 b h q k)
    fun a => ?_
  match a with
  | ⟨0, _⟩ => rfl
  | ⟨1, _⟩ => rfl
  | ⟨2, _⟩ => rfl
  | ⟨3, _⟩ => rfl

theorem v12_right (x0 x1 : Q) (x3 : KC) (b : Fin 16) (h : Fin 8) (q : Fin 2048) (k : Fin 256) :
    val_main_v12 (F := Ideal) x0 x1 x3 (ix4 b h q (snd 2048 rfl k)) = score x0 x3 b h q k := by
  unfold val_main_v12
  rw [← v11_at]
  refine concatenate_pair_apply_right (t := S16x8x2048x2304) (s₁ := S16x8x2048x2048) (s₂ := S16x8x2048x256) 3 _ _ _ _ rfl rfl
    (ix4 b h q k) (fun a ha => ?_) (Nat.add_comm _ _)
  match a with
  | ⟨0, _⟩ => rfl
  | ⟨1, _⟩ => rfl
  | ⟨2, _⟩ => rfl
  | ⟨3, _⟩ => exact absurd rfl ha

/-- A row's maximum read at an index. -/
theorem scoreMax_at (x : FVec Ideal S16x8x2048x2304 .f32) (hr : S16x8x2048x2304.Reduces [3] S16x8x2048) (i : S16x8x2048.Idx) :
    Host.reduce (FloatOps.maximumf (F := Ideal) (φ := .f32)) x (constant S_ .f32 0xFF800000#32) reducesTo_S16x8x2048x2304_S16x8x2048_d3 h_S_ i
      = top (x ∘ hr.lift i) := by
  have hφ : FKind.Formats .f32 := .inl rfl
  have hacc : 0xFF800000#32 = FKind.maximumf.neutral .f32 hφ := rfl
  refine (congrFun (hostReduce_maximumf_eq_multiReduction x _ reducesTo_S16x8x2048x2304_S16x8x2048_d3 h_S_ hr hφ hacc) i).trans ?_
  refine (Ideal.multiReduction_maximumf_single x _ hr hφ hacc i).trans ?_
  rw [neg_inf]
  rfl

/-- The largest score of a row. -/
theorem v13_at (x0 x1 : Q) (x3 : KC) (b : Fin 16) (h : Fin 8) (q : Fin 2048) :
    val_main_v13 (F := Ideal) x0 x1 x3 (ix3 b h q) = top2 (score x0 x1 b h q) (score x0 x3 b h q) := by
  unfold val_main_v13 val_main_cst
  have hr : S16x8x2048x2304.Reduces [3] S16x8x2048 := by decide
  refine (scoreMax_at _ hr _).trans ?_
  have e (k : Fin 2304) : hr.lift (ix3 b h q) k = ix4 b h q k := ext4 rfl rfl rfl rfl
  have e' : (val_main_v12 (F := Ideal) x0 x1 x3) ∘ hr.lift (ix3 b h q) = fun k : Fin 2304 => val_main_v12 (F := Ideal) x0 x1 x3 (ix4 b h q k) :=
    funext fun k => congrArg _ (e k)
  rw [e']
  refine (top_split (n := 2304) (K := 2048) (C := 256) rfl fun k : Fin 2304 => val_main_v12 (F := Ideal) x0 x1 x3 (ix4 b h q k)).trans ?_
  exact congrArg₂ top2 (funext fun k => v12_left x0 x1 x3 b h q k) (funext fun k => v12_right x0 x1 x3 b h q k)

theorem v15_at (x0 x1 : Q) (x3 : KC) (b : Fin 16) (h : Fin 8) (q : Fin 2048) :
    val_main_v15 (F := Ideal) x0 x1 x3 (ix3 b h q) = top2 (score x0 x1 b h q) (score x0 x3 b h q) := by
  rw [val_main_v15_apply, v13_at, val_main_v14_apply, val_main_cst_0_apply, neg_inf]
  exact max_eq_right bot_le

theorem row_of (b : Fin 16) (h : Fin 8) (q : Fin 2048) (k : Fin 2304) :
    idx_main_v16 (idx_main_v17 (ix4 b h q k)) = ix3 b h q := ext3 rfl rfl rfl
theorem row_of' (b : Fin 16) (h : Fin 8) (q : Fin 2048) (k : Fin 2304) :
    idx_main_v21 (idx_main_v22 (ix4 b h q k)) = ix3 b h q := ext3 rfl rfl rfl

/-- The weights. -/
theorem v19_left (x0 x1 : Q) (x3 : KC) (b : Fin 16) (h : Fin 8) (q k : Fin 2048) :
    val_main_v19 (F := Ideal) x0 x1 x3 (ix4 b h q (fst 256 rfl k))
      = weight (top2 (score x0 x1 b h q) (score x0 x3 b h q)) (score x0 x1 b h q k) := by
  rw [val_main_v19_apply, val_main_v18_apply, v12_left, val_main_v17_apply, val_main_v16_apply, row_of, v15_at]
  rfl

theorem v19_right (x0 x1 : Q) (x3 : KC) (b : Fin 16) (h : Fin 8) (q : Fin 2048) (k : Fin 256) :
    val_main_v19 (F := Ideal) x0 x1 x3 (ix4 b h q (snd 2048 rfl k))
      = weight (top2 (score x0 x1 b h q) (score x0 x3 b h q)) (score x0 x3 b h q k) := by
  rw [val_main_v19_apply, val_main_v18_apply, v12_right, val_main_v17_apply, val_main_v16_apply, row_of, v15_at]
  rfl

/-- The sum of the weights. -/
theorem v20_at (x0 x1 : Q) (x3 : KC) (b : Fin 16) (h : Fin 8) (q : Fin 2048) :
    val_main_v20 (F := Ideal) x0 x1 x3 (ix3 b h q) = total (score x0 x1 b h q) (score x0 x3 b h q) := by
  rw [val_main_v20_apply, val_main_cst_1_apply]
  refine (congrArg (· + _) Ideal.ofBits_zero_f32).trans ((zero_add _).trans ?_)
  have e (k : Fin 2304) : idx_main_v20 (ix3 b h q) k = ix4 b h q k := ext4 rfl rfl rfl rfl
  simp only [e]
  refine (sum_split (n := 2304) (K := 2048) (C := 256) rfl fun k : Fin 2304 => val_main_v19 (F := Ideal) x0 x1 x3 (ix4 b h q k)).trans ?_
  exact congrArg₂ (· + ·) (Finset.sum_congr rfl fun k _ => v19_left x0 x1 x3 b h q k)
    (Finset.sum_congr rfl fun k _ => v19_right x0 x1 x3 b h q k)

theorem v23_left (x0 x1 : Q) (x3 : KC) (b : Fin 16) (h : Fin 8) (q k : Fin 2048) :
    val_main_v23 (F := Ideal) x0 x1 x3 (ix4 b h q (fst 256 rfl k))
      = Ideal.div (weight (top2 (score x0 x1 b h q) (score x0 x3 b h q)) (score x0 x1 b h q k)) (total (score x0 x1 b h q) (score x0 x3 b h q)) := by
  rw [val_main_v23_apply, v19_left, val_main_v22_apply, val_main_v21_apply, row_of', v20_at]
  rfl

theorem v23_right (x0 x1 : Q) (x3 : KC) (b : Fin 16) (h : Fin 8) (q : Fin 2048) (k : Fin 256) :
    val_main_v23 (F := Ideal) x0 x1 x3 (ix4 b h q (snd 2048 rfl k))
      = Ideal.div (weight (top2 (score x0 x1 b h q) (score x0 x3 b h q)) (score x0 x3 b h q k)) (total (score x0 x1 b h q) (score x0 x3 b h q)) := by
  rw [val_main_v23_apply, v19_right, val_main_v22_apply, val_main_v21_apply, row_of', v20_at]
  rfl

/-- The values of the image and of the context under the divided weights. -/
theorem v25_at (x0 x1 : Q) (x2 : V) (x3 : KC) (b : Fin 16) (h : Fin 8) (c : Fin 64) (q : Fin 2048) :
    val_main_v25 (F := Ideal) x0 x1 x2 x3 (ix4 b h c q)
      = ∑ k, Ideal.div (weight (top2 (score x0 x1 b h q) (score x0 x3 b h q)) (score x0 x1 b h q k)) (total (score x0 x1 b h q) (score x0 x3 b h q))
          * value x2 b h c k := by
  rw [val_main_v25_apply]
  refine Finset.sum_congr rfl fun k _ => ?_
  rw [mul_comm, val_main_v24_apply, v5_at]
  refine congrArg₂ (· * ·) ((congrArg _ (ext4 ?_ ?_ ?_ ?_)).trans (v23_left x0 x1 x3 b h q k)) rfl <;> rfl

theorem v28_at (x0 x1 : Q) (x3 : KC) (x4 : VC) (b : Fin 16) (h : Fin 8) (c : Fin 64) (q : Fin 2048) :
    val_main_v28 (F := Ideal) x0 x1 x3 x4 (ix4 b h c q)
      = ∑ k, Ideal.div (weight (top2 (score x0 x1 b h q) (score x0 x3 b h q)) (score x0 x3 b h q k)) (total (score x0 x1 b h q) (score x0 x3 b h q))
          * value x4 b h c k := by
  rw [val_main_v28_apply]
  refine Finset.sum_congr rfl fun k _ => ?_
  rw [mul_comm, val_main_v27_apply, v9_at]
  refine congrArg₂ (· * ·) ((congrArg _ (ext4 ?_ ?_ ?_ ?_)).trans (v23_right x0 x1 x3 b h q k)) rfl <;> rfl

/-- The reference's result at an index. -/
theorem ref_at (x0 x1 : Q) (x2 : V) (x3 : KC) (x4 : VC) (b : Fin 16) (q : Fin 2048) (h : Fin 8) (c : Fin 64) :
    val_main_v32 (F := Ideal) x0 x1 x2 x3 x4 (ix3 b q (vlane h c))
      = before (score x0 x1 b h q) (score x0 x3 b h q) (value x2 b h c) (value x4 b h c) := by
  have e : idx_main_v31 (ix3 b q (vlane h c)) = ix4 b q h c := by
    refine ext4 ?_ ?_ ?_ ?_
    · show ((b.val * 2048 + q.val) * 512 + (h.val * 64 + c.val)) / 1048576 = b.val; omega
    · show ((b.val * 2048 + q.val) * 512 + (h.val * 64 + c.val)) / 512 % 2048 = q.val; omega
    · show ((b.val * 2048 + q.val) * 512 + (h.val * 64 + c.val)) / 64 % 8 = h.val; omega
    · show ((b.val * 2048 + q.val) * 512 + (h.val * 64 + c.val)) % 64 = c.val; omega
  rw [val_main_v32_apply, val_main_v31_apply, e, val_main_v30_apply, val_main_v26_apply, val_main_v29_apply]
  have e26 : idx_main_v26 (ix4 b q h c) = ix4 b h c q := ext4 rfl rfl rfl rfl
  have e29 : idx_main_v29 (ix4 b q h c) = ix4 b h c q := ext4 rfl rfl rfl rfl
  rw [e26, e29, v25_at, v28_at]
  rfl

end Cert.Mla

end
-- ==== Proof.MlaArray.lean ====
/- The latent attention's result array: what the blocks written back leave in it, index by index, and that the reference's
   result is the same where the queries and the keys are real numbers. -/
module

public import proofs.«01_k».proof.Proof.MlaKernel
public import proofs.«01_k».proof.Proof.MlaRef

@[expose] public section

set_option maxRecDepth 16384

noncomputable section

namespace Cert.Mla

open Idealize.ShloMosaic Idealize.ShloMosaic.ValueIdx Cert.Softmax Cert.Rows

/-- The head and the lane of a lane of the result. -/
def headOf (n : Fin 512) : Fin 8 := ⟨n.val / 64, by omega⟩
def laneOf (n : Fin 512) : Fin 64 := ⟨n.val % 64, by omega⟩

theorem vlane_of (n : Fin 512) : vlane (headOf n) (laneOf n) = n := Fin.ext (by
  show n.val / 64 * 64 + n.val % 64 = n.val
  omega)

/-- The weights divided once, at an index of the result. -/
def res (x0 x1 : Q) (x2 : V) (x3 : KC) (x4 : VC) : V := fun i =>
  after (score x0 x1 (i 0) (headOf (i 2)) (i 1)) (score x0 x3 (i 0) (headOf (i 2)) (i 1))
    (value x2 (i 0) (headOf (i 2)) (laneOf (i 2))) (value x4 (i 0) (headOf (i 2)) (laneOf (i 2)))

theorem headOf_vlane (h : Fin 8) (c : Fin 64) : headOf (vlane h c) = h := Fin.ext (by
  show (h.val * 64 + c.val) / 64 = h.val; omega)
theorem laneOf_vlane (h : Fin 8) (c : Fin 64) : laneOf (vlane h c) = c := Fin.ext (by
  show (h.val * 64 + c.val) % 64 = c.val; omega)

theorem res_at (x0 x1 : Q) (x2 : V) (x3 : KC) (x4 : VC) (b : Fin 16) (q : Fin 2048) (h : Fin 8) (c : Fin 64) :
    res x0 x1 x2 x3 x4 (ix3 b q (vlane h c)) = after (score x0 x1 b h q) (score x0 x3 b h q) (value x2 b h c) (value x4 b h c) := by
  show after (score x0 x1 b (headOf (vlane h c)) q) (score x0 x3 b (headOf (vlane h c)) q)
    (value x2 b (headOf (vlane h c)) (laneOf (vlane h c))) (value x4 b (headOf (vlane h c)) (laneOf (vlane h c))) = _
  rw [headOf_vlane, laneOf_vlane]

theorem score_real {S : ℕ} (x0 : Q) (x1 : FVec Ideal ⟨3, ![16, S, 1024]⟩ .bf16) (h0 : ∀ i, IsReal (x0 i)) (h1 : ∀ i, IsReal (x1 i))
    (b : Fin 16) (h : Fin 8) (q : Fin 2048) (k : Fin S) : IsReal (score x0 x1 b h q k) :=
  isReal_sum _ _ fun _ _ => (h0 _).mul (h1 _)

/-- On real queries and keys it is the reference's result. -/
theorem res_eq (x0 x1 : Q) (x2 : V) (x3 : KC) (x4 : VC) (h0 : ∀ i, IsReal (x0 i)) (h1 : ∀ i, IsReal (x1 i)) (h3 : ∀ i, IsReal (x3 i)) :
    res x0 x1 x2 x3 x4 = Cert.ReferenceIdeal.Read.val_main_v32 (F := Ideal) x0 x1 x2 x3 x4 := by
  funext i
  obtain ⟨b, q, n, rfl⟩ : ∃ (b : Fin 16) (q : Fin 2048) (n : Fin 512), i = ix3 b q n := ⟨i 0, i 1, i 2, ext3 rfl rfl rfl⟩
  rw [← vlane_of n, ref_at, res_at]
  exact after_eq_before _ _ _ _ (by decide) (score_real x0 x1 h0 h1 _ _ _) (score_real x0 x3 h0 h3 _ _ _)

end Cert.Mla

namespace Cert.MlaArray

open Cert.KernelIdeal Cert.KernelIdeal.Gen Idealize.ShloMosaic Idealize.ShloMosaic.TcCoe Idealize.SL.Sem Idealize.ShloMosaic.ValueIdx
open Cert.Softmax Cert.Rows Cert.Mla Cert.MlaBlock
open Idealize.ShloMosaic.Pipeline (Dat Window)

variable (m : (ℓ : Loc nD τ sig) → Buf (Elt Ideal) ℓ) (ρ : Dev nD → PrngReg)

/-- The result of device `c`'s arguments. -/
abbrev result (c : Dev nD) : Buf (Elt Ideal) ((c : Thread nD τ).loc main_v0) :=
  res (m ((c : Thread nD τ).loc main_arg0)) (m ((c : Thread nD τ).loc main_arg1)) (m ((c : Thread nD τ).loc main_arg2))
    (m ((c : Thread nD τ).loc main_arg3)) (m ((c : Thread nD τ).loc main_arg4))

/-- The image, the query block and the pair of heads of a point. -/
theorem moves : ∀ t : Fin grid0.N,
    (win0_0.index t 0 = t.val / 32 ∧ win0_0.index t 1 = t.val % 8 ∧ win0_0.index t 2 = t.val / 8 % 4)
    ∧ (win0_5.index t 0 = t.val / 32 ∧ win0_5.index t 1 = t.val % 8 ∧ win0_5.index t 2 = t.val / 8 % 4) := by decide +kernel

theorem stays : ∀ t : Fin grid0.N,
    (win0_1.index t 0 = t.val / 32 ∧ win0_1.index t 1 = 0 ∧ win0_1.index t 2 = t.val / 8 % 4)
    ∧ (win0_2.index t 0 = t.val / 32 ∧ win0_2.index t 1 = 0 ∧ win0_2.index t 2 = t.val / 8 % 4)
    ∧ (win0_3.index t 0 = t.val / 32 ∧ win0_3.index t 1 = 0 ∧ win0_3.index t 2 = t.val / 8 % 4)
    ∧ (win0_4.index t 0 = t.val / 32 ∧ win0_4.index t 1 = 0 ∧ win0_4.index t 2 = t.val / 8 % 4) := by decide +kernel

def img (t : Fin grid0.N) : Fin 16 := ⟨t.val / 32, by have := lt_of_lt_of_eq t.isLt Gen.N_0; omega⟩
def row (t : Fin grid0.N) (r : Fin 256) : Fin 2048 := ⟨t.val % 8 * 256 + r.val, by omega⟩
def hd (t : Fin grid0.N) (j : Fin 2) : Fin 8 := ⟨t.val / 8 % 4 * 2 + j.val, by omega⟩

theorem emb0 (t : Fin grid0.N) (r : Fin 256) (j : Fin 2) (d : Fin 128) :
    (win0_0.rect t).emb (ix3 0 r (qlane j d)) = ix3 (img t) (row t r) (lane (hd t j) d) := by
  obtain ⟨⟨e0, e1, e2⟩, _⟩ := moves t
  refine ext3 ?_ ?_ ?_ <;> rw [Window.rect_emb_val win0_0 t]
  · rw [e0]; show t.val / 32 * 1 + 0 = t.val / 32; omega
  · rw [e1]; rfl
  · rw [e2]; show t.val / 8 % 4 * 256 + (j.val * 128 + d.val) = (t.val / 8 % 4 * 2 + j.val) * 128 + d.val; omega

theorem emb5 (t : Fin grid0.N) (r : Fin 256) (j : Fin 2) (d : Fin 64) :
    (win0_5.rect t).emb (ix3 0 r (clane j d)) = ix3 (img t) (row t r) (vlane (hd t j) d) := by
  obtain ⟨_, e0, e1, e2⟩ := moves t
  refine ext3 ?_ ?_ ?_ <;> rw [Window.rect_emb_val win0_5 t]
  · rw [e0]; show t.val / 32 * 1 + 0 = t.val / 32; omega
  · rw [e1]; rfl
  · rw [e2]; show t.val / 8 % 4 * 128 + (j.val * 64 + d.val) = (t.val / 8 % 4 * 2 + j.val) * 64 + d.val; omega

theorem emb1 (t : Fin grid0.N) (k : Fin 2048) (j : Fin 2) (d : Fin 128) :
    (win0_1.rect t).emb (ix3 0 k (qlane j d)) = ix3 (img t) k (lane (hd t j) d) := by
  obtain ⟨⟨e0, e1, e2⟩, _⟩ := stays t
  refine ext3 ?_ ?_ ?_ <;> rw [Window.rect_emb_val win0_1 t]
  · rw [e0]; show t.val / 32 * 1 + 0 = t.val / 32; omega
  · rw [e1]; show 0 * 2048 + k.val = k.val; omega
  · rw [e2]; show t.val / 8 % 4 * 256 + (j.val * 128 + d.val) = (t.val / 8 % 4 * 2 + j.val) * 128 + d.val; omega

theorem emb2 (t : Fin grid0.N) (k : Fin 2048) (j : Fin 2) (d : Fin 64) :
    (win0_2.rect t).emb (ix3 0 k (clane j d)) = ix3 (img t) k (vlane (hd t j) d) := by
  obtain ⟨_, ⟨e0, e1, e2⟩, _⟩ := stays t
  refine ext3 ?_ ?_ ?_ <;> rw [Window.rect_emb_val win0_2 t]
  · rw [e0]; show t.val / 32 * 1 + 0 = t.val / 32; omega
  · rw [e1]; show 0 * 2048 + k.val = k.val; omega
  · rw [e2]; show t.val / 8 % 4 * 128 + (j.val * 64 + d.val) = (t.val / 8 % 4 * 2 + j.val) * 64 + d.val; omega

theorem emb3 (t : Fin grid0.N) (k : Fin 256) (j : Fin 2) (d : Fin 128) :
    (win0_3.rect t).emb (ix3 0 k (qlane j d)) = ix3 (img t) k (lane (hd t j) d) := by
  obtain ⟨_, _, ⟨e0, e1, e2⟩, _⟩ := stays t
  refine ext3 ?_ ?_ ?_ <;> rw [Window.rect_emb_val win0_3 t]
  · rw [e0]; show t.val / 32 * 1 + 0 = t.val / 32; omega
  · rw [e1]; show 0 * 256 + k.val = k.val; omega
  · rw [e2]; show t.val / 8 % 4 * 256 + (j.val * 128 + d.val) = (t.val / 8 % 4 * 2 + j.val) * 128 + d.val; omega

theorem emb4 (t : Fin grid0.N) (k : Fin 256) (j : Fin 2) (d : Fin 64) :
    (win0_4.rect t).emb (ix3 0 k (clane j d)) = ix3 (img t) k (vlane (hd t j) d) := by
  obtain ⟨_, _, _, e0, e1, e2⟩ := stays t
  refine ext3 ?_ ?_ ?_ <;> rw [Window.rect_emb_val win0_4 t]
  · rw [e0]; show t.val / 32 * 1 + 0 = t.val / 32; omega
  · rw [e1]; show 0 * 256 + k.val = k.val; omega
  · rw [e2]; show t.val / 8 % 4 * 128 + (j.val * 64 + d.val) = (t.val / 8 % 4 * 2 + j.val) * 64 + d.val; omega

theorem in0 (c : Dev nD) (t : Fin grid0.N) (r : Fin 256) (j : Fin 2) (d : Fin 128) :
    iblk m c 0 t (ix3 0 r (qlane j d)) = m ((c : Thread nD τ).loc main_arg0) (ix3 (img t) (row t r) (lane (hd t j) d)) :=
  congrArg (m ((c : Thread nD τ).loc main_arg0)) (emb0 t r j d)
theorem in1 (c : Dev nD) (t : Fin grid0.N) (k : Fin 2048) (j : Fin 2) (d : Fin 128) :
    iblk m c 1 t (ix3 0 k (qlane j d)) = m ((c : Thread nD τ).loc main_arg1) (ix3 (img t) k (lane (hd t j) d)) :=
  congrArg (m ((c : Thread nD τ).loc main_arg1)) (emb1 t k j d)
theorem in2 (c : Dev nD) (t : Fin grid0.N) (k : Fin 2048) (j : Fin 2) (d : Fin 64) :
    iblk m c 2 t (ix3 0 k (clane j d)) = m ((c : Thread nD τ).loc main_arg2) (ix3 (img t) k (vlane (hd t j) d)) :=
  congrArg (m ((c : Thread nD τ).loc main_arg2)) (emb2 t k j d)
theorem in3 (c : Dev nD) (t : Fin grid0.N) (k : Fin 256) (j : Fin 2) (d : Fin 128) :
    iblk m c 3 t (ix3 0 k (qlane j d)) = m ((c : Thread nD τ).loc main_arg3) (ix3 (img t) k (lane (hd t j) d)) :=
  congrArg (m ((c : Thread nD τ).loc main_arg3)) (emb3 t k j d)
theorem in4 (c : Dev nD) (t : Fin grid0.N) (k : Fin 256) (j : Fin 2) (d : Fin 64) :
    iblk m c 4 t (ix3 0 k (clane j d)) = m ((c : Thread nD τ).loc main_arg4) (ix3 (img t) k (vlane (hd t j) d)) :=
  congrArg (m ((c : Thread nD τ).loc main_arg4)) (emb4 t k j d)

/-- What a point writes back is its block of the result. -/
theorem flushed_eq (c : Dev nD) (t : Fin cfg0.N) :
    (dats m 0 c).flushed 5 t = ((cfg0.win 5).blk t).view.read (Elt Ideal) (result m c) := by
  rw [Value.flushed5]
  funext y
  obtain ⟨r, j, d, rfl⟩ : ∃ (r : Fin 256) (j : Fin 2) (d : Fin 64), y = (ix3 0 r (clane j d) : S1x256x128.Idx) := by
    have h2 : (y 2).val < 128 := (y 2).isLt
    have h0 : (y 0).val < 1 := (y 0).isLt
    refine ⟨y 1, ⟨(y 2).val / 64, by omega⟩, ⟨(y 2).val % 64, by omega⟩, ext3 ?_ rfl ?_⟩
    · show (y 0).val = 0; omega
    · show (y 2).val = (y 2).val / 64 * 64 + (y 2).val % 64; omega
  refine (out_at _ _ _ _ _ r j d).trans ?_
  refine Eq.trans ?_ (congrArg (result m c) (emb5 t r j d)).symm
  refine Eq.trans ?_ (res_at _ _ _ _ _ _ _ _ _).symm
  refine congr (congr (congrArg₂ after (funext fun k => ?_) (funext fun k => ?_)) (funext fun k => in2 m c t k j d)) (funext fun k => in4 m c t k j d)
  · exact Finset.sum_congr rfl fun d _ => congrArg₂ (· * ·) (in0 m c t r j d) (in1 m c t k j d)
  · exact Finset.sum_congr rfl fun d _ => congrArg₂ (· * ·) (in0 m c t r j d) (in3 m c t k j d)

/-- The blocks tile the result. -/
theorem cover (i : S16x2048x512.Idx) : ∃ t : Fin cfg0.N, (cfg0.win 5).flush t = true ∧ i ∈ ((cfg0.win 5).blk t).view.set := by
  have h0 : (i 0).val < 16 := (i 0).isLt
  have h1 : (i 1).val < 2048 := (i 1).isLt
  have h2 : (i 2).val < 512 := (i 2).isLt
  have hN : cfg0.N = 512 := N_0
  obtain ⟨t, ht⟩ : ∃ t : Fin cfg0.N, t.val = (i 0).val * 32 + (i 2).val / 128 * 8 + (i 1).val / 256 := ⟨⟨_, by omega⟩, rfl⟩
  refine ⟨t, flush0_5 _, ?_⟩
  have e : i = (win0_5.rect t).emb
      (ix3 0 ⟨(i 1).val % 256, by omega⟩ (clane ⟨(i 2).val / 64 % 2, by omega⟩ ⟨(i 2).val % 64, by omega⟩)) := by
    rw [emb5]
    refine ext3 ?_ ?_ ?_
    · show (i 0).val = t.val / 32; omega
    · show (i 1).val = t.val % 8 * 256 + (i 1).val % 256; omega
    · show (i 2).val = (t.val / 8 % 4 * 2 + (i 2).val / 64 % 2) * 64 + (i 2).val % 64; omega
  rw [e]
  exact View.emb_mem_set ((cfg0.win 5).blk t).view _

theorem final (c : Dev nD) : (dats m 0 c).arrAt 5 cfg0.N = result m c :=
  (dats m 0 c).arrAt_eq_of_cover 5 (result m c) (fun t _ => flushed_eq m c t) cover

end Cert.MlaArray

end
-- ==== Proof.Finite.lean ====
/- The precondition read at an index: where the mask is set the entry is a real number. -/
module

public import proofs.«01_k».proof.Pre_finite
public import proofs.«01_k».proof.Proof.Softmax
public import Idealize.ShloMosaic.Lib.ValueIdx

@[expose] public section

noncomputable section

namespace Cert.Finite

open Idealize.ShloMosaic Cert.Softmax

theorem facts : Cert.Pre_finite.Facts := ⟨by decide, by decide, by decide⟩

/-- The word of +∞. -/
theorem inf : Ideal.ofBits .f32 0x7F800000#32 = ⊤ := by
  simp [Ideal.ofBits, Ideal.ieee]

/-- An absolute value below +∞ is a real number's. -/
theorem isReal_of (x : EReal) (h : Ideal.cmp .olt (max x (-x)) (Ideal.ofBits .f32 0x7F800000#32) = 1#1) : IsReal x := by
  rw [inf] at h
  have h1 : max x (-x) < ⊤ := by
    by_contra hn
    have : Ideal.cmp .olt (max x (-x)) ⊤ = 0#1 := by
      show BitVec.ofBool (decide (max x (-x) < ⊤)) = 0#1
      rw [decide_eq_false hn]; rfl
    rw [this] at h
    exact absurd h (by decide)
  refine ⟨fun e => ?_, fun e => ?_⟩
  · rw [e, EReal.neg_bot] at h1; exact absurd (le_max_right _ _) (not_le.mpr h1)
  · rw [e] at h1; exact absurd (le_max_left _ _) (not_le.mpr h1)

variable [Cert.Pre_finite.Facts] (a0 a1 : FVec Ideal Cert.Pre_finite.S16x2048x1024 .bf16) (a2 : FVec Ideal Cert.Pre_finite.S16x2048x512 .bf16)
variable (a3 : FVec Ideal Cert.Pre_finite.S16x256x1024 .bf16) (a4 : FVec Ideal Cert.Pre_finite.S16x256x512 .bf16)

theorem real0 (h : (Cert.Pre_finite.fn a0 a1 a2 a3 a4).1 = fun _ => 1#1) (i : Cert.Pre_finite.S16x2048x1024.Idx) : IsReal (a0 i) :=
  isReal_of _ (congrFun h i)
theorem real1 (h : (Cert.Pre_finite.fn a0 a1 a2 a3 a4).2.1 = fun _ => 1#1) (i : Cert.Pre_finite.S16x2048x1024.Idx) : IsReal (a1 i) :=
  isReal_of _ (congrFun h i)
theorem real3 (h : (Cert.Pre_finite.fn a0 a1 a2 a3 a4).2.2 = fun _ => 1#1) (i : Cert.Pre_finite.S16x256x1024.Idx) : IsReal (a3 i) :=
  isReal_of _ (congrFun h i)

end Cert.Finite

end
-- ==== Proof.ExpertsRun.lean ====
module

public import proofs.«01_k».proof.Proof.Gen.Kernel2Ideal.Skeleton
public import proofs.«01_k».proof.Proof.Gen.Kernel2Ideal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.VecWindow
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

/-!
The body of the experts' kernel at one grid point, in its three cases: a block in use whose expert's
weights are converted there, a block in use that finds them converted, and a block out of use. Each case
says what the output buffer and the three scratch buffers hold afterwards.
-/

@[expose] public section

set_option maxRecDepth 16384
set_option Elab.async false

noncomputable section

namespace Cert.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The table of experts, the count of blocks in use and the three scratch buffers, whole. -/
abbrev ids : Memref sig .tc .smem S352 .i32 := Memref.whole main_arg1
abbrev cnt : Memref sig .tc .smem S1 .i32 := Memref.whole main_arg2
abbrev sc1 : Memref sig .tc .vmem S1024x1024 .bf16 := Memref.whole cc0_scratch0
abbrev sc2 : Memref sig .tc .vmem S1024x1024 .bf16 := Memref.whole cc0_scratch1
abbrev sc3 : Memref sig .tc .vmem S1024x1024 .bf16 := Memref.whole cc0_scratch2

/-- The word the body reads for the count of blocks in use. -/
abbrev cntW (T1 : S1.Idx → Elt Ideal .i32) : BitVec 32 :=
  View.readAt (Elt Ideal) cnt.view (Rect.unit (s := S1) ![0] S1.size inb_S1_S1_0).toLoadRect T1 (Shape.Idx.first (numel1_S1.symm ▸ Nat.one_pos))

/-- The expert of the block before, and of the block, as the body reads them. -/
abbrev prevW (i : grid0.Coords) (T0 : S352.Idx → Elt Ideal .i32) : BitVec 32 :=
  View.readAt (Elt Ideal) ids.view (Rect.unit (s := S352) (k0_off2 i) S1.size (k0_off2_inb i)).toLoadRect T0 (Shape.Idx.first (numel1_S1.symm ▸ Nat.one_pos))
abbrev curW (i : grid0.Coords) (T0 : S352.Idx → Elt Ideal .i32) : BitVec 32 :=
  View.readAt (Elt Ideal) ids.view (Rect.unit (s := S352) (k0_off3 i) S1.size (k0_off3_inb i)).toLoadRect T0 (Shape.Idx.first (numel1_S1.symm ▸ Nat.one_pos))

/-- Whether the weights are converted at the point, as the body computes it. -/
abbrev newW (i : grid0.Coords) (T0 : S352.Idx → Elt Ideal .i32) : BitVec 1 :=
  Scalar.cmpi .ne (Scalar.extui (Scalar.ori (Scalar.cmpi .eq (BitVec.ofNat 32 (i 0).val) 0#32) (Scalar.cmpi .ne (curW i T0) (prevW i T0)))) 0#32

/-- The body at a point, on any staging buffers. -/
abbrev body (i : grid0.Coords) (arg3 : Memref sig .tc .vmem S256x1024 .f32) (harg3 : arg3.IsWhole)
    (arg4 : Memref sig .tc .vmem S1x1x1024x1024 .f32) (harg4 : arg4.IsWhole) (arg5 : Memref sig .tc .vmem S1x1x1024x1024 .f32) (harg5 : arg5.IsWhole)
    (arg6 : Memref sig .tc .vmem S1x1x1024x1024 .f32) (harg6 : arg6.IsWhole) (arg7 : Memref sig .tc .vmem S256x1024 .f32) (harg7 : arg7.IsWhole) :
    Prog (TpuEff nD τ sig (Elt Ideal) Λ₀ .tc) PUnit :=
  cc0_moe_experts i ids (Memref.isWhole_whole _) cnt (Memref.isWhole_whole _) arg3 harg3 arg4 harg4 arg5 harg5 arg6 harg6 arg7 harg7
    sc1 (Memref.isWhole_whole _) sc2 (Memref.isWhole_whole _) sc3 (Memref.isWhole_whole _)

variable (c : Dev nD) (i : grid0.Coords) (arg3 : Memref sig .tc .vmem S256x1024 .f32) (harg3 : arg3.IsWhole)
    (arg4 : Memref sig .tc .vmem S1x1x1024x1024 .f32) (harg4 : arg4.IsWhole) (arg5 : Memref sig .tc .vmem S1x1x1024x1024 .f32) (harg5 : arg5.IsWhole)
    (arg6 : Memref sig .tc .vmem S1x1x1024x1024 .f32) (harg6 : arg6.IsWhole) (arg7 : Memref sig .tc .vmem S256x1024 .f32) (harg7 : arg7.IsWhole)
    (T0 : S352.Idx → Elt Ideal .i32) (T1 : S1.Idx → Elt Ideal .i32)
    (x0 : S256x1024.Idx → Elt Ideal .f32) (x1 x2 x3 : S1x1x1024x1024.Idx → Elt Ideal .f32)

/-- What the body holds: the four input blocks, the output block's buffer, the scratch buffers and the tables. -/
def held (d : S256x1024.Idx → Elt Ideal .f32) (a1 a2 a3 : S1024x1024.Idx → Elt Ideal .bf16) : sProp 𝕄 :=
  iprop((arg3.view.loc (c : Thread nD τ) ↦[arg3.view.set]{fullShare} arg3.view.rep x0) ∗ (arg4.view.loc (c : Thread nD τ) ↦[arg4.view.set]{fullShare} arg4.view.rep x1) ∗ (arg5.view.loc (c : Thread nD τ) ↦[arg5.view.set]{fullShare} arg5.view.rep x2)
    ∗ (arg6.view.loc (c : Thread nD τ) ↦[arg6.view.set]{fullShare} arg6.view.rep x3) ∗ owns (c : Thread nD τ) arg7 fullShare d
    ∗ (sc1.view.loc (c : Thread nD τ) ↦{fullShare} a1) ∗ (sc2.view.loc (c : Thread nD τ) ↦{fullShare} a2) ∗ (sc3.view.loc (c : Thread nD τ) ↦{fullShare} a3)
    ∗ (ids.view.loc (c : Thread nD τ) ↦{fullShare.right} T0) ∗ (cnt.view.loc (c : Thread nD τ) ↦{fullShare.right} T1))

/-- A whole buffer stored whole holds what was stored. -/
theorem scratch_stored (b : Ref sig .tc) (f : b.ty.Contents (Elt Ideal)) {off : Fin b.ty.shape.rank → ℕ} (inb : ∀ a, off a + b.ty.shape.size a ≤ b.ty.shape.size a)
    (w : b.ty.shape.Idx → Elt Ideal b.ty.elt) :
    (View.whole b).writes (Elt Ideal) f [⟨Rect.unit off b.ty.shape.size inb, w⟩] = w :=
  (View.read_whole b _).symm.trans (View.read_writes_full _ _ _ _ _)

set_option maxHeartbeats 8000000 in
/-- A block in use at a new expert: the weights are converted into the scratch buffers and the block computed. -/
theorem run_new (hu : k0_cond1 i (cntW T1) = 1#1) (hn : newW i T0 = 1#1) (hz : ¬(k0_cond3 i (cntW T1) = 1#1))
    (d : S256x1024.Idx → Elt Ideal .f32) (a1 a2 a3 : S1024x1024.Idx → Elt Ideal .bf16) (K : PUnit → sProp 𝕄) :
    iprop(held c arg3 arg4 arg5 arg6 arg7 T0 T1 x0 x1 x2 x3 d a1 a2 a3
        ∗ (held c arg3 arg4 arg5 arg6 arg7 T0 T1 x0 x1 x2 x3 (k0_pay4 x0 (k0_pay1 x1) (k0_pay2 x2) (k0_pay3 x3)) (k0_pay1 x1) (k0_pay2 x2) (k0_pay3 x3) -∗ K ⟨⟩))
      ⊢ wp frame (wpE (defs₀ (F := Ideal)) Variants.none c none) Set.univ
          (body i arg3 harg3 arg4 harg4 arg5 harg5 arg6 harg6 arg7 harg7) K := by
  unfold held
  unfold owns body
  rw [cc0_moe_experts_eq_skeleton]; unfold cc0_moe_experts_skel
  iintro ⟨⟨H0, H1, H2, H3, ⟨%f4, -, HO4⟩, HS0, HS1, HS2, HT0, HT1⟩, Hk⟩
  have hS0 : sc1.IsWhole := Memref.isWhole_whole _
  have hS1 : sc2.IsWhole := Memref.isWhole_whole _
  have hS2 : sc3.IsWhole := Memref.isWhole_whole _
  have hT0 : ids.IsWhole := Memref.isWhole_whole _
  have hT1 : cnt.IsWhole := Memref.isWhole_whole _
  sl_exec! (disch := first | (guard_target = k0_cond1 _ _ = _; exact hu) | (guard_target = Scalar.cmpi = _; exact hn) | (guard_target = ¬(k0_cond3 _ _ = _); exact hz))
  sl_step
  have l1 : run_new.sl.HS0_1 arg4 x1 = [⟨Rect.unit (s := S1024x1024) ![0, 0] S1024x1024.size inb_S1024x1024_S1024x1024_0_0, k0_pay1 x1⟩] := by
    unfold run_new.sl.HS0_1; rw [View.readAt_rep_full]
  have e1 : sc1.view.writes (Elt Ideal) sc1.view.junk (run_new.sl.HS0_1 arg4 x1) = k0_pay1 x1 := by
    rw [l1]; exact scratch_stored cc0_scratch0 _ _ _
  have l2 : run_new.sl.HS1_1 arg5 x2 = [⟨Rect.unit (s := S1024x1024) ![0, 0] S1024x1024.size inb_S1024x1024_S1024x1024_0_0, k0_pay2 x2⟩] := by
    unfold run_new.sl.HS1_1; rw [View.readAt_rep_full]
  have e2 : sc2.view.writes (Elt Ideal) sc2.view.junk (run_new.sl.HS1_1 arg5 x2) = k0_pay2 x2 := by
    rw [l2]; exact scratch_stored cc0_scratch1 _ _ _
  have l3 : run_new.sl.HS2_1 arg6 x3 = [⟨Rect.unit (s := S1024x1024) ![0, 0] S1024x1024.size inb_S1024x1024_S1024x1024_0_0, k0_pay3 x3⟩] := by
    unfold run_new.sl.HS2_1; rw [View.readAt_rep_full]
  have e3 : sc3.view.writes (Elt Ideal) sc3.view.junk (run_new.sl.HS2_1 arg6 x3) = k0_pay3 x3 := by
    rw [l3]; exact scratch_stored cc0_scratch2 _ _ _
  have v1 : run_new.sl.v20 arg4 x1 = k0_pay1 x1 := by
    unfold run_new.sl.v20; rw [l1]; exact View.readCov_full sc1.view _ _ _ _
  have v2 : run_new.sl.v22 arg5 x2 = k0_pay2 x2 := by
    unfold run_new.sl.v22; rw [l2]; exact View.readCov_full sc2.view _ _ _ _
  have v3 : run_new.sl.v34 arg6 x3 = k0_pay3 x3 := by
    unfold run_new.sl.v34; rw [l3]; exact View.readCov_full sc3.view _ _ _ _
  have eo : arg7.view.read (Elt Ideal) (arg7.view.writes (Elt Ideal) arg7.view.junk (run_new.sl.HO4_1 arg3 arg4 arg5 arg6 x0 x1 x2 x3))
      = k0_pay4 x0 (k0_pay1 x1) (k0_pay2 x2) (k0_pay3 x3) := by
    unfold run_new.sl.HO4_1
    rw [v1, v2, v3, View.readAt_rep_full]
    exact View.read_writes_full arg7.view _ _ _ _
  rw [e1, e2, e3]
  iapply Hk
  isplitl [H0]; · iexact H0
  isplitl [H1]; · iexact H1
  isplitl [H2]; · iexact H2
  isplitl [H3]; · iexact H3
  isplitl [HO4]
  · iexists _
    isplitr; swap
    · iexact HO4
    · ipureintro; exact eo
  isplitl [HS0]; · iexact HS0
  isplitl [HS1]; · iexact HS1
  isplitl [HS2]; · iexact HS2
  isplitl [HT0]; · iexact HT0
  iexact HT1

set_option maxHeartbeats 8000000 in
/-- A block in use at the expert of the block before: the block is computed from what the scratch buffers hold. -/
theorem run_same (hu : k0_cond1 i (cntW T1) = 1#1) (hn : ¬(newW i T0 = 1#1)) (hz : ¬(k0_cond3 i (cntW T1) = 1#1))
    (d : S256x1024.Idx → Elt Ideal .f32) (a1 a2 a3 : S1024x1024.Idx → Elt Ideal .bf16) (K : PUnit → sProp 𝕄) :
    iprop(held c arg3 arg4 arg5 arg6 arg7 T0 T1 x0 x1 x2 x3 d a1 a2 a3
        ∗ (held c arg3 arg4 arg5 arg6 arg7 T0 T1 x0 x1 x2 x3 (k0_pay4 x0 a1 a2 a3) a1 a2 a3 -∗ K ⟨⟩))
      ⊢ wp frame (wpE (defs₀ (F := Ideal)) Variants.none c none) Set.univ
          (body i arg3 harg3 arg4 harg4 arg5 harg5 arg6 harg6 arg7 harg7) K := by
  unfold held
  unfold owns body
  rw [cc0_moe_experts_eq_skeleton]; unfold cc0_moe_experts_skel
  iintro ⟨⟨H0, H1, H2, H3, ⟨%f4, -, HO4⟩, HS0, HS1, HS2, HT0, HT1⟩, Hk⟩
  have hS0 : sc1.IsWhole := Memref.isWhole_whole _
  have hS1 : sc2.IsWhole := Memref.isWhole_whole _
  have hS2 : sc3.IsWhole := Memref.isWhole_whole _
  have hT0 : ids.IsWhole := Memref.isWhole_whole _
  have hT1 : cnt.IsWhole := Memref.isWhole_whole _
  sl_exec! (disch := first | (guard_target = k0_cond1 _ _ = _; exact hu) | (guard_target = ¬(Scalar.cmpi = _); exact hn) | (guard_target = ¬(k0_cond3 _ _ = _); exact hz))
  sl_step
  have v1 : sc1.view.readAt (Elt Ideal) (Rect.unit (s := S1024x1024) ![0, 0] S1024x1024.size inb_S1024x1024_S1024x1024_0_0).toLoadRect a1 = a1 :=
    (View.readAt_full sc1.view _ _).trans (View.read_whole _ _)
  have v2 : sc2.view.readAt (Elt Ideal) (Rect.unit (s := S1024x1024) ![0, 0] S1024x1024.size inb_S1024x1024_S1024x1024_0_0).toLoadRect a2 = a2 :=
    (View.readAt_full sc2.view _ _).trans (View.read_whole _ _)
  have v3 : sc3.view.readAt (Elt Ideal) (Rect.unit (s := S1024x1024) ![0, 0] S1024x1024.size inb_S1024x1024_S1024x1024_0_0).toLoadRect a3 = a3 :=
    (View.readAt_full sc3.view _ _).trans (View.read_whole _ _)
  have eo : arg7.view.read (Elt Ideal) (arg7.view.writes (Elt Ideal) arg7.view.junk (run_same.sl.HO4_1 arg3 x0 a1 a2 a3))
      = k0_pay4 x0 a1 a2 a3 := by
    unfold run_same.sl.HO4_1
    rw [v1, v2, v3, View.readAt_rep_full]
    exact View.read_writes_full arg7.view _ _ _ _
  iapply Hk
  isplitl [H0]; · iexact H0
  isplitl [H1]; · iexact H1
  isplitl [H2]; · iexact H2
  isplitl [H3]; · iexact H3
  isplitl [HO4]
  · iexists _
    isplitr; swap
    · iexact HO4
    · ipureintro; exact eo
  isplitl [HS0]; · iexact HS0
  isplitl [HS1]; · iexact HS1
  isplitl [HS2]; · iexact HS2
  isplitl [HT0]; · iexact HT0
  iexact HT1

set_option maxHeartbeats 8000000 in
/-- A block out of use: it is filled with zeros, and the scratch buffers are left as they are. -/
theorem run_unused (hu : ¬(k0_cond1 i (cntW T1) = 1#1)) (hz : k0_cond3 i (cntW T1) = 1#1)
    (d : S256x1024.Idx → Elt Ideal .f32) (a1 a2 a3 : S1024x1024.Idx → Elt Ideal .bf16) (K : PUnit → sProp 𝕄) :
    iprop(held c arg3 arg4 arg5 arg6 arg7 T0 T1 x0 x1 x2 x3 d a1 a2 a3
        ∗ (held c arg3 arg4 arg5 arg6 arg7 T0 T1 x0 x1 x2 x3 (k0_pay5 (F := Ideal)) a1 a2 a3 -∗ K ⟨⟩))
      ⊢ wp frame (wpE (defs₀ (F := Ideal)) Variants.none c none) Set.univ
          (body i arg3 harg3 arg4 harg4 arg5 harg5 arg6 harg6 arg7 harg7) K := by
  unfold held
  unfold owns body
  rw [cc0_moe_experts_eq_skeleton]; unfold cc0_moe_experts_skel
  iintro ⟨⟨H0, H1, H2, H3, ⟨%f4, -, HO4⟩, HS0, HS1, HS2, HT0, HT1⟩, Hk⟩
  have hS0 : sc1.IsWhole := Memref.isWhole_whole _
  have hS1 : sc2.IsWhole := Memref.isWhole_whole _
  have hS2 : sc3.IsWhole := Memref.isWhole_whole _
  have hT0 : ids.IsWhole := Memref.isWhole_whole _
  have hT1 : cnt.IsWhole := Memref.isWhole_whole _
  sl_exec! (disch := first | (guard_target = ¬(k0_cond1 _ _ = _); exact hu) | (guard_target = k0_cond3 _ _ = _; exact hz))
  sl_step
  have eo : arg7.view.read (Elt Ideal) (arg7.view.writes (Elt Ideal) arg7.view.junk run_unused.sl.HO4_1)
      = k0_pay5 (F := Ideal) := by
    unfold run_unused.sl.HO4_1; exact View.read_writes_full arg7.view _ _ _ _
  iapply Hk
  isplitl [H0]; · iexact H0
  isplitl [H1]; · iexact H1
  isplitl [H2]; · iexact H2
  isplitl [H3]; · iexact H3
  isplitl [HO4]
  · iexists _
    isplitr; swap
    · iexact HO4
    · ipureintro; exact eo
  isplitl [HS0]; · iexact HS0
  isplitl [HS1]; · iexact HS1
  isplitl [HS2]; · iexact HS2
  isplitl [HT0]; · iexact HT0
  iexact HT1

end Cert.Experts

end

end
-- ==== Proof.ExpertsFrame.lean ====
module

public import proofs.«01_k».proof.Proof.ExpertsRun
public import proofs.«01_k».proof.Proof.Rows

/-!
The experts' kernel as a pipeline, at any table whose entries name experts: what every grid point finds and
leaves, and that the whole call ends with its arguments unchanged and its result array at the blocks left.

A block in use at the expert of the block before finds that expert's weights in the scratch buffers, since the
block before was in use too.
-/

@[expose] public section

set_option maxRecDepth 16384
set_option Elab.async false

noncomputable section

namespace Cert.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.Rows (ext1 ext2 ext3 ext4)
open Idealize.ShloMosaic.Pipeline (Dat Cfg Window BodyObligation BodyObligationLoose cellOf)

local notation "𝕄" => MT nD τ sig Unit (Elt Ideal) ℕ (UR sig nD τ) ℕ

/-! ## The words read -/

/-- Entry `n` of the table of experts. -/
def slot (n : Fin 352) : S352.Idx := fun a => ⟨n.val, by fin_cases a; exact n.isLt⟩

theorem eq_slot (x : S352.Idx) (n : Fin 352) (h : (x 0).val = n.val) : x = slot n :=
  funext fun a => by fin_cases a; exact Fin.ext h

theorem point_coord : ∀ t : Fin grid0.N, (grid0.coords t 0).val = t.val := by decide +kernel

theorem off_cur : ∀ i : Fin 352, (Scalar.indexCast (BitVec.ofNat 32 i.val)).toNat = i.val := by decide +kernel
theorem off_prev : ∀ i : Fin 352, (Scalar.indexCast (Scalar.maxsi (Scalar.subi (BitVec.ofNat 32 i.val) 1#32) 0#32)).toNat = i.val - 1 := by decide +kernel

theorem curW_eq (i : grid0.Coords) (T0 : S352.Idx → Elt Ideal .i32) : curW i T0 = T0 (slot ⟨(i 0).val, (i 0).isLt⟩) := by
  refine congrArg T0 (eq_slot _ _ ?_)
  show (Scalar.indexCast (BitVec.ofNat 32 (i 0).val)).toNat + 1 * 0 = (i 0).val
  exact off_cur ⟨(i 0).val, (i 0).isLt⟩

theorem prevW_eq (i : grid0.Coords) (T0 : S352.Idx → Elt Ideal .i32) :
    prevW i T0 = T0 (slot ⟨(i 0).val - 1, Nat.lt_of_le_of_lt (Nat.sub_le _ _) (i 0).isLt⟩) := by
  refine congrArg T0 (eq_slot _ _ ?_)
  show (Scalar.indexCast (Scalar.maxsi (Scalar.subi (BitVec.ofNat 32 (i 0).val) 1#32) 0#32)).toNat + 1 * 0 = (i 0).val - 1
  exact off_prev ⟨(i 0).val, (i 0).isLt⟩

/-- A block is out of use where it is not in use. -/
theorem unused_iff (i : grid0.Coords) (v : BitVec 32) : k0_cond3 i v = 1#1 ↔ ¬(k0_cond1 i v = 1#1) := by
  have key : ∀ b : BitVec 1, Scalar.cmpi .ne (Scalar.extui (Scalar.xori b 1#1) : BitVec 32) 0#32 = 1#1
      ↔ ¬(Scalar.cmpi .ne (Scalar.extui b : BitVec 32) 0#32 = 1#1) := by decide
  exact key _

/-- A block is in use where its number, signed, is less than the count. -/
theorem used_iff (i : grid0.Coords) (v : BitVec 32) : k0_cond1 i v = 1#1 ↔ ((i 0).val : ℤ) < v.toInt := by
  have h : (BitVec.ofNat 32 (i 0).val).toInt = ((i 0).val : ℤ) := by
    have : ∀ j : Fin 352, (BitVec.ofNat 32 j.val).toInt = (j.val : ℤ) := by decide +kernel
    exact this ⟨(i 0).val, (i 0).isLt⟩
  have e : k0_cond1 i v = BitVec.ofBool (BitVec.slt (BitVec.ofNat 32 (i 0).val) v) := by
    have hb : ∀ b : BitVec 1, Scalar.cmpi .ne (Scalar.extui b : BitVec 32) 0#32 = b := by decide
    exact hb _
  rw [e, BitVec.slt, h]
  by_cases hlt : ((i 0).val : ℤ) < v.toInt <;> simp [hlt]

/-- The weights are kept only past the first block, at the expert of the block before. -/
theorem kept (i : grid0.Coords) (T0 : S352.Idx → Elt Ideal .i32) (h : ¬(newW i T0 = 1#1)) : (i 0).val ≠ 0 ∧ curW i T0 = prevW i T0 := by
  have key : ∀ a b : BitVec 1, ¬(Scalar.cmpi .ne (Scalar.extui (Scalar.ori a b) : BitVec 32) 0#32 = 1#1) → a = 0#1 ∧ b = 0#1 := by decide
  obtain ⟨h0, h1⟩ := key _ _ h
  constructor
  · intro e
    rw [e] at h0
    exact absurd h0 (by decide)
  · by_contra hne
    have : Scalar.cmpi .ne (curW i T0) (prevW i T0) = 1#1 := by
      show BitVec.ofBool (curW i T0 != prevW i T0) = 1#1
      rw [bne_iff_ne.mpr hne]; rfl
    rw [this] at h1
    exact absurd h1 (by decide)

/-! ## The pipeline at admissible tables -/

variable (a : (pcfg0 (F := Ideal)).Adm)

abbrev cfgA : Pipeline.Cfg sig Λ₀ := cfg0 (F := Ideal) a
abbrev pcs : Fin 1 → Pipeline.Cfg sig Λ₀ := Pipeline.pin (pcfgs (F := Ideal)) fun _ => a

/-- The table of experts and the count of blocks in use. -/
abbrev T0 : S352.Idx → Elt Ideal .i32 := a.1 0
abbrev T1 : S1.Idx → Elt Ideal .i32 := a.1 1

abbrev crd (t : Fin (cfgA a).N) : grid0.Coords := grid0.coords t

theorem crd_val (t : Fin (cfgA a).N) : (crd a t 0).val = t.val := point_coord t

abbrev inUse (t : Fin (cfgA a).N) : Prop := k0_cond1 (crd a t) (cntW (T1 a)) = 1#1

theorem cntW_atD : cntW (T1 a) = a.1.atD 1 ![0] := by
  have h : ∀ b : Fin 1, (![0] : Fin 1 → ℕ) b + 1 ≤ S1.size b := by decide
  refine Eq.trans ?_ (dif_pos h).symm
  exact congrArg (T1 a) (funext fun b => by fin_cases b; rfl)

theorem idle4 (t : Fin (cfgA a).N) : (cfgA a).idle (4 : Fin 5) ((cfgA a).grid.coords t) = false := by
  show (!(k0_cond1 (crd a t) (a.1.atD 1 ![0]) == 1#1) && !(k0_cond3 (crd a t) (a.1.atD 1 ![0]) == 1#1)) = false
  by_cases h : k0_cond1 (crd a t) (a.1.atD 1 ![0]) = 1#1
  · simp [h]
  · simp [(unused_iff _ _).mpr h]

variable (m : (ℓ : Loc nD τ sig) → Buf (Elt Ideal) ℓ) (ρ : Dev nD → PrngReg)

/-- Window `w`'s block at point `t`. -/
def iblk (c : Dev nD) (w : Fin (cfgA a).W) (t : Fin (cfgA a).N) : (((cfgA a).win w).xblock ((cfgA a).grid.coords t)).Idx → Elt Ideal ((cfgA a).win w).elt :=
  (((cfgA a).win w).blk t).view.read (Elt Ideal) ((s₀ m ρ).mem (((cfgA a).win w).arr.view.loc (c : Thread nD τ)))

/-- A point's number in the table, and the expert it names there. -/
def pt (t : Fin (cfgA a).N) : Fin 352 := ⟨t.val, by have := lt_of_lt_of_eq t.isLt N_0; omega⟩

theorem transform1 (t : Fin (cfgA a).N) : cc0_transform_1 k0_off1_inb numel1_S1 a.1 (crd a t) 1 = (T0 a (slot (pt a t))).toNat := by
  have e : T0 a (slot ⟨(crd a t 0).val, (crd a t 0).isLt⟩) = T0 a (slot (pt a t)) := congrArg (fun n => T0 a (slot n)) (Fin.ext (crd_val a t))
  show BitVec.toNat (curW (crd a t) (T0 a)) = _
  rw [curW_eq, e]

theorem word_lt (t : Fin (cfgA a).N) : (T0 a (slot (pt a t))).toNat < 64 := by
  obtain ⟨h, _⟩ := a.2.1 (crd a t)
  have h1 : (cc0_transform_1 k0_off1_inb numel1_S1 a.1 (crd a t) 1 + 1) * 1 ≤ 64 := h 1
  rw [transform1] at h1
  omega

def expert (t : Fin (cfgA a).N) : Fin 64 := ⟨(T0 a (slot (pt a t))).toNat, word_lt a t⟩

def row (t : Fin (cfgA a).N) (r : Fin 256) : Fin 90112 := ⟨(pt a t).val * 256 + r.val, by have := (pt a t).isLt; omega⟩

theorem iblk0_at (c : Dev nD) (t : Fin (cfgA a).N) (r : Fin 256) (k : Fin 1024) :
    iblk a m ρ c (0 : Fin 5) t (ix2 r k) = m ((c : Thread nD τ).loc main_arg0) (ix2 (row a t r) k) := by
  refine congrArg (m ((c : Thread nD τ).loc main_arg0)) ?_
  show (((cfgA a).win (0 : Fin 5)).rect t).emb (ix2 r k) = _
  refine ext2 ?_ ?_ <;> rw [Window.rect_emb_val ((cfgA a).win (0 : Fin 5)) t]
  · show (BitVec.ofNat 32 (crd a t 0).val).toNat * 256 + r.val = t.val * 256 + r.val
    rw [crd_val]
    have := lt_of_lt_of_eq t.isLt N_0
    rw [BitVec.toNat_ofNat, Nat.mod_eq_of_lt (by omega)]
  · show 0 * 1024 + k.val = k.val
    omega

theorem iblk1_at (c : Dev nD) (t : Fin (cfgA a).N) (k f : Fin 1024) :
    iblk a m ρ c (1 : Fin 5) t (ix4 0 0 k f) = m ((c : Thread nD τ).loc main_arg3) (ix4 0 (expert a t) k f) := by
  refine congrArg (m ((c : Thread nD τ).loc main_arg3)) ?_
  show (((cfgA a).win (1 : Fin 5)).rect t).emb (ix4 0 0 k f) = _
  refine ext4 ?_ ?_ ?_ ?_ <;> rw [Window.rect_emb_val ((cfgA a).win (1 : Fin 5)) t]
  · rfl
  · show cc0_transform_1 k0_off1_inb numel1_S1 a.1 (crd a t) 1 * 1 + 0 = (T0 a (slot (pt a t))).toNat
    rw [transform1]; omega
  · show 0 * 1024 + k.val = k.val
    omega
  · show 0 * 1024 + f.val = f.val
    omega

theorem iblk2_at (c : Dev nD) (t : Fin (cfgA a).N) (k f : Fin 1024) :
    iblk a m ρ c (2 : Fin 5) t (ix4 0 0 k f) = m ((c : Thread nD τ).loc main_arg4) (ix4 0 (expert a t) k f) := by
  refine congrArg (m ((c : Thread nD τ).loc main_arg4)) ?_
  show (((cfgA a).win (2 : Fin 5)).rect t).emb (ix4 0 0 k f) = _
  refine ext4 ?_ ?_ ?_ ?_ <;> rw [Window.rect_emb_val ((cfgA a).win (2 : Fin 5)) t]
  · rfl
  · show cc0_transform_1 k0_off1_inb numel1_S1 a.1 (crd a t) 1 * 1 + 0 = (T0 a (slot (pt a t))).toNat
    rw [transform1]; omega
  · show 0 * 1024 + k.val = k.val
    omega
  · show 0 * 1024 + f.val = f.val
    omega

theorem iblk3_at (c : Dev nD) (t : Fin (cfgA a).N) (k f : Fin 1024) :
    iblk a m ρ c (3 : Fin 5) t (ix4 0 0 k f) = m ((c : Thread nD τ).loc main_arg5) (ix4 0 (expert a t) k f) := by
  refine congrArg (m ((c : Thread nD τ).loc main_arg5)) ?_
  show (((cfgA a).win (3 : Fin 5)).rect t).emb (ix4 0 0 k f) = _
  refine ext4 ?_ ?_ ?_ ?_ <;> rw [Window.rect_emb_val ((cfgA a).win (3 : Fin 5)) t]
  · rfl
  · show cc0_transform_1 k0_off1_inb numel1_S1 a.1 (crd a t) 1 * 1 + 0 = (T0 a (slot (pt a t))).toNat
    rw [transform1]; omega
  · show 0 * 1024 + k.val = k.val
    omega
  · show 0 * 1024 + f.val = f.val
    omega

/-- The blocks a point finds, at their types. -/
abbrev blkX (c : Dev nD) (t : Fin (cfgA a).N) : S256x1024.Idx → Elt Ideal .f32 := iblk a m ρ c (0 : Fin 5) t
abbrev blk1 (c : Dev nD) (t : Fin (cfgA a).N) : S1x1x1024x1024.Idx → Elt Ideal .f32 := iblk a m ρ c (1 : Fin 5) t
abbrev blk2 (c : Dev nD) (t : Fin (cfgA a).N) : S1x1x1024x1024.Idx → Elt Ideal .f32 := iblk a m ρ c (2 : Fin 5) t
abbrev blk3 (c : Dev nD) (t : Fin (cfgA a).N) : S1x1x1024x1024.Idx → Elt Ideal .f32 := iblk a m ρ c (3 : Fin 5) t

theorem idx_eq (y : S1x1x1024x1024.Idx) : y = ix4 0 0 (y 2) (y 3) :=
  ext4 (Nat.lt_one_iff.mp (y 0).isLt) (Nat.lt_one_iff.mp (y 1).isLt) rfl rfl

/-- Points of one expert find the same weights. -/
theorem same1 (c : Dev nD) (t t' : Fin (cfgA a).N) (h : expert a t = expert a t') : blk1 a m ρ c t = blk1 a m ρ c t' := by
  funext y
  rw [idx_eq y]
  exact ((iblk1_at a m ρ c t (y 2) (y 3)).trans (by rw [h])).trans (iblk1_at a m ρ c t' (y 2) (y 3)).symm
theorem same2 (c : Dev nD) (t t' : Fin (cfgA a).N) (h : expert a t = expert a t') : blk2 a m ρ c t = blk2 a m ρ c t' := by
  funext y
  rw [idx_eq y]
  exact ((iblk2_at a m ρ c t (y 2) (y 3)).trans (by rw [h])).trans (iblk2_at a m ρ c t' (y 2) (y 3)).symm
theorem same3 (c : Dev nD) (t t' : Fin (cfgA a).N) (h : expert a t = expert a t') : blk3 a m ρ c t = blk3 a m ρ c t' := by
  funext y
  rw [idx_eq y]
  exact ((iblk3_at a m ρ c t (y 2) (y 3)).trans (by rw [h])).trans (iblk3_at a m ρ c t' (y 2) (y 3)).symm

/-- Where the weights are kept, the block before had the same expert, and was in use if this one is. -/
theorem kept_at (t : Fin (cfgA a).N) (hn : ¬(newW (crd a t) (T0 a) = 1#1)) :
    ∃ t' : Fin (cfgA a).N, t'.val + 1 = t.val ∧ expert a t = expert a t' ∧ (inUse a t → inUse a t') := by
  obtain ⟨h0, hw⟩ := kept _ _ hn
  rw [crd_val] at h0
  refine ⟨⟨t.val - 1, by omega⟩, by show t.val - 1 + 1 = t.val; omega, ?_, ?_⟩
  · rw [curW_eq, prevW_eq] at hw
    refine Fin.ext ?_
    show (T0 a (slot _)).toNat = (T0 a (slot _)).toNat
    refine congrArg BitVec.toNat ?_
    refine Eq.trans ?_ (hw.trans ?_)
    · exact congrArg (fun n => T0 a (slot n)) (Fin.ext (crd_val a t).symm)
    · refine congrArg (fun n => T0 a (slot n)) (Fin.ext ?_)
      show (crd a t 0).val - 1 = t.val - 1
      rw [crd_val]
  · intro hu
    unfold inUse at hu ⊢
    rw [used_iff, crd_val] at hu ⊢
    have : (((⟨t.val - 1, by omega⟩ : Fin (cfgA a).N)).val : ℤ) = (t.val : ℤ) - 1 := by
      show ((t.val - 1 : ℕ) : ℤ) = _
      omega
    omega

/-! ## What the points leave -/

/-- What point `t` leaves in the result block. -/
def outAt (c : Dev nD) (t : Fin (cfgA a).N) : S256x1024.Idx → Elt Ideal .f32 :=
  if inUse a t then k0_pay4 (F := Ideal) (blkX a m ρ c t) (k0_pay1 (F := Ideal) (blk1 a m ρ c t)) (k0_pay2 (F := Ideal) (blk2 a m ρ c t)) (k0_pay3 (F := Ideal) (blk3 a m ρ c t))
  else k0_pay5 (F := Ideal)

/-- The scratch buffers after a block in use hold its weights. -/
def Holds (c : Dev nD) (n : ℕ) (a1 a2 a3 : S1024x1024.Idx → Elt Ideal .bf16) : Prop :=
  ∀ t : Fin (cfgA a).N, t.val + 1 = n → inUse a t →
    a1 = k0_pay1 (F := Ideal) (blk1 a m ρ c t) ∧ a2 = k0_pay2 (F := Ideal) (blk2 a m ρ c t) ∧ a3 = k0_pay3 (F := Ideal) (blk3 a m ρ c t)

/-- What a core has between points. -/
def Phi (c : Dev nD) (n : ℕ) : sProp 𝕄 :=
  iprop((∃ a1 a2 a3, ⌜Holds a m ρ c n a1 a2 a3⌝ ∗ ((sc1.view.loc (c : Thread nD τ)) ↦{fullShare} a1)
      ∗ ((sc2.view.loc (c : Thread nD τ)) ↦{fullShare} a2) ∗ ((sc3.view.loc (c : Thread nD τ)) ↦{fullShare} a3))
    ∗ ((ids.view.loc (c : Thread nD τ)) ↦{fullShare.right} (T0 a)) ∗ ((cnt.view.loc (c : Thread nD τ)) ↦{fullShare.right} (T1 a)))

def dats (_ : Fin 1) (c : Dev nD) : Dat τ (Elt Ideal) Unit ℕ (UR sig nD τ) ℕ (cfgA a) c where
  A w := (s₀ m ρ).mem (((cfgA a).win w).arr.view.loc (c : Thread nD τ))
  after w t := match w with
    | ⟨0, _⟩ => iblk a m ρ c (0 : Fin 5) t
    | ⟨1, _⟩ => iblk a m ρ c (1 : Fin 5) t
    | ⟨2, _⟩ => iblk a m ρ c (2 : Fin 5) t
    | ⟨3, _⟩ => iblk a m ρ c (3 : Fin 5) t
    | ⟨4, _⟩ => outAt a m ρ c t
    | ⟨_ + 5, h⟩ => absurd h (by show ¬ _ < 5; omega)
  Φ t := Phi a m ρ c t.val
  q _ := fullShare
  owed _ := 0

theorem after0 (c : Dev nD) (t : Fin (cfgA a).N) : (dats a m ρ 0 c).after (0 : Fin 5) t = iblk a m ρ c (0 : Fin 5) t := rfl
theorem after1 (c : Dev nD) (t : Fin (cfgA a).N) : (dats a m ρ 0 c).after (1 : Fin 5) t = iblk a m ρ c (1 : Fin 5) t := rfl
theorem after2 (c : Dev nD) (t : Fin (cfgA a).N) : (dats a m ρ 0 c).after (2 : Fin 5) t = iblk a m ρ c (2 : Fin 5) t := rfl
theorem after3 (c : Dev nD) (t : Fin (cfgA a).N) : (dats a m ρ 0 c).after (3 : Fin 5) t = iblk a m ρ c (3 : Fin 5) t := rfl
theorem after4 (c : Dev nD) (t : Fin (cfgA a).N) : (dats a m ρ 0 c).after (4 : Fin 5) t = outAt a m ρ c t := rfl

theorem before0 (c : Dev nD) (t : Fin (cfgA a).N) (d) : (dats a m ρ 0 c).before (0 : Fin 5) t d = iblk a m ρ c (0 : Fin 5) t :=
  ((dats a m ρ 0 c).before_in_eq_fetched (0 : Fin 5) rfl (fun _ => rfl) (fun _ _ _ => rfl) (fun t => by rw [after0]; unfold Dat.blockOf iblk; rfl) t d).trans
    (by unfold Dat.fetched Dat.blockOf iblk; rfl)
theorem before1 (c : Dev nD) (t : Fin (cfgA a).N) (d) : (dats a m ρ 0 c).before (1 : Fin 5) t d = iblk a m ρ c (1 : Fin 5) t :=
  ((dats a m ρ 0 c).before_in_eq_fetched (1 : Fin 5) rfl (fun _ => rfl) (fun _ _ _ => rfl) (fun t => by rw [after1]; unfold Dat.blockOf iblk; rfl) t d).trans
    (by unfold Dat.fetched Dat.blockOf iblk; rfl)
theorem before2 (c : Dev nD) (t : Fin (cfgA a).N) (d) : (dats a m ρ 0 c).before (2 : Fin 5) t d = iblk a m ρ c (2 : Fin 5) t :=
  ((dats a m ρ 0 c).before_in_eq_fetched (2 : Fin 5) rfl (fun _ => rfl) (fun _ _ _ => rfl) (fun t => by rw [after2]; unfold Dat.blockOf iblk; rfl) t d).trans
    (by unfold Dat.fetched Dat.blockOf iblk; rfl)
theorem before3 (c : Dev nD) (t : Fin (cfgA a).N) (d) : (dats a m ρ 0 c).before (3 : Fin 5) t d = iblk a m ρ c (3 : Fin 5) t :=
  ((dats a m ρ 0 c).before_in_eq_fetched (3 : Fin 5) rfl (fun _ => rfl) (fun _ _ _ => rfl) (fun t => by rw [after3]; unfold Dat.blockOf iblk; rfl) t d).trans
    (by unfold Dat.fetched Dat.blockOf iblk; rfl)

/-! ## The body at a point -/

abbrev ms0 (t : Fin (cfgA a).N) : Memref sig .tc .vmem S256x1024 .f32 := spec0_0.stage ((cfgA a).slots t (0 : Fin 5))
abbrev hs0 (t : Fin (cfgA a).N) : (ms0 a t).IsWhole := hstage0_0 (((cfgA a).slots t (0 : Fin 5)).cast nbuf0_0)
abbrev ms1 (t : Fin (cfgA a).N) : Memref sig .tc .vmem S1x1x1024x1024 .f32 := spec0_1.stage ((cfgA a).slots t (1 : Fin 5))
abbrev hs1 (t : Fin (cfgA a).N) : (ms1 a t).IsWhole := hstage0_1 (((cfgA a).slots t (1 : Fin 5)).cast nbuf0_1)
abbrev ms2 (t : Fin (cfgA a).N) : Memref sig .tc .vmem S1x1x1024x1024 .f32 := spec0_2.stage ((cfgA a).slots t (2 : Fin 5))
abbrev hs2 (t : Fin (cfgA a).N) : (ms2 a t).IsWhole := hstage0_2 (((cfgA a).slots t (2 : Fin 5)).cast nbuf0_2)
abbrev ms3 (t : Fin (cfgA a).N) : Memref sig .tc .vmem S1x1x1024x1024 .f32 := spec0_3.stage ((cfgA a).slots t (3 : Fin 5))
abbrev hs3 (t : Fin (cfgA a).N) : (ms3 a t).IsWhole := hstage0_3 (((cfgA a).slots t (3 : Fin 5)).cast nbuf0_3)
abbrev ms4 (t : Fin (cfgA a).N) : Memref sig .tc .vmem S256x1024 .f32 := spec0_4.stage ((cfgA a).slots t (4 : Fin 5))
abbrev hs4 (t : Fin (cfgA a).N) : (ms4 a t).IsWhole := hstage0_4 (((cfgA a).slots t (4 : Fin 5)).cast nbuf0_4)

/-- The body at point `t`. -/
abbrev bodyAt (t : Fin (cfgA a).N) : Prog (TpuEff nD τ sig (Elt Ideal) Λ₀ .tc) PUnit :=
  body (crd a t) (ms0 a t) (hs0 a t) (ms1 a t) (hs1 a t) (ms2 a t) (hs2 a t) (ms3 a t) (hs3 a t) (ms4 a t) (hs4 a t)

/-- What the body holds at point `t`. -/
abbrev heldAt (c : Dev nD) (t : Fin (cfgA a).N) (d : S256x1024.Idx → Elt Ideal .f32) (a1 a2 a3 : S1024x1024.Idx → Elt Ideal .bf16) : sProp 𝕄 :=
  held c (ms0 a t) (ms1 a t) (ms2 a t) (ms3 a t) (ms4 a t) (T0 a) (T1 a) (blkX a m ρ c t) (blk1 a m ρ c t) (blk2 a m ρ c t) (blk3 a m ρ c t) d a1 a2 a3

/-- The body at a point leaves the point's result block, and scratch buffers as the next point expects them. -/
theorem step (c : Dev nD) (t : Fin (cfgA a).N) (d : S256x1024.Idx → Elt Ideal .f32) (a1 a2 a3 : S1024x1024.Idx → Elt Ideal .bf16)
    (ha : Holds a m ρ c t.val a1 a2 a3) :
    ∃ b1 b2 b3, Holds a m ρ c (t.val + 1) b1 b2 b3 ∧ ∀ K : PUnit → sProp 𝕄,
      iprop(heldAt a m ρ c t d a1 a2 a3 ∗ (heldAt a m ρ c t (outAt a m ρ c t) b1 b2 b3 -∗ K ⟨⟩))
        ⊢ wp frame (wpE (defs₀ (F := Ideal)) Variants.none c none) Set.univ (bodyAt a t) K := by
  by_cases hu : inUse a t
  · have hz : ¬(k0_cond3 (crd a t) (cntW (T1 a)) = 1#1) := fun h => (unused_iff _ _).mp h hu
    have ho : outAt a m ρ c t = k0_pay4 (F := Ideal) (blkX a m ρ c t) (k0_pay1 (F := Ideal) (blk1 a m ρ c t)) (k0_pay2 (F := Ideal) (blk2 a m ρ c t)) (k0_pay3 (F := Ideal) (blk3 a m ρ c t)) := if_pos hu
    by_cases hn : newW (crd a t) (T0 a) = 1#1
    · refine ⟨k0_pay1 (F := Ideal) (blk1 a m ρ c t), k0_pay2 (F := Ideal) (blk2 a m ρ c t), k0_pay3 (F := Ideal) (blk3 a m ρ c t), ?_, fun K => ?_⟩
      · intro t' ht' _
        obtain rfl : t' = t := Fin.ext (Nat.succ.inj ht')
        exact ⟨rfl, rfl, rfl⟩
      · rw [ho]
        exact run_new c (crd a t) _ (hs0 a t) _ (hs1 a t) _ (hs2 a t) _ (hs3 a t) _ (hs4 a t) (T0 a) (T1 a) _ _ _ _ hu hn hz d a1 a2 a3 K
    · obtain ⟨t', h1, he, hu'⟩ := kept_at a t hn
      obtain ⟨e1, e2, e3⟩ := ha t' h1 (hu' hu)
      rw [← same1 a m ρ c t t' he] at e1
      rw [← same2 a m ρ c t t' he] at e2
      rw [← same3 a m ρ c t t' he] at e3
      refine ⟨a1, a2, a3, ?_, fun K => ?_⟩
      · intro t'' ht'' _
        obtain rfl : t'' = t := Fin.ext (Nat.succ.inj ht'')
        exact ⟨e1, e2, e3⟩
      · rw [ho, ← e1, ← e2, ← e3]
        exact run_same c (crd a t) _ (hs0 a t) _ (hs1 a t) _ (hs2 a t) _ (hs3 a t) _ (hs4 a t) (T0 a) (T1 a) _ _ _ _ hu hn hz d a1 a2 a3 K
  · refine ⟨a1, a2, a3, ?_, fun K => ?_⟩
    · intro t' ht' hu'
      obtain rfl : t' = t := Fin.ext (Nat.succ.inj ht')
      exact absurd hu' hu
    · have ho : outAt a m ρ c t = k0_pay5 (F := Ideal) := if_neg hu
      rw [ho]
      exact run_unused c (crd a t) _ (hs0 a t) _ (hs1 a t) _ (hs2 a t) _ (hs3 a t) _ (hs4 a t) (T0 a) (T1 a) _ _ _ _ hu ((unused_iff _ _).mpr hu) d a1 a2 a3 K

set_option maxHeartbeats 1000000 in
theorem sound_body (c : Dev nD) (t : Fin (cfgA a).N) :
    iprop((dats a m ρ 0 c).Φ t.castSucc ∗ (dats a m ρ 0 c).owesAt () t.castSucc
        ∗ (∃ d, owns (c : Thread nD τ) (ms0 a t) fullShare ((dats a m ρ 0 c).before (0 : Fin 5) t d))
        ∗ (∃ d, owns (c : Thread nD τ) (ms1 a t) fullShare ((dats a m ρ 0 c).before (1 : Fin 5) t d))
        ∗ (∃ d, owns (c : Thread nD τ) (ms2 a t) fullShare ((dats a m ρ 0 c).before (2 : Fin 5) t d))
        ∗ (∃ d, owns (c : Thread nD τ) (ms3 a t) fullShare ((dats a m ρ 0 c).before (3 : Fin 5) t d))
        ∗ (∃ d, owns (c : Thread nD τ) (ms4 a t) fullShare ((dats a m ρ 0 c).before (4 : Fin 5) t d)))
      ⊢ wp frame (wpE (defs₀ (F := Ideal)) Variants.none c none) Set.univ (bodyAt a t) fun _ =>
          iprop((dats a m ρ 0 c).Φ t.succ ∗ (dats a m ρ 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m ρ 0 c).before w t d))
                  | true => owns (c : Thread nD τ) (((cfgA a).win w).stage ((cfgA a).slots t w)) fullShare ((dats a m ρ 0 c).after w t)
                | false => owns (c : Thread nD τ) (((cfgA a).win w).stage ((cfgA a).slots t w)) fullShare ((dats a m ρ 0 c).after w t)) := by
  rw [bigSep_W0]
  have i4 := idle4 a t
  rewrite [i4]
  simp only [before0, before1, before2, before3, after0, after1, after2, after3, after4]
  rewrite [show (dats a m ρ 0 c).Φ t.succ = Phi a m ρ c (t.val + 1) from rfl, show (dats a m ρ 0 c).Φ t.castSucc = Phi a m ρ c t.val from rfl,
    show (dats a m ρ 0 c).owesAt () t.succ = (dats a m ρ 0 c).owesAt () t.castSucc from rfl]
  unfold Phi
  iintro ⟨⟨⟨%a1, %a2, %a3, %ha, HS1, HS2, HS3⟩, HT0, HT1⟩, Ho, ⟨%d0, H0⟩, ⟨%d1, H1⟩, ⟨%d2, H2⟩, ⟨%d3, H3⟩, ⟨%d4, H4⟩⟩
  obtain ⟨b1, b2, b3, hb, hrun⟩ := step a m ρ c t ((dats a m ρ 0 c).before (4 : Fin 5) t d4) a1 a2 a3 ha
  iapply (hrun _)
  isplitl [HS1 HS2 HS3 HT0 HT1 H0 H1 H2 H3 H4]
  · unfold heldAt held
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iexact H4
    isplitl [HS1]; · iexact HS1
    isplitl [HS2]; · iexact HS2
    isplitl [HS3]; · iexact HS3
    isplitl [HT0]; · iexact HT0
    iexact HT1
  unfold heldAt held
  iintro ⟨H0, H1, H2, H3, H4, HS1, HS2, HS3, HT0, HT1⟩
  isplitl [HS1 HS2 HS3 HT0 HT1]
  · isplitl [HS1 HS2 HS3]
    · iexists b1; iexists b2; iexists b3
      isplitr
      · ipureintro; exact hb
      isplitl [HS1]; · iexact HS1
      isplitl [HS2]; · iexact HS2
      iexact HS3
    isplitl [HT0]; · iexact HT0
    iexact HT1
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  iexact H4

theorem body_obligation (c : Dev nD) : BodyObligation (dats a m ρ 0 c) (defs₀ (F := Ideal)) Variants.none () Set.univ := fun t => by
  rw [bigSep_W0]
  exact sound_body a m ρ c t

/-! ## The launch -/

def u₀ : UR sig nD τ :=
  initOf (Pipeline.cells (pcs a) ((launch0 (F := Ideal)).cellOf_inj fun _ => a)) (Pipeline.launchToks (pcs a) ((launch0 (F := Ideal)).cellOf_inj fun _ => a))

abbrev EP : Emb (UR sig nD τ) 𝕄 := emb₁

theorem share_eq (c : Dev nD) (w : Fin (cfgA a).W) : (dats a m ρ 0 c).share w = fullShare := by unfold Dat.share; split <;> rfl

theorem tables_held (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide, bigSep_insert (by decide), bigSep_singleton]
  rfl

theorem enter (c : Dev nD) :
    iprop(BI.emp ∗ Pipeline.prefHeld pre0 c (fun _ => fullShare.right) a.1 ∗ Pipeline.scopedRest spec0 c) ⊢ (dats a m ρ 0 c).Φ 0 := by
  rw [tables_held, scopedRest0_eq, show (dats a m ρ 0 c).Φ 0 = Phi a m ρ c 0 from rfl]
  unfold Phi
  iintro ⟨-, ⟨HT0, HT1⟩, ⟨%a1, HS1⟩, ⟨%a2, HS2⟩, ⟨%a3, HS3⟩⟩
  isplitl [HS1 HS2 HS3]
  · iexists a1; iexists a2; iexists a3
    isplitr
    · ipureintro; intro t ht; omega
    isplitl [HS1]; · iexact HS1
    isplitl [HS2]; · iexact HS2
    iexact HS3
  isplitl [HT0]; · iexact HT0
  iexact HT1

theorem leave (c : Dev nD) : (dats a m ρ 0 c).Φ (Fin.last (cfgA a).N) ⊢ iprop(BI.emp ∗ Pipeline.scopedRest spec0 c) := by
  rw [scopedRest0_eq, show (dats a m ρ 0 c).Φ (Fin.last (cfgA a).N) = Phi a m ρ c (cfgA a).N from rfl]
  unfold Phi
  iintro ⟨⟨%a1, %a2, %a3, -, HS1, HS2, HS3⟩, -, -⟩
  isplitr
  · iempintro
  isplitl [HS1]; · iexists a1; iexact HS1
  isplitl [HS2]; · iexists a2; iexact HS2
  iexists a3; iexact HS3

/-- How the call ends: every window's array at what the points left, the tables as they were. -/
def Ends : PUnit × MemSt nD τ sig (Elt Ideal) → Prop := fun r => ∀ c : Dev nD,
  (∀ w : Fin (cfgA a).W, r.2.mem (((cfgA a).win w).arr.view.loc (c : Thread nD τ)) = (dats a m ρ 0 c).arrAt w (cfgA a).N)
  ∧ ∀ j, r.2.mem ((c : Thread nD τ).loc (pre0.ref j)) = a.1 j

set_option backward.isDefEq.respectTransparency.types false in
set_option maxHeartbeats 4000000 in
theorem call_ends (hp : ∀ (c : Dev nD) (j : Fin 2), m ((c : Thread nD τ).loc (pre0.ref j)) = a.1 j) :
    θ_run (defs (F := Ideal)) (onTc (τ := τ) (main (F := Ideal))) (s₀ m ρ) (fun r => Ends a m ρ r ∧ r.2.sem = fun _ => 0) :=
  Pipeline.θ_run_region_noSem_pf_quiescent (pcfgs (F := Ideal)) (fun _ => a) (dats a m ρ) () ((launch0 (F := Ideal)).cellOf_inj fun _ => a) (0 : Fin 1)
    (launch0 (F := Ideal)).win.to₀ (launch0 (F := Ideal)).pre EP defs₀ Variants.none m ρ main
    (hbody := fun c => (body_obligation a m ρ c).loose) (hne := (launch0 (F := Ideal)).block_pos)
    (harr := (launch0 (F := Ideal)).arr_whole) (hstage := (launch0 (F := Ideal)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m ρ) 0 (launch0 (F := Ideal)).win.arr_inj c (launch0 (F := Ideal)).arr_whole
      (share_eq a m ρ c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := enter a m ρ)
    (hout := leave a m ρ)
    (QY := fun _ _ => True)
    (hY := fun c s' => by
      iintro ⟨-, -, HSI⟩; imodintro
      isplitr
      · ipureintro; trivial
      iexact HSI)
    (hQ := fun _ h hz => ⟨fun c => ⟨(h c).1, (h c).2.1⟩, hz⟩)

end Cert.Experts

end

end
-- ==== Proof.ExpertsArray.lean ====
module

public import proofs.«01_k».proof.Proof.ExpertsFrame
public import proofs.«01_k».proof.Proof.Gen.Pre_experts_named
public import proofs.«01_k».proof.Defs

/-!
The precondition makes the table admissible; the experts' kernel then ends with its arguments unchanged.
-/

@[expose] public section

set_option maxRecDepth 16384
set_option Elab.async false

noncomputable section

namespace Cert.Experts

open Cert.Kernel2Ideal Cert.Kernel2Ideal.Gen
open Idealize.ShloMosaic
open Idealize.ShloMosaic.TcCoe
open Idealize.SL.Sem
open Idealize.ShloMosaic.Pipeline (Dat Cfg Window)

/-- Every entry of a table names one of the 64 experts. -/
def Named (T : S352.Idx → Elt Ideal .i32) : Prop := ∀ x, 0 ≤ (T x : BitVec 32).toInt ∧ (T x : BitVec 32).toInt < 64

theorem Named.lt {T : S352.Idx → Elt Ideal .i32} (h : Named T) (x : S352.Idx) : (T x : BitVec 32).toNat < 64 := by
  obtain ⟨h0, h1⟩ := h x
  rw [BitVec.toInt_eq_toNat_cond] at h0 h1
  have := (T x : BitVec 32).isLt
  split at h0 <;> omega

variable (m : (ℓ : Loc nD τ sig) → Buf (Elt Ideal) ℓ) (ρ : Dev nD → PrngReg)

/-- The tables the memory holds. -/
def tables : pre0.Contents (Elt Ideal) := fun j => m (((0 : Dev nD).tc : Thread nD τ).loc (pre0.ref j))

theorem tables_eq (c : Dev nD) (j : Fin 2) : m ((c : Thread nD τ).loc (pre0.ref j)) = tables m j := by
  obtain rfl : c = 0 := Subsingleton.elim _ _
  rfl

theorem named_of_pre (h : Cert.Pre_Kernel2Ideal m) : Named (m (((0 : Dev nD).tc : Thread nD τ).loc main_arg1)) := by
  intro x
  have hx := congrFun (h 0) x
  generalize m (((0 : Dev nD).tc : Thread nD τ).loc main_arg1) = T at hx ⊢
  have hb : ∀ p q : Bool, BitVec.ofBool p &&& BitVec.ofBool q = 1#1 → p = true ∧ q = true := by decide
  obtain ⟨h0, h1⟩ := hb (BitVec.sle 0#32 (T x)) (BitVec.slt (T x) 64#32) hx
  rw [BitVec.sle, decide_eq_true_iff] at h0
  rw [BitVec.slt, decide_eq_true_iff] at h1
  exact ⟨h0, h1⟩

theorem admissible (h : Named (m (((0 : Dev nD).tc : Thread nD τ).loc main_arg1))) : ok0 (tables m) := by
  have hw : ∀ i : grid0.Coords, (curW i (tables m 0)).toNat < 64 := fun i => h.lt _
  refine ⟨fun i => ⟨fun b => ?_, .inl rfl⟩, fun i => ⟨fun b => ?_, .inl rfl⟩, fun i => ⟨fun b => ?_, .inl rfl⟩⟩
  all_goals
    match b with
    | ⟨0, _⟩ => show (0 + 1) * 1 ≤ 2; omega
    | ⟨1, _⟩ => show ((curW i (tables m 0)).toNat + 1) * 1 ≤ 64; have := hw i; omega
    | ⟨2, _⟩ => show (0 + 1) * 1024 ≤ 1024; omega
    | ⟨3, _⟩ => show (0 + 1) * 1024 ≤ 1024; omega

/-- The tables of a memory that satisfies the precondition. -/
def adm (h : Cert.Pre_Kernel2Ideal m) : (pcfg0 (F := Ideal)).Adm := ⟨tables m, admissible m (named_of_pre m h)⟩

theorem ends (h : Cert.Pre_Kernel2Ideal m) :
    θ_run (defs (F := Ideal)) (onTc (τ := τ) (main (F := Ideal))) ⟨m, fun _ => 0, ρ⟩ (fun r => Ends (adm m h) m ρ r ∧ r.2.sem = fun _ => 0) :=
  call_ends (adm m h) m ρ fun c j => tables_eq m c j

/-- The arguments of an ended call are what they were. -/
theorem Ends.unchanged (h : Cert.Pre_Kernel2Ideal m) {r : PUnit × MemSt nD τ sig (Elt Ideal)} (e : Ends (adm m h) m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((e c).1 (0 : Fin 5)).trans ((dats (adm m h) m ρ 0 c).arrAt_in (0 : Fin 5) rfl _), ((e c).2 0).trans (tables_eq m c 0).symm,
    ((e c).2 1).trans (tables_eq m c 1).symm, ((e c).1 (1 : Fin 5)).trans ((dats (adm m h) m ρ 0 c).arrAt_in (1 : Fin 5) rfl _),
    ((e c).1 (2 : Fin 5)).trans ((dats (adm m h) m ρ 0 c).arrAt_in (2 : Fin 5) rfl _),
    ((e c).1 (3 : Fin 5)).trans ((dats (adm m h) m ρ 0 c).arrAt_in (3 : Fin 5) rfl _)⟩

/-- The frame of the experts' kernel. -/
theorem frame_experts : Cert.quiescent_Kernel2Ideal := fun m ρ h =>
  (θ_run (defs (F := Ideal)) _ _).mono (fun r e => ⟨fun c => e.1.unchanged m ρ h c, e.2⟩) (ends m ρ h)

end Cert.Experts

end

end
-- ==== Proof.ExpertsValue.lean ====
module

public import proofs.«01_k».proof.Proof.ExpertsArray

/-!
The experts' result: row `i` of a block in use is its expert's gated network of row `i` of the input, and a
block out of use is zero; and that this is the array the experts' kernel ends with.
-/

@[expose] public section

set_option maxRecDepth 16384
set_option Elab.async false

noncomputable section

namespace Cert.Experts

open Cert.Kernel2Ideal Cert.Kernel2Ideal.Gen
open Idealize.ShloMosaic
open Idealize.ShloMosaic.TcCoe Idealize.ShloMosaic.ValueIdx
open Idealize.SL.Sem
open Cert.Rows (ext1 ext2 ext3 ext4 plain_at)
open Idealize.ShloMosaic.Pipeline (Dat Cfg Window)

/-! ## The result -/

/-- The unit of the gate, as the programs write it. -/
def one : EReal := FloatOps.ofBits (F := Ideal) .f32 0x3F800000#32

/-- A gate: `x` times its logistic function. -/
def gate (x : EReal) : EReal := x * Ideal.div one (one + Ideal.exp (-x))

/-- An expert of one row. -/
def network (x : Fin 1024 → EReal) (w1 w3 w2 : Fin 1024 → Fin 1024 → EReal) (d : Fin 1024) : EReal :=
  ∑ f : Fin 1024, gate (∑ k : Fin 1024, x k * w1 k f) * (∑ k : Fin 1024, x k * w3 k f) * w2 f d

/-- The block of a row. -/
def blockOf (i : Fin 90112) : Fin 352 := ⟨i.val / 256, by omega⟩

/-- Row `i`, column `d` of the experts' result, the row being in block `b`. -/
def entry (x : S90112x1024.Idx → EReal) (T : S352.Idx → BitVec 32) (n : S1.Idx → BitVec 32) (w1 w3 w2 : S2x64x1024x1024.Idx → EReal)
    (hT : ∀ y, (T y).toNat < 64) (b : Fin 352) (i : Fin 90112) (d : Fin 1024) : EReal :=
  if (b.val : ℤ) < (n (ix1 0)).toInt then
    network (fun k => x (ix2 i k)) (fun k f => w1 (ix4 0 ⟨_, hT (slot b)⟩ k f)) (fun k f => w3 (ix4 0 ⟨_, hT (slot b)⟩ k f))
      (fun f d => w2 (ix4 0 ⟨_, hT (slot b)⟩ f d)) d
  else 0

/-- The experts' result. -/
def res (x : S90112x1024.Idx → EReal) (T : S352.Idx → BitVec 32) (n : S1.Idx → BitVec 32) (w1 w3 w2 : S2x64x1024x1024.Idx → EReal)
    (hT : ∀ y, (T y).toNat < 64) : S90112x1024.Idx → EReal := fun i => entry x T n w1 w3 w2 hT (blockOf (i 0)) (i 0) (i 1)

/-! ## The stored values -/

theorem pay1_at (x : Vec Ideal S1x1x1024x1024 .f32) (k f : Fin 1024) : k0_pay1 (F := Ideal) x (ix2 k f) = x (ix4 0 0 k f) := by
  unfold k0_pay1
  refine (shapeCast_apply _ _ (ix2 k f) (ix2 k f) rfl).trans (shapeCast_apply x _ (ix2 k f) (ix4 0 0 k f) ?_)
  rw [Shape.rowMajor_val_four, Shape.rowMajor_val_two]
  show ((0 * 1 + 0) * 1024 + k.val) * 1024 + f.val = k.val * 1024 + f.val
  omega
theorem pay2_at (x : Vec Ideal S1x1x1024x1024 .f32) (k f : Fin 1024) : k0_pay2 (F := Ideal) x (ix2 k f) = x (ix4 0 0 k f) := pay1_at x k f
theorem pay3_at (x : Vec Ideal S1x1x1024x1024 .f32) (k f : Fin 1024) : k0_pay3 (F := Ideal) x (ix2 k f) = x (ix4 0 0 k f) := pay1_at x k f

theorem pay4_at (x : Vec Ideal S256x1024 .f32) (w1 w3 w2 : Vec Ideal S1024x1024 .bf16) (r : Fin 256) (d : Fin 1024) :
    k0_pay4 (F := Ideal) x w1 w3 w2 (ix2 r d)
      = network (fun k => x (ix2 r k)) (fun k f => w1 (ix2 k f)) (fun k f => w3 (ix2 k f)) (fun f d => w2 (ix2 f d)) d := by
  unfold k0_pay4
  refine (plain_at (φ₁ := .bf16) (φ₂ := .bf16) dot_S256x1024_S1024x1024_S256x1024_1_0_0_1_n_n rfl _ w2 r d).trans ?_
  refine Finset.sum_congr rfl fun f _ => congrArg (fun a : EReal => a * w2 (ix2 f d)) ?_
  have hg := plain_at (φ₁ := .bf16) (φ₂ := .bf16) dot_S256x1024_S1024x1024_S256x1024_1_0_0_1_n_n rfl x w1 r f
  have hu := plain_at (φ₁ := .bf16) (φ₂ := .bf16) dot_S256x1024_S1024x1024_S256x1024_1_0_0_1_n_n rfl x w3 r f
  refine (congrArg₂ (fun a b : EReal => a * Ideal.div one (one + Ideal.exp (FloatOps.ofBits (F := Ideal) .f32 0x00000000#32 - a)) * b) hg hu).trans ?_
  show _ * Ideal.div one (one + Ideal.exp (Ideal.ofBits .f32 0x00000000#32 - _)) * _ = _
  rw [Ideal.ofBits_zero_f32, zero_sub]
  rfl

theorem pay5_at (r : Fin 256) (d : Fin 1024) : k0_pay5 (F := Ideal) (ix2 r d) = 0 := Ideal.ofBits_zero_f32

/-! ## The array -/

variable (a : (pcfg0 (F := Ideal)).Adm) (m : (ℓ : Loc nD τ sig) → Buf (Elt Ideal) ℓ) (ρ : Dev nD → PrngReg)

/-- The result of device `c`'s arguments at a table. -/
abbrev result (c : Dev nD) (hT : ∀ y, (T0 a y).toNat < 64) : S90112x1024.Idx → EReal :=
  res (m ((c : Thread nD τ).loc main_arg0)) (T0 a) (T1 a) (m ((c : Thread nD τ).loc main_arg3)) (m ((c : Thread nD τ).loc main_arg4)) (m ((c : Thread nD τ).loc main_arg5)) hT

theorem cntW_eq : cntW (T1 a) = T1 a (ix1 0) := congrArg (T1 a) (ext1 rfl)

theorem block_row (t : Fin (cfgA a).N) (r : Fin 256) : blockOf (row a t r) = pt a t := Fin.ext (by
  show ((pt a t).val * 256 + r.val) / 256 = (pt a t).val
  omega)

theorem out_at (c : Dev nD) (hT : ∀ y, (T0 a y).toNat < 64) (t : Fin (cfgA a).N) (r : Fin 256) (d : Fin 1024) :
    outAt a m ρ c t (ix2 r d) = result a m c hT (ix2 (row a t r) d) := by
  show _ = entry _ _ _ _ _ _ hT (blockOf (row a t r)) (row a t r) d
  rw [block_row]
  unfold entry
  rw [← cntW_eq]
  have hu : inUse a t ↔ ((pt a t).val : ℤ) < (cntW (T1 a)).toInt := (used_iff _ _).trans (by rw [crd_val]; rfl)
  by_cases h : inUse a t
  · rw [if_pos (hu.mp h)]
    unfold outAt
    rw [if_pos h]
    refine (pay4_at _ _ _ _ r d).trans ?_
    have h1 : ∀ k f, k0_pay1 (F := Ideal) (blk1 a m ρ c t) (ix2 k f) = _ := fun k f => (pay1_at _ k f).trans (iblk1_at a m ρ c t k f)
    have h2 : ∀ k f, k0_pay2 (F := Ideal) (blk2 a m ρ c t) (ix2 k f) = _ := fun k f => (pay2_at _ k f).trans (iblk2_at a m ρ c t k f)
    have h3 : ∀ k f, k0_pay3 (F := Ideal) (blk3 a m ρ c t) (ix2 k f) = _ := fun k f => (pay3_at _ k f).trans (iblk3_at a m ρ c t k f)
    have hx : ∀ k, blkX a m ρ c t (ix2 r k) = _ := fun k => iblk0_at a m ρ c t r k
    exact congr (congr (congr (congrArg network (funext hx)) (funext fun k => funext (h1 k))) (funext fun k => funext (h2 k))
      |> fun e => congr e (funext fun k => funext (h3 k))) rfl
  · rw [if_neg fun e => h (hu.mpr e)]
    unfold outAt
    rw [if_neg h]
    exact pay5_at r d

theorem flush4 (t : Fin (cfgA a).N) : ((cfgA a).win (4 : Fin 5)).flush t = true := by
  have h : ∀ t : Fin grid0.N, Window.flushOf grid0 true cc0_transform_4 t = true := by decide +kernel
  exact h t

theorem emb4 (t : Fin (cfgA a).N) (r : Fin 256) (d : Fin 1024) : (((cfgA a).win (4 : Fin 5)).rect t).emb (ix2 r d) = ix2 (row a t r) d := by
  refine ext2 ?_ ?_ <;> rw [Window.rect_emb_val ((cfgA a).win (4 : Fin 5)) t]
  · show (BitVec.ofNat 32 (crd a t 0).val).toNat * 256 + r.val = t.val * 256 + r.val
    rw [crd_val]
    have := lt_of_lt_of_eq t.isLt N_0
    rw [BitVec.toNat_ofNat, Nat.mod_eq_of_lt (by omega)]
  · show 0 * 1024 + d.val = d.val
    omega

theorem flushed_eq (c : Dev nD) (hT : ∀ y, (T0 a y).toNat < 64) (t : Fin (cfgA a).N) :
    (dats a m ρ 0 c).flushed (4 : Fin 5) t = (((cfgA a).win (4 : Fin 5)).blk t).view.read (Elt Ideal) (result a m c hT) := by
  funext y
  obtain ⟨r, d, rfl⟩ : ∃ (r : Fin 256) (d : Fin 1024), y = (ix2 r d : S256x1024.Idx) := ⟨y 0, y 1, ext2 rfl rfl⟩
  show outAt a m ρ c t (ix2 r d) = _
  exact (out_at a m ρ c hT t r d).trans (congrArg (result a m c hT) (emb4 a t r d)).symm

/-- The blocks tile the result. -/
theorem cover (i : S90112x1024.Idx) : ∃ t : Fin (cfgA a).N, ((cfgA a).win (4 : Fin 5)).flush t = true ∧ i ∈ (((cfgA a).win (4 : Fin 5)).blk t).view.set := by
  have h0 : (i 0).val < 90112 := (i 0).isLt
  have hN : (cfgA a).N = 352 := N_0
  obtain ⟨t, ht⟩ : ∃ t : Fin (cfgA a).N, t.val = (i 0).val / 256 := ⟨⟨_, by omega⟩, rfl⟩
  refine ⟨t, flush4 a t, ?_⟩
  have e : i = (((cfgA a).win (4 : Fin 5)).rect t).emb (ix2 ⟨(i 0).val % 256, by omega⟩ (i 1)) := by
    refine Eq.trans ?_ (emb4 a t _ _).symm
    refine ext2 ?_ rfl
    show (i 0).val = t.val * 256 + (i 0).val % 256
    omega
  rw [e]
  exact View.emb_mem_set (((cfgA a).win (4 : Fin 5)).blk t).view _

theorem final (c : Dev nD) (hT : ∀ y, (T0 a y).toNat < 64) : (dats a m ρ 0 c).arrAt (4 : Fin 5) (cfgA a).N = result a m c hT :=
  (dats a m ρ 0 c).arrAt_eq_of_cover (4 : Fin 5) (result a m c hT) (fun t _ => flushed_eq a m ρ c hT t) (cover a)

end Cert.Experts

end

end
-- ==== Proof.ExpertsRef.lean ====
module

public import proofs.«01_k».proof.Proof.ExpertsValue
public import proofs.«01_k».proof.Proof.Gen.Reference2Ideal.Read

/-!
The reference of the experts at one entry: the gathered weights of the row's block, the three products and the
mask of the blocks in use are the experts' result.
-/

@[expose] public section

set_option maxRecDepth 16384
set_option Elab.async false

noncomputable section

namespace Cert.ExpertsRef

open Cert.Reference2Ideal Cert.Reference2Ideal.Read
open Idealize.ShloMosaic
open Idealize.ShloMosaic.TcCoe Idealize.ShloMosaic.ValueIdx
open Cert.Rows (ext1 ext2 ext3 ext4)
open Cert.Experts (slot eq_slot one gate network blockOf entry res)

abbrev take := gather_S64x1024x1024_S352x1_S352x1024x1024_12_0_n_n_0_1_110241024

/-- A gather of whole matrices reads the matrix its index names, the index read signed and clamped. -/
theorem take_at {α : Type} (x : S64x1024x1024.Idx → α) (idx : IVec S352x1 32) (n : Fin 352) (k f : Fin 1024) :
    Host.gather take x idx (ix3 n k f) = x (ix3 ⟨min (idx (ix2 n 0)).toInt.toNat 63, by omega⟩ k f) := by
  unfold Host.gather
  refine congrArg x (ext3 ?_ ?_ ?_)
  · show take.start (ix3 n k f) idx 0 + take.batchCoord (ix3 n k f) 0 + take.offCoord (ix3 n k f) 0 = min (idx (ix2 n 0)).toInt.toNat 63
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 3) ∈ take.startIndexMap from List.mem_singleton.mpr rfl)]
    have hsi : take.siIdx (ix3 n k f) ⟨List.idxOf (0 : Fin 3) take.startIndexMap, List.idxOf_lt_length_iff.2 (List.mem_singleton.mpr rfl)⟩ = ix2 n 0 :=
      ext2 rfl rfl
    rw [hsi]
    rfl
  · show take.start (ix3 n k f) idx 1 + take.batchCoord (ix3 n k f) 1 + take.offCoord (ix3 n k f) 1 = k.val
    rw [GatherDims.batchCoord_eq_zero _ _ _ List.not_mem_nil]
    unfold GatherDims.start
    rw [dif_neg (show ¬(1 : Fin 3) ∈ take.startIndexMap by decide)]
    unfold GatherDims.offCoord
    rw [dif_pos (show (1 : Fin 3) ∈ take.sKept by decide)]
    show 0 + 0 + k.val = k.val
    omega
  · show take.start (ix3 n k f) idx 2 + take.batchCoord (ix3 n k f) 2 + take.offCoord (ix3 n k f) 2 = f.val
    rw [GatherDims.batchCoord_eq_zero _ _ _ List.not_mem_nil]
    unfold GatherDims.start
    rw [dif_neg (show ¬(2 : Fin 3) ∈ take.startIndexMap by decide)]
    unfold GatherDims.offCoord
    rw [dif_pos (show (2 : Fin 3) ∈ take.sKept by decide)]
    show 0 + 0 + f.val = f.val
    omega

variable (x : S90112x1024.Idx → EReal) (T : S352.Idx → BitVec 32) (c : S1.Idx → BitVec 32) (w1 w3 w2 : S2x64x1024x1024.Idx → EReal)
variable (hT : ∀ y, (T y).toNat < 64)

/-- The expert of a block. -/
abbrev nameOf (n : Fin 352) : Fin 64 := ⟨_, hT (slot n)⟩

include hT in
/-- An index that names an expert is not negative, and is kept by the normalization. -/
theorem normal (y : S352.Idx) : Scalar.select (IntOp.cmpi .slt (T y) 0#32) (IntOp.addi (T y) 64#32) (T y) = T y := by
  have h : BitVec.slt (T y) 0#32 = false := by
    have := hT y
    rw [BitVec.slt, BitVec.toInt_eq_toNat_cond, if_pos (by omega)]
    exact decide_eq_false (by show ¬((T y).toNat : ℤ) < 0; omega)
  show Scalar.select (BitVec.ofBool (BitVec.slt (T y) 0#32)) _ _ = _
  rw [h]
  rfl

include hT in
theorem clamp (n : Fin 352) : min (T (slot n)).toInt.toNat 63 = (T (slot n)).toNat := by
  have := hT (slot n)
  rw [BitVec.toInt_eq_toNat_cond, if_pos (by omega)]
  omega

theorem stack_at (w : S2x64x1024x1024.Idx → EReal) (e : Fin 64) (k f : Fin 1024) : val_main_v2 (F := Ideal) w (ix3 e k f) = w (ix4 0 e k f) := by
  rw [val_main_v2_apply, val_main_v1_apply]
  refine congrArg w (ext4 rfl ?_ ?_ ?_)
  · show ((e.val * 1024 + k.val) * 1024 + f.val) / 1048576 % 64 = e.val; omega
  · show ((e.val * 1024 + k.val) * 1024 + f.val) / 1024 % 1024 = k.val; omega
  · show ((e.val * 1024 + k.val) * 1024 + f.val) % 1024 = f.val; omega

include hT in
theorem index_at (n : Fin 352) : val_main_v8 (F := Ideal) T (ix2 n 0) = T (slot n) := by
  rw [val_main_v8_apply, eq_slot (idx_main_v8 (ix2 n 0)) n rfl]
  exact normal T hT (slot n)

/-- A block's gathered weights are its expert's. -/
theorem weights_at (w : S2x64x1024x1024.Idx → EReal) (n : Fin 352) (k f : Fin 1024) :
    Host.gather take (val_main_v2 (F := Ideal) w) (val_main_v8 (F := Ideal) T) (ix3 n k f) = w (ix4 0 (nameOf T hT n) k f) := by
  refine (take_at _ _ n k f).trans ((stack_at w _ k f).trans (congrArg w (ext4 rfl ?_ rfl rfl)))
  show min (val_main_v8 (F := Ideal) T (ix2 n 0)).toInt.toNat 63 = _
  rw [index_at T hT, clamp T hT]

theorem v9_at (n : Fin 352) (k f : Fin 1024) : val_main_v9 (F := Ideal) T w1 (ix3 n k f) = w1 (ix4 0 (nameOf T hT n) k f) := weights_at T hT w1 n k f
theorem v19_at (n : Fin 352) (k f : Fin 1024) : val_main_v19 (F := Ideal) T w3 (ix3 n k f) = w3 (ix4 0 (nameOf T hT n) k f) := weights_at T hT w3 n k f
theorem v31_at (n : Fin 352) (k f : Fin 1024) : val_main_v31 (F := Ideal) T w2 (ix3 n k f) = w2 (ix4 0 (nameOf T hT n) k f) := weights_at T hT w2 n k f

/-- Row `r` of block `n`. -/
def rowOf (n : Fin 352) (r : Fin 256) : Fin 90112 := ⟨n.val * 256 + r.val, by omega⟩

theorem v0_at (n : Fin 352) (r : Fin 256) (k : Fin 1024) : val_main_v0 (F := Ideal) x (ix3 n r k) = x (ix2 (rowOf n r) k) := by
  rw [val_main_v0_apply]
  refine congrArg x (ext2 ?_ ?_)
  · show ((n.val * 256 + r.val) * 1024 + k.val) / 1024 = n.val * 256 + r.val; omega
  · show ((n.val * 256 + r.val) * 1024 + k.val) % 1024 = k.val; omega

theorem v10_at (n : Fin 352) (r : Fin 256) (f : Fin 1024) :
    val_main_v10 (F := Ideal) x T w1 (ix3 n r f) = ∑ k : Fin 1024, x (ix2 (rowOf n r) k) * w1 (ix4 0 (nameOf T hT n) k f) := by
  rw [val_main_v10_apply x T w1 (ix3 n r f)]
  refine Finset.sum_congr rfl fun k _ => ?_
  have el : lidx_main_v10 (ix3 n r f) k = ix3 n r k := ext3 rfl rfl rfl
  have er : ridx_main_v10 (ix3 n r f) k = ix3 n k f := ext3 rfl rfl rfl
  rw [el, er, v0_at x n r k, v9_at T w1 hT n k f]

theorem v20_at (n : Fin 352) (r : Fin 256) (f : Fin 1024) :
    val_main_v20 (F := Ideal) x T w3 (ix3 n r f) = ∑ k : Fin 1024, x (ix2 (rowOf n r) k) * w3 (ix4 0 (nameOf T hT n) k f) := by
  rw [val_main_v20_apply x T w3 (ix3 n r f)]
  refine Finset.sum_congr rfl fun k _ => ?_
  have el : lidx_main_v20 (ix3 n r f) k = ix3 n r k := ext3 rfl rfl rfl
  have er : ridx_main_v20 (ix3 n r f) k = ix3 n k f := ext3 rfl rfl rfl
  rw [el, er, v0_at x n r k, v19_at T w3 hT n k f]

theorem v22_at (n : Fin 352) (r : Fin 256) (f : Fin 1024) :
    val_main_v22 (F := Ideal) x T w1 w3 (ix3 n r f)
      = gate (∑ k : Fin 1024, x (ix2 (rowOf n r) k) * w1 (ix4 0 (nameOf T hT n) k f)) * ∑ k : Fin 1024, x (ix2 (rowOf n r) k) * w3 (ix4 0 (nameOf T hT n) k f) := by
  rw [val_main_v22_apply, val_main_v21_apply, val_main_call0_v5_apply, val_main_call0_v4_apply, val_main_call0_v3_apply, val_main_call0_v2_apply,
    val_main_call0_v1_apply, val_main_call0_v0_apply, v10_at x T w1 hT, v20_at x T w3 hT]
  rfl

theorem v32_at (n : Fin 352) (r : Fin 256) (d : Fin 1024) :
    val_main_v32 (F := Ideal) x T w1 w3 w2 (ix3 n r d)
      = network (fun k => x (ix2 (rowOf n r) k)) (fun k f => w1 (ix4 0 (nameOf T hT n) k f)) (fun k f => w3 (ix4 0 (nameOf T hT n) k f))
          (fun f d => w2 (ix4 0 (nameOf T hT n) f d)) d := by
  rw [val_main_v32_apply x T w1 w3 w2 (ix3 n r d)]
  refine Finset.sum_congr rfl fun f _ => ?_
  have el : lidx_main_v32 (ix3 n r d) f = ix3 n r f := ext3 rfl rfl rfl
  have er : ridx_main_v32 (ix3 n r d) f = ix3 n f d := ext3 rfl rfl rfl
  rw [el, er, v22_at x T w1 w3 hT, v31_at T w2 hT n f d]

/-- The mask of the blocks in use. -/
theorem mask_at (n : Fin 352) (r : Fin 256) (d : Fin 1024) :
    val_main_call1_v1 (F := Ideal) c (ix3 n r d) = BitVec.ofBool (decide ((n.val : ℤ) < (c (ix1 0)).toInt)) := by
  rw [val_main_call1_v1_apply, val_main_v36_apply, val_main_v35_apply, val_main_v33_apply, val_main_v34_apply]
  have hn : (BitVec.ofNat 32 n.val).toInt = (n.val : ℤ) := by
    have : ∀ j : Fin 352, (BitVec.ofNat 32 j.val).toInt = (j.val : ℤ) := by decide +kernel
    exact this n
  show BitVec.ofBool (decide ((BitVec.ofNat 32 n.val).toInt < (c _).toInt)) = _
  rw [hn]
  exact congrArg (fun y => BitVec.ofBool (decide ((n.val : ℤ) < (c y).toInt))) (ext1 rfl)

theorem masked_at (n : Fin 352) (r : Fin 256) (d : Fin 1024) :
    val_main_v37 (F := Ideal) x T c w1 w3 w2 (ix3 n r d) = entry x T c w1 w3 w2 hT n (rowOf n r) d := by
  show Scalar.select (val_main_call1_v1 (F := Ideal) c (ix3 n r d)) (val_main_v32 (F := Ideal) x T w1 w3 w2 (ix3 n r d)) (val_main_call1_v2 (F := Ideal) (ix3 n r d)) = _
  rw [mask_at, v32_at x T w1 w3 w2 hT]
  unfold entry
  by_cases h : (n.val : ℤ) < (c (ix1 0)).toInt
  · rw [if_pos h, decide_eq_true h]
    rfl
  · rw [if_neg h, decide_eq_false h, val_main_call1_v2_apply]
    exact Ideal.ofBits_zero_f32

/-- The reference's result is the experts' result. -/
theorem ref_eq : val_main_v38 (F := Ideal) x T c w1 w3 w2 = res x T c w1 w3 w2 hT := by
  funext i
  obtain ⟨n, r, d, rfl⟩ : ∃ (n : Fin 352) (r : Fin 256) (d : Fin 1024), i = ix2 (rowOf n r) d := by
    have h0 : (i 0).val < 90112 := (i 0).isLt
    refine ⟨⟨(i 0).val / 256, by omega⟩, ⟨(i 0).val % 256, by omega⟩, i 1, ext2 ?_ rfl⟩
    show (i 0).val = (i 0).val / 256 * 256 + (i 0).val % 256
    omega
  rw [val_main_v38_apply]
  have e : idx_main_v38 (ix2 (rowOf n r) d) = ix3 n r d := by
    refine ext3 ?_ ?_ ?_
    · show ((n.val * 256 + r.val) * 1024 + d.val) / 262144 = n.val; omega
    · show ((n.val * 256 + r.val) * 1024 + d.val) / 1024 % 256 = r.val; omega
    · show ((n.val * 256 + r.val) * 1024 + d.val) % 1024 = d.val; omega
  rw [e, masked_at x T c w1 w3 w2 hT]
  have hb : blockOf (rowOf n r) = n := Fin.ext (by show (n.val * 256 + r.val) / 256 = n.val; omega)
  show _ = entry x T c w1 w3 w2 hT (blockOf (rowOf n r)) (rowOf n r) d
  rw [hb]

end Cert.ExpertsRef

end

end
-- ==== Proof.Experts.lean ====
module

public import proofs.«01_k».proof.Proof.ExpertsArray
public import proofs.«01_k».proof.Proof.ExpertsRef
public import proofs.«01_k».proof.Proof.Gen.Reference2Ideal.Run
public import Idealize.ShloMosaic.Lib.Quiescent

/-!
The experts' call and its reference leave the same result.
-/

@[expose] public section

set_option maxRecDepth 16384

noncomputable section

namespace Cert.Experts

open Idealize.ShloMosaic Idealize.SL.Sem

/-- The reference's run leaves its arguments and, having no semaphore, all counters at zero. -/
theorem frame_reference : Cert.quiescent_Reference2Ideal := fun m g _ =>
  (θ_run Cert.Reference2Ideal.defs _ _).mono (fun r h => ⟨fun c => (h c).2, Idealize.ShloMosaic.sem_eq_zero_of_no_sems (by decide) r.2⟩)
    (Cert.Reference2Ideal.Value.run (F := Ideal) m g)

/-- Where every block names an expert, kernel and reference leave the same result. -/
theorem experts : Cert.algebraic_Kernel2Ideal_Reference2Ideal := by
  intro m g m' g' hpre heq
  have hT := (named_of_pre m hpre).lt
  refine ⟨fun c => result (adm m hpre) m c hT, ?_, ?_⟩
  · exact (θ_run Cert.Kernel2Ideal.defs _ _).mono
      (fun r e c => ⟨((e.1 c).1 (4 : Fin 5)).trans (final (adm m hpre) m g c hT), e.1.unchanged m g hpre c⟩) (ends m g hpre)
  · refine (θ_run Cert.Reference2Ideal.defs _ _).mono (fun r h c => ⟨(h c).1.trans ?_, (h c).2⟩)
      (Cert.Reference2Ideal.Value.run (F := Ideal) m' g')
    obtain rfl : c = 0 := Subsingleton.elim _ _
    obtain ⟨e0, e1, e2, e3, e4, e5⟩ := heq 0
    refine (Cert.Reference2Ideal.Read.val_main_v38_eq _ _ _ _ _ _).trans ?_
    rw [e0, e1, e2, e3, e4, e5]
    exact Cert.ExpertsRef.ref_eq _ _ _ _ _ _ hT

end Cert.Experts

end
-- ==== Proof.ExpertsBitsRun.lean ====
module

public import proofs.«01_k».proof.Proof.Gen.Kernel2.Skeleton
public import proofs.«01_k».proof.Proof.Gen.Kernel2.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.VecWindow
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

/-!
The body of the experts' kernel at one grid point, in its three cases: a block in use whose expert's
weights are converted there, a block in use that finds them converted, and a block out of use. Each case
says what the output buffer and the three scratch buffers hold afterwards.
-/

@[expose] public section

set_option maxRecDepth 16384
set_option Elab.async false

noncomputable section

namespace Cert.ExpertsBits

open Cert.Kernel2 Cert.Kernel2.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The table of experts, the count of blocks in use and the three scratch buffers, whole. -/
abbrev ids : Memref sig .tc .smem S352 .i32 := Memref.whole main_arg1
abbrev cnt : Memref sig .tc .smem S1 .i32 := Memref.whole main_arg2
abbrev sc1 : Memref sig .tc .vmem S1024x1024 .bf16 := Memref.whole cc0_scratch0
abbrev sc2 : Memref sig .tc .vmem S1024x1024 .bf16 := Memref.whole cc0_scratch1
abbrev sc3 : Memref sig .tc .vmem S1024x1024 .bf16 := Memref.whole cc0_scratch2

/-- The word the body reads for the count of blocks in use. -/
abbrev cntW (T1 : S1.Idx → Elt Bits .i32) : BitVec 32 :=
  View.readAt (Elt Bits) cnt.view (Rect.unit (s := S1) ![0] S1.size inb_S1_S1_0).toLoadRect T1 (Shape.Idx.first (numel1_S1.symm ▸ Nat.one_pos))

/-- The expert of the block before, and of the block, as the body reads them. -/
abbrev prevW (i : grid0.Coords) (T0 : S352.Idx → Elt Bits .i32) : BitVec 32 :=
  View.readAt (Elt Bits) ids.view (Rect.unit (s := S352) (k0_off2 i) S1.size (k0_off2_inb i)).toLoadRect T0 (Shape.Idx.first (numel1_S1.symm ▸ Nat.one_pos))
abbrev curW (i : grid0.Coords) (T0 : S352.Idx → Elt Bits .i32) : BitVec 32 :=
  View.readAt (Elt Bits) ids.view (Rect.unit (s := S352) (k0_off3 i) S1.size (k0_off3_inb i)).toLoadRect T0 (Shape.Idx.first (numel1_S1.symm ▸ Nat.one_pos))

/-- Whether the weights are converted at the point, as the body computes it. -/
abbrev newW (i : grid0.Coords) (T0 : S352.Idx → Elt Bits .i32) : BitVec 1 :=
  Scalar.cmpi .ne (Scalar.extui (Scalar.ori (Scalar.cmpi .eq (BitVec.ofNat 32 (i 0).val) 0#32) (Scalar.cmpi .ne (curW i T0) (prevW i T0)))) 0#32

/-- The body at a point, on any staging buffers. -/
abbrev body (i : grid0.Coords) (arg3 : Memref sig .tc .vmem S256x1024 .f32) (harg3 : arg3.IsWhole)
    (arg4 : Memref sig .tc .vmem S1x1x1024x1024 .f32) (harg4 : arg4.IsWhole) (arg5 : Memref sig .tc .vmem S1x1x1024x1024 .f32) (harg5 : arg5.IsWhole)
    (arg6 : Memref sig .tc .vmem S1x1x1024x1024 .f32) (harg6 : arg6.IsWhole) (arg7 : Memref sig .tc .vmem S256x1024 .f32) (harg7 : arg7.IsWhole) :
    Prog (TpuEff nD τ sig (Elt Bits) Λ₀ .tc) PUnit :=
  cc0_moe_experts i ids (Memref.isWhole_whole _) cnt (Memref.isWhole_whole _) arg3 harg3 arg4 harg4 arg5 harg5 arg6 harg6 arg7 harg7
    sc1 (Memref.isWhole_whole _) sc2 (Memref.isWhole_whole _) sc3 (Memref.isWhole_whole _)

variable (c : Dev nD) (i : grid0.Coords) (arg3 : Memref sig .tc .vmem S256x1024 .f32) (harg3 : arg3.IsWhole)
    (arg4 : Memref sig .tc .vmem S1x1x1024x1024 .f32) (harg4 : arg4.IsWhole) (arg5 : Memref sig .tc .vmem S1x1x1024x1024 .f32) (harg5 : arg5.IsWhole)
    (arg6 : Memref sig .tc .vmem S1x1x1024x1024 .f32) (harg6 : arg6.IsWhole) (arg7 : Memref sig .tc .vmem S256x1024 .f32) (harg7 : arg7.IsWhole)
    (T0 : S352.Idx → Elt Bits .i32) (T1 : S1.Idx → Elt Bits .i32)
    (x0 : S256x1024.Idx → Elt Bits .f32) (x1 x2 x3 : S1x1x1024x1024.Idx → Elt Bits .f32)

/-- What the body holds: the four input blocks, the output block's buffer, the scratch buffers and the tables. -/
def held (d : S256x1024.Idx → Elt Bits .f32) (a1 a2 a3 : S1024x1024.Idx → Elt Bits .bf16) : sProp 𝕄 :=
  iprop((arg3.view.loc (c : Thread nD τ) ↦[arg3.view.set]{fullShare} arg3.view.rep x0) ∗ (arg4.view.loc (c : Thread nD τ) ↦[arg4.view.set]{fullShare} arg4.view.rep x1) ∗ (arg5.view.loc (c : Thread nD τ) ↦[arg5.view.set]{fullShare} arg5.view.rep x2)
    ∗ (arg6.view.loc (c : Thread nD τ) ↦[arg6.view.set]{fullShare} arg6.view.rep x3) ∗ owns (c : Thread nD τ) arg7 fullShare d
    ∗ (sc1.view.loc (c : Thread nD τ) ↦{fullShare} a1) ∗ (sc2.view.loc (c : Thread nD τ) ↦{fullShare} a2) ∗ (sc3.view.loc (c : Thread nD τ) ↦{fullShare} a3)
    ∗ (ids.view.loc (c : Thread nD τ) ↦{fullShare.right} T0) ∗ (cnt.view.loc (c : Thread nD τ) ↦{fullShare.right} T1))

/-- A whole buffer stored whole holds what was stored. -/
theorem scratch_stored (b : Ref sig .tc) (f : b.ty.Contents (Elt Bits)) {off : Fin b.ty.shape.rank → ℕ} (inb : ∀ a, off a + b.ty.shape.size a ≤ b.ty.shape.size a)
    (w : b.ty.shape.Idx → Elt Bits b.ty.elt) :
    (View.whole b).writes (Elt Bits) f [⟨Rect.unit off b.ty.shape.size inb, w⟩] = w :=
  (View.read_whole b _).symm.trans (View.read_writes_full _ _ _ _ _)

set_option maxHeartbeats 8000000 in
/-- A block in use at a new expert: the weights are converted into the scratch buffers and the block computed. -/
theorem run_new (hu : k0_cond1 i (cntW T1) = 1#1) (hn : newW i T0 = 1#1) (hz : ¬(k0_cond3 i (cntW T1) = 1#1))
    (d : S256x1024.Idx → Elt Bits .f32) (a1 a2 a3 : S1024x1024.Idx → Elt Bits .bf16) (K : PUnit → sProp 𝕄) :
    iprop(held c arg3 arg4 arg5 arg6 arg7 T0 T1 x0 x1 x2 x3 d a1 a2 a3
        ∗ (held c arg3 arg4 arg5 arg6 arg7 T0 T1 x0 x1 x2 x3 (k0_pay4 x0 (k0_pay1 x1) (k0_pay2 x2) (k0_pay3 x3)) (k0_pay1 x1) (k0_pay2 x2) (k0_pay3 x3) -∗ K ⟨⟩))
      ⊢ wp frame (wpE (defs₀ (F := Bits)) Variants.none c none) Set.univ
          (body i arg3 harg3 arg4 harg4 arg5 harg5 arg6 harg6 arg7 harg7) K := by
  unfold held
  unfold owns body
  rw [cc0_moe_experts_eq_skeleton]; unfold cc0_moe_experts_skel
  iintro ⟨⟨H0, H1, H2, H3, ⟨%f4, -, HO4⟩, HS0, HS1, HS2, HT0, HT1⟩, Hk⟩
  have hS0 : sc1.IsWhole := Memref.isWhole_whole _
  have hS1 : sc2.IsWhole := Memref.isWhole_whole _
  have hS2 : sc3.IsWhole := Memref.isWhole_whole _
  have hT0 : ids.IsWhole := Memref.isWhole_whole _
  have hT1 : cnt.IsWhole := Memref.isWhole_whole _
  sl_exec! (disch := first | (guard_target = k0_cond1 _ _ = _; exact hu) | (guard_target = Scalar.cmpi = _; exact hn) | (guard_target = ¬(k0_cond3 _ _ = _); exact hz))
  sl_step
  have l1 : run_new.sl.HS0_1 arg4 x1 = [⟨Rect.unit (s := S1024x1024) ![0, 0] S1024x1024.size inb_S1024x1024_S1024x1024_0_0, k0_pay1 x1⟩] := by
    unfold run_new.sl.HS0_1; rw [View.readAt_rep_full]
  have e1 : sc1.view.writes (Elt Bits) sc1.view.junk (run_new.sl.HS0_1 arg4 x1) = k0_pay1 x1 := by
    rw [l1]; exact scratch_stored cc0_scratch0 _ _ _
  have l2 : run_new.sl.HS1_1 arg5 x2 = [⟨Rect.unit (s := S1024x1024) ![0, 0] S1024x1024.size inb_S1024x1024_S1024x1024_0_0, k0_pay2 x2⟩] := by
    unfold run_new.sl.HS1_1; rw [View.readAt_rep_full]
  have e2 : sc2.view.writes (Elt Bits) sc2.view.junk (run_new.sl.HS1_1 arg5 x2) = k0_pay2 x2 := by
    rw [l2]; exact scratch_stored cc0_scratch1 _ _ _
  have l3 : run_new.sl.HS2_1 arg6 x3 = [⟨Rect.unit (s := S1024x1024) ![0, 0] S1024x1024.size inb_S1024x1024_S1024x1024_0_0, k0_pay3 x3⟩] := by
    unfold run_new.sl.HS2_1; rw [View.readAt_rep_full]
  have e3 : sc3.view.writes (Elt Bits) sc3.view.junk (run_new.sl.HS2_1 arg6 x3) = k0_pay3 x3 := by
    rw [l3]; exact scratch_stored cc0_scratch2 _ _ _
  have v1 : run_new.sl.v20 arg4 x1 = k0_pay1 x1 := by
    unfold run_new.sl.v20; rw [l1]; exact View.readCov_full sc1.view _ _ _ _
  have v2 : run_new.sl.v22 arg5 x2 = k0_pay2 x2 := by
    unfold run_new.sl.v22; rw [l2]; exact View.readCov_full sc2.view _ _ _ _
  have v3 : run_new.sl.v34 arg6 x3 = k0_pay3 x3 := by
    unfold run_new.sl.v34; rw [l3]; exact View.readCov_full sc3.view _ _ _ _
  have eo : arg7.view.read (Elt Bits) (arg7.view.writes (Elt Bits) arg7.view.junk (run_new.sl.HO4_1 arg3 arg4 arg5 arg6 x0 x1 x2 x3))
      = k0_pay4 x0 (k0_pay1 x1) (k0_pay2 x2) (k0_pay3 x3) := by
    unfold run_new.sl.HO4_1
    rw [v1, v2, v3, View.readAt_rep_full]
    exact View.read_writes_full arg7.view _ _ _ _
  rw [e1, e2, e3]
  iapply Hk
  isplitl [H0]; · iexact H0
  isplitl [H1]; · iexact H1
  isplitl [H2]; · iexact H2
  isplitl [H3]; · iexact H3
  isplitl [HO4]
  · iexists _
    isplitr; swap
    · iexact HO4
    · ipureintro; exact eo
  isplitl [HS0]; · iexact HS0
  isplitl [HS1]; · iexact HS1
  isplitl [HS2]; · iexact HS2
  isplitl [HT0]; · iexact HT0
  iexact HT1

set_option maxHeartbeats 8000000 in
/-- A block in use at the expert of the block before: the block is computed from what the scratch buffers hold. -/
theorem run_same (hu : k0_cond1 i (cntW T1) = 1#1) (hn : ¬(newW i T0 = 1#1)) (hz : ¬(k0_cond3 i (cntW T1) = 1#1))
    (d : S256x1024.Idx → Elt Bits .f32) (a1 a2 a3 : S1024x1024.Idx → Elt Bits .bf16) (K : PUnit → sProp 𝕄) :
    iprop(held c arg3 arg4 arg5 arg6 arg7 T0 T1 x0 x1 x2 x3 d a1 a2 a3
        ∗ (held c arg3 arg4 arg5 arg6 arg7 T0 T1 x0 x1 x2 x3 (k0_pay4 x0 a1 a2 a3) a1 a2 a3 -∗ K ⟨⟩))
      ⊢ wp frame (wpE (defs₀ (F := Bits)) Variants.none c none) Set.univ
          (body i arg3 harg3 arg4 harg4 arg5 harg5 arg6 harg6 arg7 harg7) K := by
  unfold held
  unfold owns body
  rw [cc0_moe_experts_eq_skeleton]; unfold cc0_moe_experts_skel
  iintro ⟨⟨H0, H1, H2, H3, ⟨%f4, -, HO4⟩, HS0, HS1, HS2, HT0, HT1⟩, Hk⟩
  have hS0 : sc1.IsWhole := Memref.isWhole_whole _
  have hS1 : sc2.IsWhole := Memref.isWhole_whole _
  have hS2 : sc3.IsWhole := Memref.isWhole_whole _
  have hT0 : ids.IsWhole := Memref.isWhole_whole _
  have hT1 : cnt.IsWhole := Memref.isWhole_whole _
  sl_exec! (disch := first | (guard_target = k0_cond1 _ _ = _; exact hu) | (guard_target = ¬(Scalar.cmpi = _); exact hn) | (guard_target = ¬(k0_cond3 _ _ = _); exact hz))
  sl_step
  have v1 : sc1.view.readAt (Elt Bits) (Rect.unit (s := S1024x1024) ![0, 0] S1024x1024.size inb_S1024x1024_S1024x1024_0_0).toLoadRect a1 = a1 :=
    (View.readAt_full sc1.view _ _).trans (View.read_whole _ _)
  have v2 : sc2.view.readAt (Elt Bits) (Rect.unit (s := S1024x1024) ![0, 0] S1024x1024.size inb_S1024x1024_S1024x1024_0_0).toLoadRect a2 = a2 :=
    (View.readAt_full sc2.view _ _).trans (View.read_whole _ _)
  have v3 : sc3.view.readAt (Elt Bits) (Rect.unit (s := S1024x1024) ![0, 0] S1024x1024.size inb_S1024x1024_S1024x1024_0_0).toLoadRect a3 = a3 :=
    (View.readAt_full sc3.view _ _).trans (View.read_whole _ _)
  have eo : arg7.view.read (Elt Bits) (arg7.view.writes (Elt Bits) arg7.view.junk (run_same.sl.HO4_1 arg3 x0 a1 a2 a3))
      = k0_pay4 x0 a1 a2 a3 := by
    unfold run_same.sl.HO4_1
    rw [v1, v2, v3, View.readAt_rep_full]
    exact View.read_writes_full arg7.view _ _ _ _
  iapply Hk
  isplitl [H0]; · iexact H0
  isplitl [H1]; · iexact H1
  isplitl [H2]; · iexact H2
  isplitl [H3]; · iexact H3
  isplitl [HO4]
  · iexists _
    isplitr; swap
    · iexact HO4
    · ipureintro; exact eo
  isplitl [HS0]; · iexact HS0
  isplitl [HS1]; · iexact HS1
  isplitl [HS2]; · iexact HS2
  isplitl [HT0]; · iexact HT0
  iexact HT1

set_option maxHeartbeats 8000000 in
/-- A block out of use: it is filled with zeros, and the scratch buffers are left as they are. -/
theorem run_unused (hu : ¬(k0_cond1 i (cntW T1) = 1#1)) (hz : k0_cond3 i (cntW T1) = 1#1)
    (d : S256x1024.Idx → Elt Bits .f32) (a1 a2 a3 : S1024x1024.Idx → Elt Bits .bf16) (K : PUnit → sProp 𝕄) :
    iprop(held c arg3 arg4 arg5 arg6 arg7 T0 T1 x0 x1 x2 x3 d a1 a2 a3
        ∗ (held c arg3 arg4 arg5 arg6 arg7 T0 T1 x0 x1 x2 x3 (k0_pay5 (F := Bits)) a1 a2 a3 -∗ K ⟨⟩))
      ⊢ wp frame (wpE (defs₀ (F := Bits)) Variants.none c none) Set.univ
          (body i arg3 harg3 arg4 harg4 arg5 harg5 arg6 harg6 arg7 harg7) K := by
  unfold held
  unfold owns body
  rw [cc0_moe_experts_eq_skeleton]; unfold cc0_moe_experts_skel
  iintro ⟨⟨H0, H1, H2, H3, ⟨%f4, -, HO4⟩, HS0, HS1, HS2, HT0, HT1⟩, Hk⟩
  have hS0 : sc1.IsWhole := Memref.isWhole_whole _
  have hS1 : sc2.IsWhole := Memref.isWhole_whole _
  have hS2 : sc3.IsWhole := Memref.isWhole_whole _
  have hT0 : ids.IsWhole := Memref.isWhole_whole _
  have hT1 : cnt.IsWhole := Memref.isWhole_whole _
  sl_exec! (disch := first | (guard_target = ¬(k0_cond1 _ _ = _); exact hu) | (guard_target = k0_cond3 _ _ = _; exact hz))
  sl_step
  have eo : arg7.view.read (Elt Bits) (arg7.view.writes (Elt Bits) arg7.view.junk run_unused.sl.HO4_1)
      = k0_pay5 (F := Bits) := by
    unfold run_unused.sl.HO4_1; exact View.read_writes_full arg7.view _ _ _ _
  iapply Hk
  isplitl [H0]; · iexact H0
  isplitl [H1]; · iexact H1
  isplitl [H2]; · iexact H2
  isplitl [H3]; · iexact H3
  isplitl [HO4]
  · iexists _
    isplitr; swap
    · iexact HO4
    · ipureintro; exact eo
  isplitl [HS0]; · iexact HS0
  isplitl [HS1]; · iexact HS1
  isplitl [HS2]; · iexact HS2
  isplitl [HT0]; · iexact HT0
  iexact HT1

end Cert.ExpertsBits

end

end
-- ==== Proof.ExpertsBitsFrame.lean ====
module

public import proofs.«01_k».proof.Proof.ExpertsBitsRun
public import proofs.«01_k».proof.Proof.Rows

/-!
The experts' kernel as a pipeline, at any table whose entries name experts: what every grid point finds and
leaves, and that the whole call ends with its arguments unchanged and its result array at the blocks left.

A block in use at the expert of the block before finds that expert's weights in the scratch buffers, since the
block before was in use too.
-/

@[expose] public section

set_option maxRecDepth 16384
set_option Elab.async false

noncomputable section

namespace Cert.ExpertsBits

open Cert.Kernel2 Cert.Kernel2.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.Rows (ext1 ext2 ext3 ext4)
open Idealize.ShloMosaic.Pipeline (Dat Cfg Window BodyObligation BodyObligationLoose cellOf)

local notation "𝕄" => MT nD τ sig Unit (Elt Bits) ℕ (UR sig nD τ) ℕ

/-! ## The words read -/

/-- Entry `n` of the table of experts. -/
def slot (n : Fin 352) : S352.Idx := fun a => ⟨n.val, by fin_cases a; exact n.isLt⟩

theorem eq_slot (x : S352.Idx) (n : Fin 352) (h : (x 0).val = n.val) : x = slot n :=
  funext fun a => by fin_cases a; exact Fin.ext h

theorem point_coord : ∀ t : Fin grid0.N, (grid0.coords t 0).val = t.val := by decide +kernel

theorem off_cur : ∀ i : Fin 352, (Scalar.indexCast (BitVec.ofNat 32 i.val)).toNat = i.val := by decide +kernel
theorem off_prev : ∀ i : Fin 352, (Scalar.indexCast (Scalar.maxsi (Scalar.subi (BitVec.ofNat 32 i.val) 1#32) 0#32)).toNat = i.val - 1 := by decide +kernel

theorem curW_eq (i : grid0.Coords) (T0 : S352.Idx → Elt Bits .i32) : curW i T0 = T0 (slot ⟨(i 0).val, (i 0).isLt⟩) := by
  refine congrArg T0 (eq_slot _ _ ?_)
  show (Scalar.indexCast (BitVec.ofNat 32 (i 0).val)).toNat + 1 * 0 = (i 0).val
  exact off_cur ⟨(i 0).val, (i 0).isLt⟩

theorem prevW_eq (i : grid0.Coords) (T0 : S352.Idx → Elt Bits .i32) :
    prevW i T0 = T0 (slot ⟨(i 0).val - 1, Nat.lt_of_le_of_lt (Nat.sub_le _ _) (i 0).isLt⟩) := by
  refine congrArg T0 (eq_slot _ _ ?_)
  show (Scalar.indexCast (Scalar.maxsi (Scalar.subi (BitVec.ofNat 32 (i 0).val) 1#32) 0#32)).toNat + 1 * 0 = (i 0).val - 1
  exact off_prev ⟨(i 0).val, (i 0).isLt⟩

/-- A block is out of use where it is not in use. -/
theorem unused_iff (i : grid0.Coords) (v : BitVec 32) : k0_cond3 i v = 1#1 ↔ ¬(k0_cond1 i v = 1#1) := by
  have key : ∀ b : BitVec 1, Scalar.cmpi .ne (Scalar.extui (Scalar.xori b 1#1) : BitVec 32) 0#32 = 1#1
      ↔ ¬(Scalar.cmpi .ne (Scalar.extui b : BitVec 32) 0#32 = 1#1) := by decide
  exact key _

/-- A block is in use where its number, signed, is less than the count. -/
theorem used_iff (i : grid0.Coords) (v : BitVec 32) : k0_cond1 i v = 1#1 ↔ ((i 0).val : ℤ) < v.toInt := by
  have h : (BitVec.ofNat 32 (i 0).val).toInt = ((i 0).val : ℤ) := by
    have : ∀ j : Fin 352, (BitVec.ofNat 32 j.val).toInt = (j.val : ℤ) := by decide +kernel
    exact this ⟨(i 0).val, (i 0).isLt⟩
  have e : k0_cond1 i v = BitVec.ofBool (BitVec.slt (BitVec.ofNat 32 (i 0).val) v) := by
    have hb : ∀ b : BitVec 1, Scalar.cmpi .ne (Scalar.extui b : BitVec 32) 0#32 = b := by decide
    exact hb _
  rw [e, BitVec.slt, h]
  by_cases hlt : ((i 0).val : ℤ) < v.toInt <;> simp [hlt]

/-- The weights are kept only past the first block, at the expert of the block before. -/
theorem kept (i : grid0.Coords) (T0 : S352.Idx → Elt Bits .i32) (h : ¬(newW i T0 = 1#1)) : (i 0).val ≠ 0 ∧ curW i T0 = prevW i T0 := by
  have key : ∀ a b : BitVec 1, ¬(Scalar.cmpi .ne (Scalar.extui (Scalar.ori a b) : BitVec 32) 0#32 = 1#1) → a = 0#1 ∧ b = 0#1 := by decide
  obtain ⟨h0, h1⟩ := key _ _ h
  constructor
  · intro e
    rw [e] at h0
    exact absurd h0 (by decide)
  · by_contra hne
    have : Scalar.cmpi .ne (curW i T0) (prevW i T0) = 1#1 := by
      show BitVec.ofBool (curW i T0 != prevW i T0) = 1#1
      rw [bne_iff_ne.mpr hne]; rfl
    rw [this] at h1
    exact absurd h1 (by decide)

/-! ## The pipeline at admissible tables -/

variable (a : (pcfg0 (F := Bits)).Adm)

abbrev cfgA : Pipeline.Cfg sig Λ₀ := cfg0 (F := Bits) a
abbrev pcs : Fin 1 → Pipeline.Cfg sig Λ₀ := Pipeline.pin (pcfgs (F := Bits)) fun _ => a

/-- The table of experts and the count of blocks in use. -/
abbrev T0 : S352.Idx → Elt Bits .i32 := a.1 0
abbrev T1 : S1.Idx → Elt Bits .i32 := a.1 1

abbrev crd (t : Fin (cfgA a).N) : grid0.Coords := grid0.coords t

theorem crd_val (t : Fin (cfgA a).N) : (crd a t 0).val = t.val := point_coord t

abbrev inUse (t : Fin (cfgA a).N) : Prop := k0_cond1 (crd a t) (cntW (T1 a)) = 1#1

theorem cntW_atD : cntW (T1 a) = a.1.atD 1 ![0] := by
  have h : ∀ b : Fin 1, (![0] : Fin 1 → ℕ) b + 1 ≤ S1.size b := by decide
  refine Eq.trans ?_ (dif_pos h).symm
  exact congrArg (T1 a) (funext fun b => by fin_cases b; rfl)

theorem idle4 (t : Fin (cfgA a).N) : (cfgA a).idle (4 : Fin 5) ((cfgA a).grid.coords t) = false := by
  show (!(k0_cond1 (crd a t) (a.1.atD 1 ![0]) == 1#1) && !(k0_cond3 (crd a t) (a.1.atD 1 ![0]) == 1#1)) = false
  by_cases h : k0_cond1 (crd a t) (a.1.atD 1 ![0]) = 1#1
  · simp [h]
  · simp [(unused_iff _ _).mpr h]

variable (m : (ℓ : Loc nD τ sig) → Buf (Elt Bits) ℓ) (ρ : Dev nD → PrngReg)

/-- Window `w`'s block at point `t`. -/
def iblk (c : Dev nD) (w : Fin (cfgA a).W) (t : Fin (cfgA a).N) : (((cfgA a).win w).xblock ((cfgA a).grid.coords t)).Idx → Elt Bits ((cfgA a).win w).elt :=
  (((cfgA a).win w).blk t).view.read (Elt Bits) ((s₀ m ρ).mem (((cfgA a).win w).arr.view.loc (c : Thread nD τ)))

/-- A point's number in the table, and the expert it names there. -/
def pt (t : Fin (cfgA a).N) : Fin 352 := ⟨t.val, by have := lt_of_lt_of_eq t.isLt N_0; omega⟩

theorem transform1 (t : Fin (cfgA a).N) : cc0_transform_1 k0_off1_inb numel1_S1 a.1 (crd a t) 1 = (T0 a (slot (pt a t))).toNat := by
  have e : T0 a (slot ⟨(crd a t 0).val, (crd a t 0).isLt⟩) = T0 a (slot (pt a t)) := congrArg (fun n => T0 a (slot n)) (Fin.ext (crd_val a t))
  show BitVec.toNat (curW (crd a t) (T0 a)) = _
  rw [curW_eq, e]

theorem word_lt (t : Fin (cfgA a).N) : (T0 a (slot (pt a t))).toNat < 64 := by
  obtain ⟨h, _⟩ := a.2.1 (crd a t)
  have h1 : (cc0_transform_1 k0_off1_inb numel1_S1 a.1 (crd a t) 1 + 1) * 1 ≤ 64 := h 1
  rw [transform1] at h1
  omega

def expert (t : Fin (cfgA a).N) : Fin 64 := ⟨(T0 a (slot (pt a t))).toNat, word_lt a t⟩

def row (t : Fin (cfgA a).N) (r : Fin 256) : Fin 90112 := ⟨(pt a t).val * 256 + r.val, by have := (pt a t).isLt; omega⟩

theorem iblk0_at (c : Dev nD) (t : Fin (cfgA a).N) (r : Fin 256) (k : Fin 1024) :
    iblk a m ρ c (0 : Fin 5) t (ix2 r k) = m ((c : Thread nD τ).loc main_arg0) (ix2 (row a t r) k) := by
  refine congrArg (m ((c : Thread nD τ).loc main_arg0)) ?_
  show (((cfgA a).win (0 : Fin 5)).rect t).emb (ix2 r k) = _
  refine ext2 ?_ ?_ <;> rw [Window.rect_emb_val ((cfgA a).win (0 : Fin 5)) t]
  · show (BitVec.ofNat 32 (crd a t 0).val).toNat * 256 + r.val = t.val * 256 + r.val
    rw [crd_val]
    have := lt_of_lt_of_eq t.isLt N_0
    rw [BitVec.toNat_ofNat, Nat.mod_eq_of_lt (by omega)]
  · show 0 * 1024 + k.val = k.val
    omega

theorem iblk1_at (c : Dev nD) (t : Fin (cfgA a).N) (k f : Fin 1024) :
    iblk a m ρ c (1 : Fin 5) t (ix4 0 0 k f) = m ((c : Thread nD τ).loc main_arg3) (ix4 0 (expert a t) k f) := by
  refine congrArg (m ((c : Thread nD τ).loc main_arg3)) ?_
  show (((cfgA a).win (1 : Fin 5)).rect t).emb (ix4 0 0 k f) = _
  refine ext4 ?_ ?_ ?_ ?_ <;> rw [Window.rect_emb_val ((cfgA a).win (1 : Fin 5)) t]
  · rfl
  · show cc0_transform_1 k0_off1_inb numel1_S1 a.1 (crd a t) 1 * 1 + 0 = (T0 a (slot (pt a t))).toNat
    rw [transform1]; omega
  · show 0 * 1024 + k.val = k.val
    omega
  · show 0 * 1024 + f.val = f.val
    omega

theorem iblk2_at (c : Dev nD) (t : Fin (cfgA a).N) (k f : Fin 1024) :
    iblk a m ρ c (2 : Fin 5) t (ix4 0 0 k f) = m ((c : Thread nD τ).loc main_arg4) (ix4 0 (expert a t) k f) := by
  refine congrArg (m ((c : Thread nD τ).loc main_arg4)) ?_
  show (((cfgA a).win (2 : Fin 5)).rect t).emb (ix4 0 0 k f) = _
  refine ext4 ?_ ?_ ?_ ?_ <;> rw [Window.rect_emb_val ((cfgA a).win (2 : Fin 5)) t]
  · rfl
  · show cc0_transform_1 k0_off1_inb numel1_S1 a.1 (crd a t) 1 * 1 + 0 = (T0 a (slot (pt a t))).toNat
    rw [transform1]; omega
  · show 0 * 1024 + k.val = k.val
    omega
  · show 0 * 1024 + f.val = f.val
    omega

theorem iblk3_at (c : Dev nD) (t : Fin (cfgA a).N) (k f : Fin 1024) :
    iblk a m ρ c (3 : Fin 5) t (ix4 0 0 k f) = m ((c : Thread nD τ).loc main_arg5) (ix4 0 (expert a t) k f) := by
  refine congrArg (m ((c : Thread nD τ).loc main_arg5)) ?_
  show (((cfgA a).win (3 : Fin 5)).rect t).emb (ix4 0 0 k f) = _
  refine ext4 ?_ ?_ ?_ ?_ <;> rw [Window.rect_emb_val ((cfgA a).win (3 : Fin 5)) t]
  · rfl
  · show cc0_transform_1 k0_off1_inb numel1_S1 a.1 (crd a t) 1 * 1 + 0 = (T0 a (slot (pt a t))).toNat
    rw [transform1]; omega
  · show 0 * 1024 + k.val = k.val
    omega
  · show 0 * 1024 + f.val = f.val
    omega

/-- The blocks a point finds, at their types. -/
abbrev blkX (c : Dev nD) (t : Fin (cfgA a).N) : S256x1024.Idx → Elt Bits .f32 := iblk a m ρ c (0 : Fin 5) t
abbrev blk1 (c : Dev nD) (t : Fin (cfgA a).N) : S1x1x1024x1024.Idx → Elt Bits .f32 := iblk a m ρ c (1 : Fin 5) t
abbrev blk2 (c : Dev nD) (t : Fin (cfgA a).N) : S1x1x1024x1024.Idx → Elt Bits .f32 := iblk a m ρ c (2 : Fin 5) t
abbrev blk3 (c : Dev nD) (t : Fin (cfgA a).N) : S1x1x1024x1024.Idx → Elt Bits .f32 := iblk a m ρ c (3 : Fin 5) t

theorem idx_eq (y : S1x1x1024x1024.Idx) : y = ix4 0 0 (y 2) (y 3) :=
  ext4 (Nat.lt_one_iff.mp (y 0).isLt) (Nat.lt_one_iff.mp (y 1).isLt) rfl rfl

/-- Points of one expert find the same weights. -/
theorem same1 (c : Dev nD) (t t' : Fin (cfgA a).N) (h : expert a t = expert a t') : blk1 a m ρ c t = blk1 a m ρ c t' := by
  funext y
  rw [idx_eq y]
  exact ((iblk1_at a m ρ c t (y 2) (y 3)).trans (by rw [h])).trans (iblk1_at a m ρ c t' (y 2) (y 3)).symm
theorem same2 (c : Dev nD) (t t' : Fin (cfgA a).N) (h : expert a t = expert a t') : blk2 a m ρ c t = blk2 a m ρ c t' := by
  funext y
  rw [idx_eq y]
  exact ((iblk2_at a m ρ c t (y 2) (y 3)).trans (by rw [h])).trans (iblk2_at a m ρ c t' (y 2) (y 3)).symm
theorem same3 (c : Dev nD) (t t' : Fin (cfgA a).N) (h : expert a t = expert a t') : blk3 a m ρ c t = blk3 a m ρ c t' := by
  funext y
  rw [idx_eq y]
  exact ((iblk3_at a m ρ c t (y 2) (y 3)).trans (by rw [h])).trans (iblk3_at a m ρ c t' (y 2) (y 3)).symm

/-- Where the weights are kept, the block before had the same expert, and was in use if this one is. -/
theorem kept_at (t : Fin (cfgA a).N) (hn : ¬(newW (crd a t) (T0 a) = 1#1)) :
    ∃ t' : Fin (cfgA a).N, t'.val + 1 = t.val ∧ expert a t = expert a t' ∧ (inUse a t → inUse a t') := by
  obtain ⟨h0, hw⟩ := kept _ _ hn
  rw [crd_val] at h0
  refine ⟨⟨t.val - 1, by omega⟩, by show t.val - 1 + 1 = t.val; omega, ?_, ?_⟩
  · rw [curW_eq, prevW_eq] at hw
    refine Fin.ext ?_
    show (T0 a (slot _)).toNat = (T0 a (slot _)).toNat
    refine congrArg BitVec.toNat ?_
    refine Eq.trans ?_ (hw.trans ?_)
    · exact congrArg (fun n => T0 a (slot n)) (Fin.ext (crd_val a t).symm)
    · refine congrArg (fun n => T0 a (slot n)) (Fin.ext ?_)
      show (crd a t 0).val - 1 = t.val - 1
      rw [crd_val]
  · intro hu
    unfold inUse at hu ⊢
    rw [used_iff, crd_val] at hu ⊢
    have : (((⟨t.val - 1, by omega⟩ : Fin (cfgA a).N)).val : ℤ) = (t.val : ℤ) - 1 := by
      show ((t.val - 1 : ℕ) : ℤ) = _
      omega
    omega

/-! ## What the points leave -/

/-- What point `t` leaves in the result block. -/
def outAt (c : Dev nD) (t : Fin (cfgA a).N) : S256x1024.Idx → Elt Bits .f32 :=
  if inUse a t then k0_pay4 (F := Bits) (blkX a m ρ c t) (k0_pay1 (F := Bits) (blk1 a m ρ c t)) (k0_pay2 (F := Bits) (blk2 a m ρ c t)) (k0_pay3 (F := Bits) (blk3 a m ρ c t))
  else k0_pay5 (F := Bits)

/-- The scratch buffers after a block in use hold its weights. -/
def Holds (c : Dev nD) (n : ℕ) (a1 a2 a3 : S1024x1024.Idx → Elt Bits .bf16) : Prop :=
  ∀ t : Fin (cfgA a).N, t.val + 1 = n → inUse a t →
    a1 = k0_pay1 (F := Bits) (blk1 a m ρ c t) ∧ a2 = k0_pay2 (F := Bits) (blk2 a m ρ c t) ∧ a3 = k0_pay3 (F := Bits) (blk3 a m ρ c t)

/-- What a core has between points. -/
def Phi (c : Dev nD) (n : ℕ) : sProp 𝕄 :=
  iprop((∃ a1 a2 a3, ⌜Holds a m ρ c n a1 a2 a3⌝ ∗ ((sc1.view.loc (c : Thread nD τ)) ↦{fullShare} a1)
      ∗ ((sc2.view.loc (c : Thread nD τ)) ↦{fullShare} a2) ∗ ((sc3.view.loc (c : Thread nD τ)) ↦{fullShare} a3))
    ∗ ((ids.view.loc (c : Thread nD τ)) ↦{fullShare.right} (T0 a)) ∗ ((cnt.view.loc (c : Thread nD τ)) ↦{fullShare.right} (T1 a)))

def dats (_ : Fin 1) (c : Dev nD) : Dat τ (Elt Bits) Unit ℕ (UR sig nD τ) ℕ (cfgA a) c where
  A w := (s₀ m ρ).mem (((cfgA a).win w).arr.view.loc (c : Thread nD τ))
  after w t := match w with
    | ⟨0, _⟩ => iblk a m ρ c (0 : Fin 5) t
    | ⟨1, _⟩ => iblk a m ρ c (1 : Fin 5) t
    | ⟨2, _⟩ => iblk a m ρ c (2 : Fin 5) t
    | ⟨3, _⟩ => iblk a m ρ c (3 : Fin 5) t
    | ⟨4, _⟩ => outAt a m ρ c t
    | ⟨_ + 5, h⟩ => absurd h (by show ¬ _ < 5; omega)
  Φ t := Phi a m ρ c t.val
  q _ := fullShare
  owed _ := 0

theorem after0 (c : Dev nD) (t : Fin (cfgA a).N) : (dats a m ρ 0 c).after (0 : Fin 5) t = iblk a m ρ c (0 : Fin 5) t := rfl
theorem after1 (c : Dev nD) (t : Fin (cfgA a).N) : (dats a m ρ 0 c).after (1 : Fin 5) t = iblk a m ρ c (1 : Fin 5) t := rfl
theorem after2 (c : Dev nD) (t : Fin (cfgA a).N) : (dats a m ρ 0 c).after (2 : Fin 5) t = iblk a m ρ c (2 : Fin 5) t := rfl
theorem after3 (c : Dev nD) (t : Fin (cfgA a).N) : (dats a m ρ 0 c).after (3 : Fin 5) t = iblk a m ρ c (3 : Fin 5) t := rfl
theorem after4 (c : Dev nD) (t : Fin (cfgA a).N) : (dats a m ρ 0 c).after (4 : Fin 5) t = outAt a m ρ c t := rfl

theorem before0 (c : Dev nD) (t : Fin (cfgA a).N) (d) : (dats a m ρ 0 c).before (0 : Fin 5) t d = iblk a m ρ c (0 : Fin 5) t :=
  ((dats a m ρ 0 c).before_in_eq_fetched (0 : Fin 5) rfl (fun _ => rfl) (fun _ _ _ => rfl) (fun t => by rw [after0]; unfold Dat.blockOf iblk; rfl) t d).trans
    (by unfold Dat.fetched Dat.blockOf iblk; rfl)
theorem before1 (c : Dev nD) (t : Fin (cfgA a).N) (d) : (dats a m ρ 0 c).before (1 : Fin 5) t d = iblk a m ρ c (1 : Fin 5) t :=
  ((dats a m ρ 0 c).before_in_eq_fetched (1 : Fin 5) rfl (fun _ => rfl) (fun _ _ _ => rfl) (fun t => by rw [after1]; unfold Dat.blockOf iblk; rfl) t d).trans
    (by unfold Dat.fetched Dat.blockOf iblk; rfl)
theorem before2 (c : Dev nD) (t : Fin (cfgA a).N) (d) : (dats a m ρ 0 c).before (2 : Fin 5) t d = iblk a m ρ c (2 : Fin 5) t :=
  ((dats a m ρ 0 c).before_in_eq_fetched (2 : Fin 5) rfl (fun _ => rfl) (fun _ _ _ => rfl) (fun t => by rw [after2]; unfold Dat.blockOf iblk; rfl) t d).trans
    (by unfold Dat.fetched Dat.blockOf iblk; rfl)
theorem before3 (c : Dev nD) (t : Fin (cfgA a).N) (d) : (dats a m ρ 0 c).before (3 : Fin 5) t d = iblk a m ρ c (3 : Fin 5) t :=
  ((dats a m ρ 0 c).before_in_eq_fetched (3 : Fin 5) rfl (fun _ => rfl) (fun _ _ _ => rfl) (fun t => by rw [after3]; unfold Dat.blockOf iblk; rfl) t d).trans
    (by unfold Dat.fetched Dat.blockOf iblk; rfl)

/-! ## The body at a point -/

abbrev ms0 (t : Fin (cfgA a).N) : Memref sig .tc .vmem S256x1024 .f32 := spec0_0.stage ((cfgA a).slots t (0 : Fin 5))
abbrev hs0 (t : Fin (cfgA a).N) : (ms0 a t).IsWhole := hstage0_0 (((cfgA a).slots t (0 : Fin 5)).cast nbuf0_0)
abbrev ms1 (t : Fin (cfgA a).N) : Memref sig .tc .vmem S1x1x1024x1024 .f32 := spec0_1.stage ((cfgA a).slots t (1 : Fin 5))
abbrev hs1 (t : Fin (cfgA a).N) : (ms1 a t).IsWhole := hstage0_1 (((cfgA a).slots t (1 : Fin 5)).cast nbuf0_1)
abbrev ms2 (t : Fin (cfgA a).N) : Memref sig .tc .vmem S1x1x1024x1024 .f32 := spec0_2.stage ((cfgA a).slots t (2 : Fin 5))
abbrev hs2 (t : Fin (cfgA a).N) : (ms2 a t).IsWhole := hstage0_2 (((cfgA a).slots t (2 : Fin 5)).cast nbuf0_2)
abbrev ms3 (t : Fin (cfgA a).N) : Memref sig .tc .vmem S1x1x1024x1024 .f32 := spec0_3.stage ((cfgA a).slots t (3 : Fin 5))
abbrev hs3 (t : Fin (cfgA a).N) : (ms3 a t).IsWhole := hstage0_3 (((cfgA a).slots t (3 : Fin 5)).cast nbuf0_3)
abbrev ms4 (t : Fin (cfgA a).N) : Memref sig .tc .vmem S256x1024 .f32 := spec0_4.stage ((cfgA a).slots t (4 : Fin 5))
abbrev hs4 (t : Fin (cfgA a).N) : (ms4 a t).IsWhole := hstage0_4 (((cfgA a).slots t (4 : Fin 5)).cast nbuf0_4)

/-- The body at point `t`. -/
abbrev bodyAt (t : Fin (cfgA a).N) : Prog (TpuEff nD τ sig (Elt Bits) Λ₀ .tc) PUnit :=
  body (crd a t) (ms0 a t) (hs0 a t) (ms1 a t) (hs1 a t) (ms2 a t) (hs2 a t) (ms3 a t) (hs3 a t) (ms4 a t) (hs4 a t)

/-- What the body holds at point `t`. -/
abbrev heldAt (c : Dev nD) (t : Fin (cfgA a).N) (d : S256x1024.Idx → Elt Bits .f32) (a1 a2 a3 : S1024x1024.Idx → Elt Bits .bf16) : sProp 𝕄 :=
  held c (ms0 a t) (ms1 a t) (ms2 a t) (ms3 a t) (ms4 a t) (T0 a) (T1 a) (blkX a m ρ c t) (blk1 a m ρ c t) (blk2 a m ρ c t) (blk3 a m ρ c t) d a1 a2 a3

/-- The body at a point leaves the point's result block, and scratch buffers as the next point expects them. -/
theorem step (c : Dev nD) (t : Fin (cfgA a).N) (d : S256x1024.Idx → Elt Bits .f32) (a1 a2 a3 : S1024x1024.Idx → Elt Bits .bf16)
    (ha : Holds a m ρ c t.val a1 a2 a3) :
    ∃ b1 b2 b3, Holds a m ρ c (t.val + 1) b1 b2 b3 ∧ ∀ K : PUnit → sProp 𝕄,
      iprop(heldAt a m ρ c t d a1 a2 a3 ∗ (heldAt a m ρ c t (outAt a m ρ c t) b1 b2 b3 -∗ K ⟨⟩))
        ⊢ wp frame (wpE (defs₀ (F := Bits)) Variants.none c none) Set.univ (bodyAt a t) K := by
  by_cases hu : inUse a t
  · have hz : ¬(k0_cond3 (crd a t) (cntW (T1 a)) = 1#1) := fun h => (unused_iff _ _).mp h hu
    have ho : outAt a m ρ c t = k0_pay4 (F := Bits) (blkX a m ρ c t) (k0_pay1 (F := Bits) (blk1 a m ρ c t)) (k0_pay2 (F := Bits) (blk2 a m ρ c t)) (k0_pay3 (F := Bits) (blk3 a m ρ c t)) := if_pos hu
    by_cases hn : newW (crd a t) (T0 a) = 1#1
    · refine ⟨k0_pay1 (F := Bits) (blk1 a m ρ c t), k0_pay2 (F := Bits) (blk2 a m ρ c t), k0_pay3 (F := Bits) (blk3 a m ρ c t), ?_, fun K => ?_⟩
      · intro t' ht' _
        obtain rfl : t' = t := Fin.ext (Nat.succ.inj ht')
        exact ⟨rfl, rfl, rfl⟩
      · rw [ho]
        exact run_new c (crd a t) _ (hs0 a t) _ (hs1 a t) _ (hs2 a t) _ (hs3 a t) _ (hs4 a t) (T0 a) (T1 a) _ _ _ _ hu hn hz d a1 a2 a3 K
    · obtain ⟨t', h1, he, hu'⟩ := kept_at a t hn
      obtain ⟨e1, e2, e3⟩ := ha t' h1 (hu' hu)
      rw [← same1 a m ρ c t t' he] at e1
      rw [← same2 a m ρ c t t' he] at e2
      rw [← same3 a m ρ c t t' he] at e3
      refine ⟨a1, a2, a3, ?_, fun K => ?_⟩
      · intro t'' ht'' _
        obtain rfl : t'' = t := Fin.ext (Nat.succ.inj ht'')
        exact ⟨e1, e2, e3⟩
      · rw [ho, ← e1, ← e2, ← e3]
        exact run_same c (crd a t) _ (hs0 a t) _ (hs1 a t) _ (hs2 a t) _ (hs3 a t) _ (hs4 a t) (T0 a) (T1 a) _ _ _ _ hu hn hz d a1 a2 a3 K
  · refine ⟨a1, a2, a3, ?_, fun K => ?_⟩
    · intro t' ht' hu'
      obtain rfl : t' = t := Fin.ext (Nat.succ.inj ht')
      exact absurd hu' hu
    · have ho : outAt a m ρ c t = k0_pay5 (F := Bits) := if_neg hu
      rw [ho]
      exact run_unused c (crd a t) _ (hs0 a t) _ (hs1 a t) _ (hs2 a t) _ (hs3 a t) _ (hs4 a t) (T0 a) (T1 a) _ _ _ _ hu ((unused_iff _ _).mpr hu) d a1 a2 a3 K

set_option maxHeartbeats 1000000 in
theorem sound_body (c : Dev nD) (t : Fin (cfgA a).N) :
    iprop((dats a m ρ 0 c).Φ t.castSucc ∗ (dats a m ρ 0 c).owesAt () t.castSucc
        ∗ (∃ d, owns (c : Thread nD τ) (ms0 a t) fullShare ((dats a m ρ 0 c).before (0 : Fin 5) t d))
        ∗ (∃ d, owns (c : Thread nD τ) (ms1 a t) fullShare ((dats a m ρ 0 c).before (1 : Fin 5) t d))
        ∗ (∃ d, owns (c : Thread nD τ) (ms2 a t) fullShare ((dats a m ρ 0 c).before (2 : Fin 5) t d))
        ∗ (∃ d, owns (c : Thread nD τ) (ms3 a t) fullShare ((dats a m ρ 0 c).before (3 : Fin 5) t d))
        ∗ (∃ d, owns (c : Thread nD τ) (ms4 a t) fullShare ((dats a m ρ 0 c).before (4 : Fin 5) t d)))
      ⊢ wp frame (wpE (defs₀ (F := Bits)) Variants.none c none) Set.univ (bodyAt a t) fun _ =>
          iprop((dats a m ρ 0 c).Φ t.succ ∗ (dats a m ρ 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m ρ 0 c).before w t d))
                  | true => owns (c : Thread nD τ) (((cfgA a).win w).stage ((cfgA a).slots t w)) fullShare ((dats a m ρ 0 c).after w t)
                | false => owns (c : Thread nD τ) (((cfgA a).win w).stage ((cfgA a).slots t w)) fullShare ((dats a m ρ 0 c).after w t)) := by
  rw [bigSep_W0]
  have i4 := idle4 a t
  rewrite [i4]
  simp only [before0, before1, before2, before3, after0, after1, after2, after3, after4]
  rewrite [show (dats a m ρ 0 c).Φ t.succ = Phi a m ρ c (t.val + 1) from rfl, show (dats a m ρ 0 c).Φ t.castSucc = Phi a m ρ c t.val from rfl,
    show (dats a m ρ 0 c).owesAt () t.succ = (dats a m ρ 0 c).owesAt () t.castSucc from rfl]
  unfold Phi
  iintro ⟨⟨⟨%a1, %a2, %a3, %ha, HS1, HS2, HS3⟩, HT0, HT1⟩, Ho, ⟨%d0, H0⟩, ⟨%d1, H1⟩, ⟨%d2, H2⟩, ⟨%d3, H3⟩, ⟨%d4, H4⟩⟩
  obtain ⟨b1, b2, b3, hb, hrun⟩ := step a m ρ c t ((dats a m ρ 0 c).before (4 : Fin 5) t d4) a1 a2 a3 ha
  iapply (hrun _)
  isplitl [HS1 HS2 HS3 HT0 HT1 H0 H1 H2 H3 H4]
  · unfold heldAt held
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iexact H4
    isplitl [HS1]; · iexact HS1
    isplitl [HS2]; · iexact HS2
    isplitl [HS3]; · iexact HS3
    isplitl [HT0]; · iexact HT0
    iexact HT1
  unfold heldAt held
  iintro ⟨H0, H1, H2, H3, H4, HS1, HS2, HS3, HT0, HT1⟩
  isplitl [HS1 HS2 HS3 HT0 HT1]
  · isplitl [HS1 HS2 HS3]
    · iexists b1; iexists b2; iexists b3
      isplitr
      · ipureintro; exact hb
      isplitl [HS1]; · iexact HS1
      isplitl [HS2]; · iexact HS2
      iexact HS3
    isplitl [HT0]; · iexact HT0
    iexact HT1
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  iexact H4

theorem body_obligation (c : Dev nD) : BodyObligation (dats a m ρ 0 c) (defs₀ (F := Bits)) Variants.none () Set.univ := fun t => by
  rw [bigSep_W0]
  exact sound_body a m ρ c t

/-! ## The launch -/

def u₀ : UR sig nD τ :=
  initOf (Pipeline.cells (pcs a) ((launch0 (F := Bits)).cellOf_inj fun _ => a)) (Pipeline.launchToks (pcs a) ((launch0 (F := Bits)).cellOf_inj fun _ => a))

abbrev EP : Emb (UR sig nD τ) 𝕄 := emb₁

theorem share_eq (c : Dev nD) (w : Fin (cfgA a).W) : (dats a m ρ 0 c).share w = fullShare := by unfold Dat.share; split <;> rfl

theorem tables_held (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide, bigSep_insert (by decide), bigSep_singleton]
  rfl

theorem enter (c : Dev nD) :
    iprop(BI.emp ∗ Pipeline.prefHeld pre0 c (fun _ => fullShare.right) a.1 ∗ Pipeline.scopedRest spec0 c) ⊢ (dats a m ρ 0 c).Φ 0 := by
  rw [tables_held, scopedRest0_eq, show (dats a m ρ 0 c).Φ 0 = Phi a m ρ c 0 from rfl]
  unfold Phi
  iintro ⟨-, ⟨HT0, HT1⟩, ⟨%a1, HS1⟩, ⟨%a2, HS2⟩, ⟨%a3, HS3⟩⟩
  isplitl [HS1 HS2 HS3]
  · iexists a1; iexists a2; iexists a3
    isplitr
    · ipureintro; intro t ht; omega
    isplitl [HS1]; · iexact HS1
    isplitl [HS2]; · iexact HS2
    iexact HS3
  isplitl [HT0]; · iexact HT0
  iexact HT1

theorem leave (c : Dev nD) : (dats a m ρ 0 c).Φ (Fin.last (cfgA a).N) ⊢ iprop(BI.emp ∗ Pipeline.scopedRest spec0 c) := by
  rw [scopedRest0_eq, show (dats a m ρ 0 c).Φ (Fin.last (cfgA a).N) = Phi a m ρ c (cfgA a).N from rfl]
  unfold Phi
  iintro ⟨⟨%a1, %a2, %a3, -, HS1, HS2, HS3⟩, -, -⟩
  isplitr
  · iempintro
  isplitl [HS1]; · iexists a1; iexact HS1
  isplitl [HS2]; · iexists a2; iexact HS2
  iexists a3; iexact HS3

/-- How the call ends: every window's array at what the points left, the tables as they were. -/
def Ends : PUnit × MemSt nD τ sig (Elt Bits) → Prop := fun r => ∀ c : Dev nD,
  (∀ w : Fin (cfgA a).W, r.2.mem (((cfgA a).win w).arr.view.loc (c : Thread nD τ)) = (dats a m ρ 0 c).arrAt w (cfgA a).N)
  ∧ ∀ j, r.2.mem ((c : Thread nD τ).loc (pre0.ref j)) = a.1 j

set_option backward.isDefEq.respectTransparency.types false in
set_option maxHeartbeats 4000000 in
theorem call_ends (hp : ∀ (c : Dev nD) (j : Fin 2), m ((c : Thread nD τ).loc (pre0.ref j)) = a.1 j) :
    θ_run (defs (F := Bits)) (onTc (τ := τ) (main (F := Bits))) (s₀ m ρ) (fun r => Ends a m ρ r ∧ r.2.sem = fun _ => 0) :=
  Pipeline.θ_run_region_noSem_pf_quiescent (pcfgs (F := Bits)) (fun _ => a) (dats a m ρ) () ((launch0 (F := Bits)).cellOf_inj fun _ => a) (0 : Fin 1)
    (launch0 (F := Bits)).win.to₀ (launch0 (F := Bits)).pre EP defs₀ Variants.none m ρ main
    (hbody := fun c => (body_obligation a m ρ c).loose) (hne := (launch0 (F := Bits)).block_pos)
    (harr := (launch0 (F := Bits)).arr_whole) (hstage := (launch0 (F := Bits)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m ρ) 0 (launch0 (F := Bits)).win.arr_inj c (launch0 (F := Bits)).arr_whole
      (share_eq a m ρ c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := enter a m ρ)
    (hout := leave a m ρ)
    (QY := fun _ _ => True)
    (hY := fun c s' => by
      iintro ⟨-, -, HSI⟩; imodintro
      isplitr
      · ipureintro; trivial
      iexact HSI)
    (hQ := fun _ h hz => ⟨fun c => ⟨(h c).1, (h c).2.1⟩, hz⟩)

end Cert.ExpertsBits

end

end
-- ==== Proof.ExpertsBitsArray.lean ====
module

public import proofs.«01_k».proof.Proof.ExpertsBitsFrame
public import proofs.«01_k».proof.Proof.Gen.Pre_experts_named
public import proofs.«01_k».proof.Defs

/-!
The precondition makes the table admissible; the experts' kernel then ends with its arguments unchanged.
-/

@[expose] public section

set_option maxRecDepth 16384
set_option Elab.async false

noncomputable section

namespace Cert.ExpertsBits

open Cert.Kernel2 Cert.Kernel2.Gen
open Idealize.ShloMosaic
open Idealize.ShloMosaic.TcCoe
open Idealize.SL.Sem
open Idealize.ShloMosaic.Pipeline (Dat Cfg Window)

/-- Every entry of a table names one of the 64 experts. -/
def Named (T : S352.Idx → Elt Bits .i32) : Prop := ∀ x, 0 ≤ (T x : BitVec 32).toInt ∧ (T x : BitVec 32).toInt < 64

theorem Named.lt {T : S352.Idx → Elt Bits .i32} (h : Named T) (x : S352.Idx) : (T x : BitVec 32).toNat < 64 := by
  obtain ⟨h0, h1⟩ := h x
  rw [BitVec.toInt_eq_toNat_cond] at h0 h1
  have := (T x : BitVec 32).isLt
  split at h0 <;> omega

variable (m : (ℓ : Loc nD τ sig) → Buf (Elt Bits) ℓ) (ρ : Dev nD → PrngReg)

/-- The tables the memory holds. -/
def tables : pre0.Contents (Elt Bits) := fun j => m (((0 : Dev nD).tc : Thread nD τ).loc (pre0.ref j))

theorem tables_eq (c : Dev nD) (j : Fin 2) : m ((c : Thread nD τ).loc (pre0.ref j)) = tables m j := by
  obtain rfl : c = 0 := Subsingleton.elim _ _
  rfl

theorem named_of_pre (h : Cert.Pre_Kernel2 m) : Named (m (((0 : Dev nD).tc : Thread nD τ).loc main_arg1)) := by
  intro x
  have hx := congrFun (h 0) x
  generalize m (((0 : Dev nD).tc : Thread nD τ).loc main_arg1) = T at hx ⊢
  have hb : ∀ p q : Bool, BitVec.ofBool p &&& BitVec.ofBool q = 1#1 → p = true ∧ q = true := by decide
  obtain ⟨h0, h1⟩ := hb (BitVec.sle 0#32 (T x)) (BitVec.slt (T x) 64#32) hx
  rw [BitVec.sle, decide_eq_true_iff] at h0
  rw [BitVec.slt, decide_eq_true_iff] at h1
  exact ⟨h0, h1⟩

theorem admissible (h : Named (m (((0 : Dev nD).tc : Thread nD τ).loc main_arg1))) : ok0 (tables m) := by
  have hw : ∀ i : grid0.Coords, (curW i (tables m 0)).toNat < 64 := fun i => h.lt _
  refine ⟨fun i => ⟨fun b => ?_, .inl rfl⟩, fun i => ⟨fun b => ?_, .inl rfl⟩, fun i => ⟨fun b => ?_, .inl rfl⟩⟩
  all_goals
    match b with
    | ⟨0, _⟩ => show (0 + 1) * 1 ≤ 2; omega
    | ⟨1, _⟩ => show ((curW i (tables m 0)).toNat + 1) * 1 ≤ 64; have := hw i; omega
    | ⟨2, _⟩ => show (0 + 1) * 1024 ≤ 1024; omega
    | ⟨3, _⟩ => show (0 + 1) * 1024 ≤ 1024; omega

/-- The tables of a memory that satisfies the precondition. -/
def adm (h : Cert.Pre_Kernel2 m) : (pcfg0 (F := Bits)).Adm := ⟨tables m, admissible m (named_of_pre m h)⟩

theorem ends (h : Cert.Pre_Kernel2 m) :
    θ_run (defs (F := Bits)) (onTc (τ := τ) (main (F := Bits))) ⟨m, fun _ => 0, ρ⟩ (fun r => Ends (adm m h) m ρ r ∧ r.2.sem = fun _ => 0) :=
  call_ends (adm m h) m ρ fun c j => tables_eq m c j

/-- The arguments of an ended call are what they were. -/
theorem Ends.unchanged (h : Cert.Pre_Kernel2 m) {r : PUnit × MemSt nD τ sig (Elt Bits)} (e : Ends (adm m h) m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((e c).1 (0 : Fin 5)).trans ((dats (adm m h) m ρ 0 c).arrAt_in (0 : Fin 5) rfl _), ((e c).2 0).trans (tables_eq m c 0).symm,
    ((e c).2 1).trans (tables_eq m c 1).symm, ((e c).1 (1 : Fin 5)).trans ((dats (adm m h) m ρ 0 c).arrAt_in (1 : Fin 5) rfl _),
    ((e c).1 (2 : Fin 5)).trans ((dats (adm m h) m ρ 0 c).arrAt_in (2 : Fin 5) rfl _),
    ((e c).1 (3 : Fin 5)).trans ((dats (adm m h) m ρ 0 c).arrAt_in (3 : Fin 5) rfl _)⟩

/-- The frame of the experts' kernel. -/
theorem frame_experts : Cert.quiescent_Kernel2 := fun m ρ h =>
  (θ_run (defs (F := Bits)) _ _).mono (fun r e => ⟨fun c => e.1.unchanged m ρ h c, e.2⟩) (ends m ρ h)

end Cert.ExpertsBits

end

end
-- ==== Proof.MergeRef.lean ====
/- The merge of the two branches, token by token: the mixed token, its modulated norm, the router's logits; and what the
   reference computes at an index is these. -/
module

public import proofs.«01_k».proof.Proof.Rows
public import proofs.«01_k».proof.Proof.Gen.Reference3Ideal.Read

@[expose] public section

set_option maxRecDepth 16384

noncomputable section

namespace Cert.Merge

open Idealize.ShloMosaic Idealize.ShloMosaic.ValueIdx Cert.Softmax Cert.Rows

/-- The constants of the norm and of the modulation. -/
abbrev eps : EReal := Ideal.ofBits .f32 0x358637BD#32
abbrev one : EReal := Ideal.ofBits .f32 0x3F800000#32

theorem width : Ideal.ofBits .f32 0x44800000#32 = ((1024 : ℝ) : EReal) := by
  simp [Ideal.ofBits, Ideal.ieee]
  norm_num [← EReal.coe_mul]

theorem per_width : Ideal.ofBits .f32 0x3A800000#32 = ((1 / 1024 : ℝ) : EReal) := by
  simp [Ideal.ofBits, Ideal.ieee]
  norm_num [← EReal.coe_mul]

theorem one_eq : one = ((1 : ℝ) : EReal) := by
  simp [one, Ideal.ofBits, Ideal.ieee]
  norm_num [← EReal.coe_mul]

theorem eps_pos : ∃ r : ℝ, 0 < r ∧ eps = (r : EReal) := by
  refine ⟨_, ?_, by simp only [eps, Ideal.ofBits, Ideal.ieee]; simp; rfl⟩
  norm_num

/-- The reciprocal root of the mean square. -/
def inv (v : Fin 1024 → EReal) : EReal := Ideal.rsqrt ((∑ k, v k * v k) * Ideal.ofBits .f32 0x3A800000#32 + eps)

theorem inv_div (v : Fin 1024 → EReal) :
    Ideal.rsqrt (Ideal.div (∑ k, v k * v k) (Ideal.ofBits .f32 0x44800000#32) + eps) = inv v := by
  unfold inv
  rw [width, per_width, Ideal.div_coe (by norm_num)]

/-- A token and what the branches add to it. -/
def mix (x ga gb gm : Fin 1024 → EReal) (oa ob : Fin 512 → EReal) (woa wob : Fin 512 → Fin 1024 → EReal) (wout : Fin 1024 → Fin 1024 → EReal)
    (d : Fin 1024) : EReal :=
  x d + gm d * ∑ e, (ga e * (∑ c, oa c * woa c e) + gb e * ∑ c, ob c * wob c e) * wout e d

/-- A token's norm, modulated. -/
def mod (v g sc sh : Fin 1024 → EReal) (d : Fin 1024) : EReal := v d * inv v * g d * (one + sc d) + sh d

/-- A logit, and the same from products of a high and a low part. -/
def logit (w h : Fin 1024 → EReal) : EReal := ∑ d, w d * h d
def logitSplit (w h : Fin 1024 → EReal) : EReal := ((∑ d, w d * h d) + ∑ d, w d * (h d - h d)) + ∑ d, (w d - w d) * h d

theorem sub_self_real {x : EReal} (h : IsReal x) : x - x = 0 := EReal.sub_self h.2 h.1

theorem logitSplit_eq (w h : Fin 1024 → EReal) (hw : ∀ d, IsReal (w d)) (hh : ∀ d, IsReal (h d)) : logitSplit w h = logit w h := by
  unfold logitSplit logit
  rw [Finset.sum_eq_zero (fun d _ => by rw [sub_self_real (hh d), mul_zero] : ∀ d ∈ Finset.univ, w d * (h d - h d) = 0),
    Finset.sum_eq_zero (fun d _ => by rw [sub_self_real (hw d), zero_mul] : ∀ d ∈ Finset.univ, (w d - w d) * h d = 0), add_zero, add_zero]

/-! ## Real tokens give real results -/

theorem isReal_mix (x ga gb gm : Fin 1024 → EReal) (oa ob : Fin 512 → EReal) (woa wob : Fin 512 → Fin 1024 → EReal) (wout : Fin 1024 → Fin 1024 → EReal)
    (hx : ∀ d, IsReal (x d)) (hga : ∀ d, IsReal (ga d)) (hgb : ∀ d, IsReal (gb d)) (hgm : ∀ d, IsReal (gm d)) (hoa : ∀ c, IsReal (oa c))
    (hob : ∀ c, IsReal (ob c)) (hwoa : ∀ c d, IsReal (woa c d)) (hwob : ∀ c d, IsReal (wob c d)) (hwout : ∀ e d, IsReal (wout e d)) (d : Fin 1024) :
    IsReal (mix x ga gb gm oa ob woa wob wout d) :=
  (hx d).add ((hgm d).mul (isReal_sum _ _ fun e _ => IsReal.mul
    (((hga e).mul (isReal_sum _ _ fun c _ => (hoa c).mul (hwoa c e))).add ((hgb e).mul (isReal_sum _ _ fun c _ => (hob c).mul (hwob c e)))) (hwout e d)))

theorem isReal_inv (v : Fin 1024 → EReal) (hv : ∀ d, IsReal (v d)) : IsReal (inv v) := by
  choose r hr using fun d => (hv d).exists
  obtain ⟨e, he, ee⟩ := eps_pos
  have hs : (∑ k, v k * v k) = ((∑ k, r k * r k : ℝ) : EReal) := by
    rw [coe_sum]
    exact Finset.sum_congr rfl fun k _ => by rw [hr, EReal.coe_mul]
  have hp : 0 < (∑ k, r k * r k) * (1 / 1024) + e :=
    add_pos_of_nonneg_of_pos (mul_nonneg (Finset.sum_nonneg fun k _ => mul_self_nonneg (r k)) (by norm_num)) he
  unfold inv
  rw [hs, per_width, ee, ← EReal.coe_mul, ← EReal.coe_add, Ideal.rsqrt_coe, if_neg (not_lt.mpr hp.le), if_neg hp.ne']
  exact isReal_coe _

theorem isReal_mod (v g sc sh : Fin 1024 → EReal) (hv : ∀ d, IsReal (v d)) (hg : ∀ d, IsReal (g d)) (hc : ∀ d, IsReal (sc d)) (hs : ∀ d, IsReal (sh d))
    (d : Fin 1024) : IsReal (mod v g sc sh d) := by
  have h1 : IsReal one := by rw [one_eq]; exact isReal_coe _
  exact ((((hv d).mul (isReal_inv v hv)).mul (hg d)).mul (h1.add (hc d))).add (hs d)

/-! ## The arguments -/

/-- The call's arguments. -/
structure Args where
  x : FVec Ideal ⟨3, ![16, 2048, 1024]⟩ .f32
  oa : FVec Ideal ⟨3, ![16, 2048, 512]⟩ .bf16
  ob : FVec Ideal ⟨3, ![16, 2048, 512]⟩ .bf16
  ga : FVec Ideal ⟨3, ![16, 2048, 1024]⟩ .bf16
  gb : FVec Ideal ⟨3, ![16, 2048, 1024]⟩ .bf16
  woa : FVec Ideal ⟨2, ![512, 1024]⟩ .bf16
  wob : FVec Ideal ⟨2, ![512, 1024]⟩ .bf16
  wout : FVec Ideal ⟨2, ![1024, 1024]⟩ .bf16
  md : FVec Ideal ⟨3, ![24, 1, 6144]⟩ .f32
  gain : FVec Ideal ⟨3, ![2, 1, 1024]⟩ .f32
  router : FVec Ideal ⟨2, ![1024, 64]⟩ .f32

variable (A : Args)

def up (b : Fin 16) : Fin 24 := ⟨b.val, by omega⟩

/-- The modulation of an image from lane `o` on. -/
def mdAt (o : ℕ) (ho : o + 1024 ≤ 6144) (b : Fin 16) (d : Fin 1024) : EReal := A.md (ix3 (up b) 0 ⟨o + d.val, by omega⟩)

/-- The mixed token, its modulated norm, and the logits. -/
def xn (b : Fin 16) (q : Fin 2048) : Fin 1024 → EReal :=
  mix (fun d => A.x (ix3 b q d)) (fun d => A.ga (ix3 b q d)) (fun d => A.gb (ix3 b q d)) (mdAt A 2048 (by omega) b) (fun c => A.oa (ix3 b q c))
    (fun c => A.ob (ix3 b q c)) (fun c d => A.woa (ix2 c d)) (fun c d => A.wob (ix2 c d)) (fun e d => A.wout (ix2 e d))
def hn (b : Fin 16) (q : Fin 2048) : Fin 1024 → EReal :=
  mod (xn A b q) (fun d => A.gain (ix3 0 0 d)) (mdAt A 4096 (by omega) b) (mdAt A 3072 (by omega) b)
def img (t : Fin 32768) : Fin 16 := ⟨t.val / 2048, by omega⟩
def pos (t : Fin 32768) : Fin 2048 := ⟨t.val % 2048, by omega⟩
def wr (e : Fin 64) (d : Fin 1024) : EReal := A.router (ix2 d e)

def resX : FVec Ideal ⟨3, ![16, 2048, 1024]⟩ .f32 := fun i => xn A (i 0) (i 1) (i 2)
def resH : FVec Ideal ⟨2, ![32768, 1024]⟩ .f32 := fun i => hn A (img (i 0)) (pos (i 0)) (i 1)
def resL : FVec Ideal ⟨2, ![64, 32768]⟩ .f32 := fun i => logit (wr A (i 0)) (hn A (img (i 1)) (pos (i 1)))

open Cert.Reference3Ideal Cert.Reference3Ideal.Read

theorem ref_y (b : Fin 16) (q : Fin 2048) (e : Fin 1024) :
    val_main_v14 (F := Ideal) A.oa A.ob A.ga A.gb A.woa A.wob (ix3 b q e)
      = A.ga (ix3 b q e) * (∑ c : Fin 512, A.oa (ix3 b q c) * A.woa (ix2 c e)) + A.gb (ix3 b q e) * ∑ c : Fin 512, A.ob (ix3 b q c) * A.wob (ix2 c e) := by
  rw [val_main_v14_apply, val_main_v11_apply, val_main_v13_apply, val_main_v10_apply, val_main_v12_apply]
  refine congrArg₂ (· + ·) (congrArg (A.ga (ix3 b q e) * ·) (Finset.sum_congr rfl fun c _ => ?_))
    (congrArg (A.gb (ix3 b q e) * ·) (Finset.sum_congr rfl fun c _ => ?_))
  · have el : lidx_main_v10 (ix3 b q e) c = ix3 b q c := ext3 rfl rfl rfl
    have er : ridx_main_v10 (ix3 b q e) c = ix2 c e := ext2 rfl rfl
    rw [el, er]; rfl
  · have el : lidx_main_v12 (ix3 b q e) c = ix3 b q c := ext3 rfl rfl rfl
    have er : ridx_main_v12 (ix3 b q e) c = ix2 c e := ext2 rfl rfl
    rw [el, er]; rfl

theorem ref_xn (b : Fin 16) (q : Fin 2048) (d : Fin 1024) :
    val_main_v18 (F := Ideal) A.x A.oa A.ob A.ga A.gb A.woa A.wob A.wout A.md (ix3 b q d) = xn A b q d := by
  rw [val_main_v18_apply, val_main_v17_apply, val_main_v16_apply, val_main_v15_apply, val_main_v7_apply]
  have em : idx_main_v7 (idx_main_v16 (ix3 b q d)) = ix3 (up b) 0 ⟨2048 + d.val, by omega⟩ := ext3 rfl rfl rfl
  rw [em]
  refine congrArg (A.x (ix3 b q d) + ·) (congrArg (mdAt A 2048 (by omega) b d * ·) (Finset.sum_congr rfl fun e _ => ?_))
  have el : lidx_main_v15 (ix3 b q d) e = ix3 b q e := ext3 rfl rfl rfl
  have er : ridx_main_v15 (ix3 b q d) e = ix2 e d := ext2 rfl rfl
  rw [el, er, ref_y]; rfl

theorem ref_inv (b : Fin 16) (q : Fin 2048) :
    val_main_v26 (F := Ideal) A.x A.oa A.ob A.ga A.gb A.woa A.wob A.wout A.md (ix3 b q 0) = inv (xn A b q) := by
  rw [val_main_v26_apply, val_main_v25_apply, val_main_v24_apply, val_main_v23_apply, val_main_v22_apply, val_main_v21_apply, val_main_v20_apply]
  refine Eq.trans ?_ (inv_div (xn A b q))
  refine congrArg (fun s => Ideal.rsqrt (Ideal.div s (Ideal.ofBits .f32 0x44800000#32) + eps)) ?_
  refine (congrArg (· + _) Ideal.ofBits_zero_f32).trans ((zero_add _).trans (Finset.sum_congr rfl fun k _ => ?_))
  have e : idx_main_v20 (idx_main_v21 (ix3 b q 0)) k = ix3 b q k := ext3 rfl rfl rfl
  rw [e, val_main_v19_apply, ref_xn]; rfl

theorem ref_hn (b : Fin 16) (q : Fin 2048) (d : Fin 1024) :
    val_main_v39 (F := Ideal) A.x A.oa A.ob A.ga A.gb A.woa A.wob A.wout A.md A.gain (ix3 b q d) = hn A b q d := by
  rw [val_main_v39_apply, val_main_v38_apply, val_main_v8_apply, val_main_v37_apply, val_main_v36_apply, val_main_v35_apply, val_main_v34_apply,
    val_main_v9_apply, val_main_v33_apply, val_main_v32_apply, val_main_v31_apply, val_main_v30_apply, val_main_v29_apply, val_main_v28_apply,
    val_main_v27_apply, ref_xn]
  have e27 : idx_main_v27 (ix3 b q d) = ix3 b q 0 := ext3 rfl rfl rfl
  have e9 : idx_main_v9 (idx_main_v36 (ix3 b q d)) = ix3 (up b) 0 ⟨4096 + d.val, by omega⟩ := ext3 rfl rfl rfl
  have e8 : idx_main_v8 (idx_main_v38 (ix3 b q d)) = ix3 (up b) 0 ⟨3072 + d.val, by omega⟩ := ext3 rfl rfl rfl
  have eg : idx_main_v29 (idx_main_v30 (idx_main_v31 (idx_main_v32 (ix3 b q d)))) = ix3 0 0 d :=
    ext3 rfl rfl (show (0 * 1024 + d.val) % 1024 = d.val by omega)
  rw [e27, ref_inv, e9, e8, eg]; rfl

theorem ref_h (t : Fin 32768) (d : Fin 1024) :
    val_main_v40 (F := Ideal) A.x A.oa A.ob A.ga A.gb A.woa A.wob A.wout A.md A.gain (ix2 t d) = hn A (img t) (pos t) d := by
  rw [val_main_v40_apply]
  have e : idx_main_v40 (ix2 t d) = ix3 (img t) (pos t) d :=
    ext3 (show (t.val * 1024 + d.val) / 2097152 = t.val / 2048 by omega) (show (t.val * 1024 + d.val) / 1024 % 2048 = t.val % 2048 by omega)
      (show (t.val * 1024 + d.val) % 1024 = d.val by omega)
  rw [e, ref_hn]

theorem refX : val_main_v18 (F := Ideal) A.x A.oa A.ob A.ga A.gb A.woa A.wob A.wout A.md = resX A := by
  funext i
  obtain ⟨b, q, d, rfl⟩ : ∃ (b : Fin 16) (q : Fin 2048) (d : Fin 1024), i = ix3 b q d := ⟨i 0, i 1, i 2, ext3 rfl rfl rfl⟩
  exact ref_xn A b q d

theorem refH : val_main_v40 (F := Ideal) A.x A.oa A.ob A.ga A.gb A.woa A.wob A.wout A.md A.gain = resH A := by
  funext i
  obtain ⟨t, d, rfl⟩ : ∃ (t : Fin 32768) (d : Fin 1024), i = ix2 t d := ⟨i 0, i 1, ext2 rfl rfl⟩
  exact ref_h A t d

theorem refL : val_main_v41 (F := Ideal) A.x A.oa A.ob A.ga A.gb A.woa A.wob A.wout A.md A.gain A.router = resL A := by
  funext i
  obtain ⟨e, t, rfl⟩ : ∃ (e : Fin 64) (t : Fin 32768), i = ix2 e t := ⟨i 0, i 1, ext2 rfl rfl⟩
  rw [val_main_v41_apply]
  show _ = ∑ k, wr A e k * hn A (img t) (pos t) k
  refine Finset.sum_congr rfl fun k _ => ?_
  have el : lidx_main_v41 (ix2 e t) k = ix2 k e := ext2 rfl rfl
  have er : ridx_main_v41 (ix2 e t) k = ix2 t k := ext2 rfl rfl
  rw [el, er, ref_h]; rfl

end Cert.Merge

end
-- ==== Proof.MergeKernel.lean ====
/- What the merge's body leaves in the three output blocks, at an index. -/
module

public import proofs.«01_k».proof.Proof.MergeRef
public import proofs.«01_k».proof.Proof.Gen.Kernel3Ideal.Value
public import proofs.«01_k».proof.Proof.Gen.Kernel3Ideal.Points

@[expose] public section

set_option maxRecDepth 16384

noncomputable section

namespace Cert.MergeBlock

open Cert.Kernel3Ideal Cert.Kernel3Ideal.Gen Idealize.ShloMosaic Idealize.ShloMosaic.ValueIdx Cert.Softmax Cert.Rows Cert.Merge

/-- A line spread over the rows. -/
theorem line_at {n m : ℕ} {α : Type} (hm : m ≠ 1) (x : (⟨2, ![1, m]⟩ : Shape).Idx → α) (h : Shape.Broadcasts ⟨2, ![1, m]⟩ ⟨2, ![n, m]⟩) (r : Fin n)
    (k : Fin m) : broadcastTo ⟨2, ![n, m]⟩ x h (ix2 r k) = x (ix2 0 k) :=
  broadcastTo_apply x h _ (ix2 0 k) fun a => by
    match a with
    | ⟨0, _⟩ => exact (if_pos rfl).symm
    | ⟨1, _⟩ => exact (if_neg hm).symm

/-- A line spread over the rows of a block. -/
theorem bline_at (x : FVec Ideal S1x1x1024 .f32) (r : Fin 256) (k : Fin 1024) :
    broadcastTo S256x1024 (shapeCast S1x1024 x shapeCasts_S1x1x1024_S1x1024) broadcasts_S1x1024_S256x1024 (ix2 r k) = x (ix3 0 0 k) :=
  (line_at (by decide) _ _ r k).trans (drop_at x _ 0 k)

theorem hz3 : (![0, 0, 0] : Fin 3 → ℕ) = fun _ => 0 := by decide
theorem hz2 : (![0, 0] : Fin 2 → ℕ) = fun _ => 0 := by decide

section
variable {e : EltTy}
theorem ld0 (x : Vec Ideal S1x256x1024 e) : View.ld x r0_0 = x := View.ld_unit_zero hz3 _ _
theorem ld1 (x : Vec Ideal S1x256x512 e) : View.ld x r0_1 = x := View.ld_unit_zero hz3 _ _
theorem ld2 (x : Vec Ideal S512x1024 e) : View.ld x r0_2 = x := View.ld_unit_zero hz2 _ _
theorem ld3 (x : Vec Ideal S1x1x1024 e) : View.ld x r0_3 = x := View.ld_unit_zero hz3 _ _
theorem ld4 (x : Vec Ideal S1024x1024 e) : View.ld x r0_4 = x := View.ld_unit_zero hz2 _ _
theorem ld6 (x : Vec Ideal S64x1024 e) : View.ld x r0_6 = x := View.ld_unit_zero hz2 _ _
end

section
variable (x0 : FVec Ideal S1x256x1024 .f32) (x1 x2 : FVec Ideal S1x256x512 .bf16) (x3 x4 : FVec Ideal S1x256x1024 .bf16)
  (x5 x6 : FVec Ideal S512x1024 .bf16) (x7 : FVec Ideal S1024x1024 .bf16) (x8 x9 x10 x11 : FVec Ideal S1x1x1024 .f32) (x12 x13 : FVec Ideal S64x1024 .bf16)

/-- The mixed token of row `r` of a block. -/
def bxn (r : Fin 256) : Fin 1024 → EReal :=
  mix (fun d => x0 (ix3 0 r d)) (fun d => x3 (ix3 0 r d)) (fun d => x4 (ix3 0 r d)) (fun d => x8 (ix3 0 0 d)) (fun c => x1 (ix3 0 r c))
    (fun c => x2 (ix3 0 r c)) (fun c d => x5 (ix2 c d)) (fun c d => x6 (ix2 c d)) (fun e d => x7 (ix2 e d))

def bhn (r : Fin 256) : Fin 1024 → EReal :=
  mod (bxn x0 x1 x2 x3 x4 x5 x6 x7 x8 r) (fun d => x9 (ix3 0 0 d)) (fun d => x11 (ix3 0 0 d)) (fun d => x10 (ix3 0 0 d))

/-- A branch's product, gated. -/
theorem branch_at (g : FVec Ideal S1x256x1024 .bf16) (o : FVec Ideal S1x256x512 .bf16) (w : FVec Ideal S512x1024 .bf16) (r : Fin 256) (e : Fin 1024) :
    shapeCast S256x1024 g shapeCasts_S1x256x1024_S256x1024 (ix2 r e)
        * FloatOps.matmul dot_S256x512_S512x1024_S256x1024_1_0_0_1_n_n none (shapeCast S256x512 o shapeCasts_S1x256x512_S256x512) w
            (constant S256x1024 .f32 0x00000000#32) (ix2 r e)
      = g (ix3 0 r e) * ∑ c : Fin 512, o (ix3 0 r c) * w (ix2 c e) := by
  refine congrArg₂ (· * ·) (drop_at g _ r e) ((plain_at (φ₁ := .bf16) (φ₂ := .bf16) dot_S256x512_S512x1024_S256x1024_1_0_0_1_n_n rfl _ w r e).trans ?_)
  exact Finset.sum_congr rfl fun c _ => congrArg (· * w (ix2 c e)) (drop_at o _ r c)

theorem pay2_at (r : Fin 256) (d : Fin 1024) :
    k0_pay2 (F := Ideal) x3 x1 x5 x4 x2 x6 x0 x8 x7 (ix2 r d) = bxn x0 x1 x2 x3 x4 x5 x6 x7 x8 r d := by
  refine congrArg₂ (· + ·) (drop_at x0 _ r d) (congrArg₂ (· * ·) (bline_at x8 r d) ?_)
  refine (plain_at (φ₁ := .bf16) (φ₂ := .bf16) dot_S256x1024_S1024x1024_S256x1024_1_0_0_1_n_n rfl _ x7 r d).trans ?_
  exact Finset.sum_congr rfl fun e _ => congrArg (· * x7 (ix2 e d)) (congrArg₂ (· + ·) (branch_at x3 x1 x5 r e) (branch_at x4 x2 x6 r e))

theorem pay7_at (r : Fin 256) (d : Fin 1024) :
    k0_pay7 (F := Ideal) x0 x1 x2 x3 x4 x5 x6 x7 x8 x9 x10 x11 x12 x13 (ix2 r d) = bxn x0 x1 x2 x3 x4 x5 x6 x7 x8 r d := by
  unfold k0_pay7
  rw [ld0 (e := .bf16) x3, ld1 (e := .bf16) x1, ld2 (e := .bf16) x5, ld0 (e := .bf16) x4, ld1 (e := .bf16) x2, ld2 (e := .bf16) x6, ld0 (e := .f32) x0, ld3 (e := .f32) x8, ld4 (e := .bf16) x7]
  exact pay2_at _ _ _ _ _ _ _ _ _ r d

theorem pay4_at (v : FVec Ideal S256x1024 .f32) (r : Fin 256) (d : Fin 1024) :
    k0_pay4 (F := Ideal) v x9 x11 x10 (ix2 r d)
      = mod (fun k => v (ix2 r k)) (fun k => x9 (ix3 0 0 k)) (fun k => x11 (ix3 0 0 k)) (fun k => x10 (ix3 0 0 k)) d := by
  refine congrArg₂ (· + ·) (congrArg₂ (· * ·) (congrArg₂ (· * ·) (congrArg (v (ix2 r d) * ·) ?_) (bline_at x9 r d)) ?_) (bline_at x10 r d)
  · refine (spread_at (by decide) _ _ r d).trans ?_
    refine congrArg (fun s => Ideal.rsqrt (s * Ideal.ofBits .f32 0x3A800000#32 + eps)) ?_
    exact (column_at _ _ r).trans (rowSum_at _ _ _ _ r)
  · refine (line_at (by decide) _ _ r d).trans ?_
    exact congrArg (one + ·) (drop_at x11 _ 0 d)

theorem hn_at (r : Fin 256) (d : Fin 1024) :
    k0_pay4 (F := Ideal) (k0_pay7 x0 x1 x2 x3 x4 x5 x6 x7 x8 x9 x10 x11 x12 x13) x9 x11 x10 (ix2 r d)
      = bhn x0 x1 x2 x3 x4 x5 x6 x7 x8 x9 x10 x11 r d := by
  refine (pay4_at _ _ _ _ r d).trans ?_
  exact congrArg (fun v => mod v (fun k => x9 (ix3 0 0 k)) (fun k => x11 (ix3 0 0 k)) (fun k => x10 (ix3 0 0 k)) d)
    (funext fun k => pay7_at x0 x1 x2 x3 x4 x5 x6 x7 x8 x9 x10 x11 x12 x13 r k)

theorem out14_at (r : Fin 256) (d : Fin 1024) :
    out0_14 (F := Ideal) x0 x1 x2 x3 x4 x5 x6 x7 x8 x9 x10 x11 x12 x13 (ix3 0 r d) = bxn x0 x1 x2 x3 x4 x5 x6 x7 x8 r d := by
  unfold out0_14
  rw [View.canon_unit_zero hz3]
  exact (add_at _ _ r d).trans (pay7_at x0 x1 x2 x3 x4 x5 x6 x7 x8 x9 x10 x11 x12 x13 r d)

theorem out15_at (r : Fin 256) (d : Fin 1024) :
    out0_15 (F := Ideal) x0 x1 x2 x3 x4 x5 x6 x7 x8 x9 x10 x11 x12 x13 (ix2 r d) = bhn x0 x1 x2 x3 x4 x5 x6 x7 x8 x9 x10 x11 r d := by
  unfold out0_15
  rw [View.canon_unit_zero hz2]
  rw [ld3 (e := .f32) x9, ld3 (e := .f32) x11, ld3 (e := .f32) x10]
  exact hn_at x0 x1 x2 x3 x4 x5 x6 x7 x8 x9 x10 x11 x12 x13 r d

/-- A product of rows of the router's weights with rows of the block. -/
theorem router_at (w : FVec Ideal S64x1024 .bf16) (v : FVec Ideal S256x1024 .bf16) (e : Fin 64) (r : Fin 256) :
    FloatOps.matmul dot_S64x1024_S256x1024_S64x256_1_1_0_0_n_n none (shapeCast S64x1024 w shapeCasts_S64x1024_S64x1024) v
        (constant S64x256 .f32 0x00000000#32) (ix2 e r) = ∑ d : Fin 1024, w (ix2 e d) * v (ix2 r d) := by
  refine (rows_at (φ₁ := .bf16) (φ₂ := .bf16) dot_S64x1024_S256x1024_S64x256_1_1_0_0_n_n rfl _ v e r).trans ?_
  exact Finset.sum_congr rfl fun d _ => congrArg (· * v (ix2 r d)) (shapeCast_apply w _ _ (ix2 e d) rfl)

theorem out16_at (e : Fin 64) (r : Fin 256) :
    out0_16 (F := Ideal) x0 x1 x2 x3 x4 x5 x6 x7 x8 x9 x10 x11 x12 x13 (ix2 e r)
      = ((∑ d, x12 (ix2 e d) * bhn x0 x1 x2 x3 x4 x5 x6 x7 x8 x9 x10 x11 r d)
          + ∑ d, x12 (ix2 e d) * (bhn x0 x1 x2 x3 x4 x5 x6 x7 x8 x9 x10 x11 r d - bhn x0 x1 x2 x3 x4 x5 x6 x7 x8 x9 x10 x11 r d))
        + ∑ d, x13 (ix2 e d) * bhn x0 x1 x2 x3 x4 x5 x6 x7 x8 x9 x10 x11 r d := by
  unfold out0_16
  rw [View.canon_unit_zero hz2]
  rw [ld3 (e := .f32) x9, ld3 (e := .f32) x11, ld3 (e := .f32) x10, ld6 (e := .bf16) x12, ld6 (e := .bf16) x13]
  have hh := fun d => hn_at x0 x1 x2 x3 x4 x5 x6 x7 x8 x9 x10 x11 x12 x13 r d
  refine congrArg₂ (· + ·) (congrArg₂ (· + ·) ((router_at x12 _ e r).trans ?_) ((router_at x12 _ e r).trans ?_)) ((router_at x13 _ e r).trans ?_)
  · exact Finset.sum_congr rfl fun d _ => congrArg (x12 (ix2 e d) * ·) (hh d)
  · exact Finset.sum_congr rfl fun d _ => congrArg (x12 (ix2 e d) * ·) (congrArg₂ (· - ·) (hh d) (hh d))
  · exact Finset.sum_congr rfl fun d _ => congrArg (x13 (ix2 e d) * ·) (hh d)

end

end Cert.MergeBlock

end
-- ==== Proof.MergeArray.lean ====
/- The merge's result arrays: what the blocks written back leave in them, index by index. -/
module

public import proofs.«01_k».proof.Proof.MergeKernel

@[expose] public section

set_option maxRecDepth 16384

noncomputable section

namespace Cert.MergeArray

open Cert.Kernel3Ideal Cert.Kernel3Ideal.Gen Idealize.ShloMosaic Idealize.ShloMosaic.TcCoe Idealize.SL.Sem Idealize.ShloMosaic.ValueIdx
open Cert.Softmax Cert.Rows Cert.Merge Cert.MergeBlock
open Idealize.ShloMosaic.Pipeline (Dat Window)

variable (m : (ℓ : Loc nD τ sig) → Buf (Elt Ideal) ℓ) (ρ : Dev nD → PrngReg)

/-- The arguments of device `c`. -/
def args (c : Dev nD) : Args where
  x := m ((c : Thread nD τ).loc main_arg0)
  oa := m ((c : Thread nD τ).loc main_arg1)
  ob := m ((c : Thread nD τ).loc main_arg2)
  ga := m ((c : Thread nD τ).loc main_arg3)
  gb := m ((c : Thread nD τ).loc main_arg4)
  woa := m ((c : Thread nD τ).loc main_arg5)
  wob := m ((c : Thread nD τ).loc main_arg6)
  wout := m ((c : Thread nD τ).loc main_arg7)
  md := m ((c : Thread nD τ).loc main_arg8)
  gain := m ((c : Thread nD τ).loc main_arg9)
  router := m ((c : Thread nD τ).loc main_arg10)

/-! ## The host's results: the router's weights with the lanes last, and what rounding them leaves -/

theorem V_hi (c : Dev nD) : V m c main_v1
    = (truncf .bf16 (transpose S64x1024 [1, 0] (m ((c : Thread nD τ).loc main_arg10)) transposes_S1024x64_S64x1024_1_0) bitsLt_bf16_f32
        : FVec Ideal S64x1024 .bf16) := by
  dsimp only [V, hostOps0]
  after_results_simp <;> rfl

theorem V_lo (c : Dev nD) : V m c main_v4
    = (truncf .bf16 (subf (transpose S64x1024 [1, 0] (m ((c : Thread nD τ).loc main_arg10)) transposes_S1024x64_S64x1024_1_0)
        (extf .f32 (truncf .bf16 (transpose S64x1024 [1, 0] (m ((c : Thread nD τ).loc main_arg10)) transposes_S1024x64_S64x1024_1_0) bitsLt_bf16_f32)
          bitsLt_bf16_f32)) bitsLt_bf16_f32 : FVec Ideal S64x1024 .bf16) := by
  dsimp only [V, hostOps0]
  after_results_simp <;> rfl

theorem turned (c : Dev nD) (e : Fin 64) (d : Fin 1024) :
    transpose S64x1024 [1, 0] (m ((c : Thread nD τ).loc main_arg10)) transposes_S1024x64_S64x1024_1_0 (ix2 e d) = wr (args m c) e d :=
  congrArg (m ((c : Thread nD τ).loc main_arg10)) (ext2 rfl rfl)

theorem hi_at (c : Dev nD) (e : Fin 64) (d : Fin 1024) : V m c main_v1 (ix2 e d) = wr (args m c) e d := by
  rw [V_hi]; exact turned m c e d

theorem lo_at (c : Dev nD) (e : Fin 64) (d : Fin 1024) : V m c main_v4 (ix2 e d) = wr (args m c) e d - wr (args m c) e d := by
  rw [V_lo]
  exact congrArg₂ (fun a b : EReal => a - b) (turned m c e d) (turned m c e d)

/-! ## The blocks of a point -/

theorem moves : ∀ t : Fin grid0.N,
    (win0_0.index t 0 = t.val / 8 ∧ win0_0.index t 1 = t.val % 8 ∧ win0_0.index t 2 = 0)
    ∧ (win0_1.index t 0 = t.val / 8 ∧ win0_1.index t 1 = t.val % 8 ∧ win0_1.index t 2 = 0)
    ∧ (win0_2.index t 0 = t.val / 8 ∧ win0_2.index t 1 = t.val % 8 ∧ win0_2.index t 2 = 0)
    ∧ (win0_3.index t 0 = t.val / 8 ∧ win0_3.index t 1 = t.val % 8 ∧ win0_3.index t 2 = 0)
    ∧ (win0_4.index t 0 = t.val / 8 ∧ win0_4.index t 1 = t.val % 8 ∧ win0_4.index t 2 = 0)
    ∧ (win0_14.index t 0 = t.val / 8 ∧ win0_14.index t 1 = t.val % 8 ∧ win0_14.index t 2 = 0)
    ∧ (win0_15.index t 0 = t.val ∧ win0_15.index t 1 = 0) ∧ (win0_16.index t 0 = 0 ∧ win0_16.index t 1 = t.val) := by decide +kernel

theorem turns : ∀ t : Fin grid0.N,
    (win0_8.index t 0 = t.val / 8 ∧ win0_8.index t 1 = 0 ∧ win0_8.index t 2 = 2)
    ∧ (win0_10.index t 0 = t.val / 8 ∧ win0_10.index t 1 = 0 ∧ win0_10.index t 2 = 3)
    ∧ (win0_11.index t 0 = t.val / 8 ∧ win0_11.index t 1 = 0 ∧ win0_11.index t 2 = 4) := by decide +kernel

theorem stays : ∀ t : Fin grid0.N,
    (win0_5.index t 0 = 0 ∧ win0_5.index t 1 = 0) ∧ (win0_6.index t 0 = 0 ∧ win0_6.index t 1 = 0)
    ∧ (win0_7.index t 0 = 0 ∧ win0_7.index t 1 = 0) ∧ (win0_9.index t 0 = 0 ∧ win0_9.index t 1 = 0 ∧ win0_9.index t 2 = 0)
    ∧ (win0_12.index t 0 = 0 ∧ win0_12.index t 1 = 0) ∧ (win0_13.index t 0 = 0 ∧ win0_13.index t 1 = 0) := by decide +kernel

def im (t : Fin grid0.N) : Fin 16 := ⟨t.val / 8, by have := lt_of_lt_of_eq t.isLt Gen.N_0; omega⟩
def row (t : Fin grid0.N) (r : Fin 256) : Fin 2048 := ⟨t.val % 8 * 256 + r.val, by omega⟩
def tok (t : Fin grid0.N) (r : Fin 256) : Fin 32768 := ⟨t.val * 256 + r.val, by have := lt_of_lt_of_eq t.isLt Gen.N_0; omega⟩

theorem img_tok (t : Fin grid0.N) (r : Fin 256) : img (tok t r) = im t := Fin.ext (by
  show (t.val * 256 + r.val) / 2048 = t.val / 8; omega)
theorem pos_tok (t : Fin grid0.N) (r : Fin 256) : pos (tok t r) = row t r := Fin.ext (by
  show (t.val * 256 + r.val) % 2048 = t.val % 8 * 256 + r.val; omega)

/-- The block of a token array at a point. -/
theorem place {n : ℕ} (t : Fin grid0.N) (r : Fin 256) (d : Fin n) (a0 a1 a2 : ℕ) (h0 : a0 = t.val / 8) (h1 : a1 = t.val % 8) (h2 : a2 = 0) :
    a0 * 1 + 0 = (im t).val ∧ a1 * 256 + r.val = (row t r).val ∧ a2 * n + d.val = d.val := by
  subst h0 h1 h2
  exact ⟨by show t.val / 8 * 1 + 0 = t.val / 8; omega, rfl, by omega⟩

theorem emb0 (t : Fin grid0.N) (r : Fin 256) (d : Fin 1024) : (win0_0.rect t).emb (ix3 0 r d) = ix3 (im t) (row t r) d := by
  obtain ⟨⟨e0, e1, e2⟩, _⟩ := moves t
  have p := place t r d _ _ _ e0 e1 e2
  refine ext3 ?_ ?_ ?_ <;> rw [Window.rect_emb_val win0_0 t]
  exacts [p.1, p.2.1, p.2.2]
theorem emb1 (t : Fin grid0.N) (r : Fin 256) (d : Fin 512) : (win0_1.rect t).emb (ix3 0 r d) = ix3 (im t) (row t r) d := by
  obtain ⟨_, ⟨e0, e1, e2⟩, _⟩ := moves t
  have p := place t r d _ _ _ e0 e1 e2
  refine ext3 ?_ ?_ ?_ <;> rw [Window.rect_emb_val win0_1 t]
  exacts [p.1, p.2.1, p.2.2]
theorem emb2 (t : Fin grid0.N) (r : Fin 256) (d : Fin 512) : (win0_2.rect t).emb (ix3 0 r d) = ix3 (im t) (row t r) d := by
  obtain ⟨_, _, ⟨e0, e1, e2⟩, _⟩ := moves t
  have p := place t r d _ _ _ e0 e1 e2
  refine ext3 ?_ ?_ ?_ <;> rw [Window.rect_emb_val win0_2 t]
  exacts [p.1, p.2.1, p.2.2]
theorem emb3 (t : Fin grid0.N) (r : Fin 256) (d : Fin 1024) : (win0_3.rect t).emb (ix3 0 r d) = ix3 (im t) (row t r) d := by
  obtain ⟨_, _, _, ⟨e0, e1, e2⟩, _⟩ := moves t
  have p := place t r d _ _ _ e0 e1 e2
  refine ext3 ?_ ?_ ?_ <;> rw [Window.rect_emb_val win0_3 t]
  exacts [p.1, p.2.1, p.2.2]
theorem emb4 (t : Fin grid0.N) (r : Fin 256) (d : Fin 1024) : (win0_4.rect t).emb (ix3 0 r d) = ix3 (im t) (row t r) d := by
  obtain ⟨_, _, _, _, ⟨e0, e1, e2⟩, _⟩ := moves t
  have p := place t r d _ _ _ e0 e1 e2
  refine ext3 ?_ ?_ ?_ <;> rw [Window.rect_emb_val win0_4 t]
  exacts [p.1, p.2.1, p.2.2]
theorem emb14 (t : Fin grid0.N) (r : Fin 256) (d : Fin 1024) : (win0_14.rect t).emb (ix3 0 r d) = ix3 (im t) (row t r) d := by
  obtain ⟨_, _, _, _, _, ⟨e0, e1, e2⟩, _⟩ := moves t
  have p := place t r d _ _ _ e0 e1 e2
  refine ext3 ?_ ?_ ?_ <;> rw [Window.rect_emb_val win0_14 t]
  exacts [p.1, p.2.1, p.2.2]
theorem emb15 (t : Fin grid0.N) (r : Fin 256) (d : Fin 1024) : (win0_15.rect t).emb (ix2 r d) = ix2 (tok t r) d := by
  obtain ⟨_, _, _, _, _, _, ⟨e0, e1⟩, _⟩ := moves t
  refine ext2 ?_ ?_ <;> rw [Window.rect_emb_val win0_15 t]
  · rw [e0]; rfl
  · rw [e1]; show 0 * 1024 + d.val = d.val; omega
theorem emb16 (t : Fin grid0.N) (e : Fin 64) (r : Fin 256) : (win0_16.rect t).emb (ix2 e r) = ix2 e (tok t r) := by
  obtain ⟨_, _, _, _, _, _, _, e0, e1⟩ := moves t
  refine ext2 ?_ ?_ <;> rw [Window.rect_emb_val win0_16 t]
  · rw [e0]; show 0 * 64 + e.val = e.val; omega
  · rw [e1]; rfl

theorem emb5 (t : Fin grid0.N) (r : Fin 512) (d : Fin 1024) : (win0_5.rect t).emb (ix2 r d) = ix2 r d := by
  obtain ⟨⟨e0, e1⟩, _⟩ := stays t
  refine ext2 ?_ ?_ <;> rw [Window.rect_emb_val win0_5 t]
  · rw [e0]; show 0 * 512 + r.val = r.val; omega
  · rw [e1]; show 0 * 1024 + d.val = d.val; omega
theorem emb6 (t : Fin grid0.N) (r : Fin 512) (d : Fin 1024) : (win0_6.rect t).emb (ix2 r d) = ix2 r d := by
  obtain ⟨_, ⟨e0, e1⟩, _⟩ := stays t
  refine ext2 ?_ ?_ <;> rw [Window.rect_emb_val win0_6 t]
  · rw [e0]; show 0 * 512 + r.val = r.val; omega
  · rw [e1]; show 0 * 1024 + d.val = d.val; omega
theorem emb7 (t : Fin grid0.N) (r : Fin 1024) (d : Fin 1024) : (win0_7.rect t).emb (ix2 r d) = ix2 r d := by
  obtain ⟨_, _, ⟨e0, e1⟩, _⟩ := stays t
  refine ext2 ?_ ?_ <;> rw [Window.rect_emb_val win0_7 t]
  · rw [e0]; show 0 * 1024 + r.val = r.val; omega
  · rw [e1]; show 0 * 1024 + d.val = d.val; omega
theorem emb9 (t : Fin grid0.N) (d : Fin 1024) : (win0_9.rect t).emb (ix3 0 0 d) = ix3 0 0 d := by
  obtain ⟨_, _, _, ⟨e0, e1, e2⟩, _⟩ := stays t
  refine ext3 ?_ ?_ ?_ <;> rw [Window.rect_emb_val win0_9 t]
  · rw [e0]; rfl
  · rw [e1]; rfl
  · rw [e2]; show 0 * 1024 + d.val = d.val; omega
theorem emb12 (t : Fin grid0.N) (e : Fin 64) (d : Fin 1024) : (win0_12.rect t).emb (ix2 e d) = ix2 e d := by
  obtain ⟨_, _, _, _, ⟨e0, e1⟩, _⟩ := stays t
  refine ext2 ?_ ?_ <;> rw [Window.rect_emb_val win0_12 t]
  · rw [e0]; show 0 * 64 + e.val = e.val; omega
  · rw [e1]; show 0 * 1024 + d.val = d.val; omega
theorem emb13 (t : Fin grid0.N) (e : Fin 64) (d : Fin 1024) : (win0_13.rect t).emb (ix2 e d) = ix2 e d := by
  obtain ⟨_, _, _, _, _, e0, e1⟩ := stays t
  refine ext2 ?_ ?_ <;> rw [Window.rect_emb_val win0_13 t]
  · rw [e0]; show 0 * 64 + e.val = e.val; omega
  · rw [e1]; show 0 * 1024 + d.val = d.val; omega

theorem emb8 (t : Fin grid0.N) (d : Fin 1024) : (win0_8.rect t).emb (ix3 0 0 d) = ix3 (up (im t)) 0 ⟨2048 + d.val, by omega⟩ := by
  obtain ⟨⟨e0, e1, e2⟩, _⟩ := turns t
  refine ext3 ?_ ?_ ?_ <;> rw [Window.rect_emb_val win0_8 t]
  · rw [e0]; show t.val / 8 * 1 + 0 = t.val / 8; omega
  · rw [e1]; rfl
  · rw [e2]; rfl
theorem emb10 (t : Fin grid0.N) (d : Fin 1024) : (win0_10.rect t).emb (ix3 0 0 d) = ix3 (up (im t)) 0 ⟨3072 + d.val, by omega⟩ := by
  obtain ⟨_, ⟨e0, e1, e2⟩, _⟩ := turns t
  refine ext3 ?_ ?_ ?_ <;> rw [Window.rect_emb_val win0_10 t]
  · rw [e0]; show t.val / 8 * 1 + 0 = t.val / 8; omega
  · rw [e1]; rfl
  · rw [e2]; rfl
theorem emb11 (t : Fin grid0.N) (d : Fin 1024) : (win0_11.rect t).emb (ix3 0 0 d) = ix3 (up (im t)) 0 ⟨4096 + d.val, by omega⟩ := by
  obtain ⟨_, _, e0, e1, e2⟩ := turns t
  refine ext3 ?_ ?_ ?_ <;> rw [Window.rect_emb_val win0_11 t]
  · rw [e0]; show t.val / 8 * 1 + 0 = t.val / 8; omega
  · rw [e1]; rfl
  · rw [e2]; rfl

section
variable (c : Dev nD) (t : Fin grid0.N)

theorem in0 (r : Fin 256) (d : Fin 1024) : iblk m c 0 t (ix3 0 r d) = (args m c).x (ix3 (im t) (row t r) d) :=
  (congrArg (V m c main_arg0) (emb0 t r d)).trans (congrFun (V_main_arg0 m c) _)
theorem in1 (r : Fin 256) (d : Fin 512) : iblk m c 1 t (ix3 0 r d) = (args m c).oa (ix3 (im t) (row t r) d) :=
  (congrArg (V m c main_arg1) (emb1 t r d)).trans (congrFun (V_main_arg1 m c) _)
theorem in2 (r : Fin 256) (d : Fin 512) : iblk m c 2 t (ix3 0 r d) = (args m c).ob (ix3 (im t) (row t r) d) :=
  (congrArg (V m c main_arg2) (emb2 t r d)).trans (congrFun (V_main_arg2 m c) _)
theorem in3 (r : Fin 256) (d : Fin 1024) : iblk m c 3 t (ix3 0 r d) = (args m c).ga (ix3 (im t) (row t r) d) :=
  (congrArg (V m c main_arg3) (emb3 t r d)).trans (congrFun (V_main_arg3 m c) _)
theorem in4 (r : Fin 256) (d : Fin 1024) : iblk m c 4 t (ix3 0 r d) = (args m c).gb (ix3 (im t) (row t r) d) :=
  (congrArg (V m c main_arg4) (emb4 t r d)).trans (congrFun (V_main_arg4 m c) _)
theorem in5 (r : Fin 512) (d : Fin 1024) : iblk m c 5 t (ix2 r d) = (args m c).woa (ix2 r d) :=
  (congrArg (V m c main_arg5) (emb5 t r d)).trans (congrFun (V_main_arg5 m c) _)
theorem in6 (r : Fin 512) (d : Fin 1024) : iblk m c 6 t (ix2 r d) = (args m c).wob (ix2 r d) :=
  (congrArg (V m c main_arg6) (emb6 t r d)).trans (congrFun (V_main_arg6 m c) _)
theorem in7 (r : Fin 1024) (d : Fin 1024) : iblk m c 7 t (ix2 r d) = (args m c).wout (ix2 r d) :=
  (congrArg (V m c main_arg7) (emb7 t r d)).trans (congrFun (V_main_arg7 m c) _)
theorem in8 (d : Fin 1024) : iblk m c 8 t (ix3 0 0 d) = mdAt (args m c) 2048 (by omega) (im t) d :=
  (congrArg (V m c main_arg8) (emb8 t d)).trans (congrFun (V_main_arg8 m c) _)
theorem in9 (d : Fin 1024) : iblk m c 9 t (ix3 0 0 d) = (args m c).gain (ix3 0 0 d) :=
  (congrArg (V m c main_arg9) (emb9 t d)).trans (congrFun (V_main_arg9 m c) _)
theorem in10 (d : Fin 1024) : iblk m c 10 t (ix3 0 0 d) = mdAt (args m c) 3072 (by omega) (im t) d :=
  (congrArg (V m c main_arg8) (emb10 t d)).trans (congrFun (V_main_arg8 m c) _)
theorem in11 (d : Fin 1024) : iblk m c 11 t (ix3 0 0 d) = mdAt (args m c) 4096 (by omega) (im t) d :=
  (congrArg (V m c main_arg8) (emb11 t d)).trans (congrFun (V_main_arg8 m c) _)
theorem in12 (e : Fin 64) (d : Fin 1024) : iblk m c 12 t (ix2 e d) = wr (args m c) e d :=
  (congrArg (V m c main_v1) (emb12 t e d)).trans (hi_at m c e d)
theorem in13 (e : Fin 64) (d : Fin 1024) : iblk m c 13 t (ix2 e d) = wr (args m c) e d - wr (args m c) e d :=
  (congrArg (V m c main_v4) (emb13 t e d)).trans (lo_at m c e d)

/-- The tokens of a block are the call's. -/
theorem bxn_eq (r : Fin 256) :
    bxn (iblk m c 0 t) (iblk m c 1 t) (iblk m c 2 t) (iblk m c 3 t) (iblk m c 4 t) (iblk m c 5 t) (iblk m c 6 t) (iblk m c 7 t) (iblk m c 8 t) r
      = xn (args m c) (im t) (row t r) := by
  unfold bxn xn
  congr 1
  all_goals first
    | exact funext fun d => in0 m c t r d
    | exact funext fun d => in1 m c t r d
    | exact funext fun d => in2 m c t r d
    | exact funext fun d => in3 m c t r d
    | exact funext fun d => in4 m c t r d
    | exact funext fun k => funext fun d => in5 m c t k d
    | exact funext fun k => funext fun d => in6 m c t k d
    | exact funext fun k => funext fun d => in7 m c t k d
    | exact funext fun d => in8 m c t d

theorem bhn_eq (r : Fin 256) :
    bhn (iblk m c 0 t) (iblk m c 1 t) (iblk m c 2 t) (iblk m c 3 t) (iblk m c 4 t) (iblk m c 5 t) (iblk m c 6 t) (iblk m c 7 t) (iblk m c 8 t)
        (iblk m c 9 t) (iblk m c 10 t) (iblk m c 11 t) r
      = hn (args m c) (im t) (row t r) := by
  unfold bhn hn
  rw [bxn_eq]
  exact congr (congrArg₂ (mod _) (funext fun d => in9 m c t d) (funext fun d => in11 m c t d)) (funext fun d => in10 m c t d)

end

/-! ## The results -/

/-- What the third result's blocks hold before the low parts are seen to vanish. -/
def resL2 (A : Args) : FVec Ideal ⟨2, ![64, 32768]⟩ .f32 := fun i => logitSplit (wr A (i 0)) (hn A (img (i 1)) (pos (i 1)))

theorem flushed14_eq (c : Dev nD) (t : Fin cfg0.N) :
    (dats m 0 c).flushed 14 t = ((cfg0.win 14).blk t).view.read (Elt Ideal) (resX (args m c)) := by
  rw [Value.flushed14]
  funext y
  obtain ⟨r, d, rfl⟩ : ∃ (r : Fin 256) (d : Fin 1024), y = (ix3 0 r d : S1x256x1024.Idx) := by
    have h0 : (y 0).val < 1 := (y 0).isLt
    exact ⟨y 1, y 2, ext3 (by show (y 0).val = 0; omega) rfl rfl⟩
  refine (out14_at _ _ _ _ _ _ _ _ _ _ _ _ _ _ r d).trans ?_
  refine Eq.trans ?_ (congrArg (resX (args m c)) (emb14 t r d)).symm
  exact congrFun (bxn_eq m c t r) d

theorem flushed15_eq (c : Dev nD) (t : Fin cfg0.N) :
    (dats m 0 c).flushed 15 t = ((cfg0.win 15).blk t).view.read (Elt Ideal) (resH (args m c)) := by
  rw [Value.flushed15]
  funext y
  obtain ⟨r, d, rfl⟩ : ∃ (r : Fin 256) (d : Fin 1024), y = (ix2 r d : S256x1024.Idx) := ⟨y 0, y 1, ext2 rfl rfl⟩
  refine (out15_at _ _ _ _ _ _ _ _ _ _ _ _ _ _ r d).trans ?_
  refine Eq.trans ?_ (congrArg (resH (args m c)) (emb15 t r d)).symm
  show _ = hn (args m c) (img (tok t r)) (pos (tok t r)) d
  rw [img_tok, pos_tok]
  exact congrFun (bhn_eq m c t r) d

theorem flushed16_eq (c : Dev nD) (t : Fin cfg0.N) :
    (dats m 0 c).flushed 16 t = ((cfg0.win 16).blk t).view.read (Elt Ideal) (resL2 (args m c)) := by
  rw [Value.flushed16]
  funext y
  obtain ⟨e, r, rfl⟩ : ∃ (e : Fin 64) (r : Fin 256), y = (ix2 e r : S64x256.Idx) := ⟨y 0, y 1, ext2 rfl rfl⟩
  refine (out16_at _ _ _ _ _ _ _ _ _ _ _ _ _ _ e r).trans ?_
  refine Eq.trans ?_ (congrArg (resL2 (args m c)) (emb16 t e r)).symm
  show _ = logitSplit (wr (args m c) e) (hn (args m c) (img (tok t r)) (pos (tok t r)))
  rw [img_tok, pos_tok, bhn_eq]
  refine congrArg₂ (· + ·) (congrArg₂ (· + ·) ?_ ?_) ?_
  · exact Finset.sum_congr rfl fun d _ => congrArg (· * _) (in12 m c t e d)
  · exact Finset.sum_congr rfl fun d _ => congrArg (· * _) (in12 m c t e d)
  · exact Finset.sum_congr rfl fun d _ => congrArg (· * _) (in13 m c t e d)

theorem cover14 (i : S16x2048x1024.Idx) : ∃ t : Fin cfg0.N, (cfg0.win 14).flush t = true ∧ i ∈ ((cfg0.win 14).blk t).view.set := by
  have h0 : (i 0).val < 16 := (i 0).isLt
  have h1 : (i 1).val < 2048 := (i 1).isLt
  have hN : cfg0.N = 128 := N_0
  obtain ⟨t, ht⟩ : ∃ t : Fin cfg0.N, t.val = (i 0).val * 8 + (i 1).val / 256 := ⟨⟨_, by omega⟩, rfl⟩
  refine ⟨t, flush0_14 _, ?_⟩
  have e : i = (win0_14.rect t).emb (ix3 0 ⟨(i 1).val % 256, by omega⟩ (i 2)) := by
    refine Eq.trans ?_ (emb14 t _ _).symm
    refine ext3 ?_ ?_ rfl
    · show (i 0).val = t.val / 8; omega
    · show (i 1).val = t.val % 8 * 256 + (i 1).val % 256; omega
  rw [e]
  exact View.emb_mem_set ((cfg0.win 14).blk t).view _

theorem cover15 (i : S32768x1024.Idx) : ∃ t : Fin cfg0.N, (cfg0.win 15).flush t = true ∧ i ∈ ((cfg0.win 15).blk t).view.set := by
  have h0 : (i 0).val < 32768 := (i 0).isLt
  have hN : cfg0.N = 128 := N_0
  obtain ⟨t, ht⟩ : ∃ t : Fin cfg0.N, t.val = (i 0).val / 256 := ⟨⟨_, by omega⟩, rfl⟩
  refine ⟨t, flush0_15 _, ?_⟩
  have e : i = (win0_15.rect t).emb (ix2 ⟨(i 0).val % 256, by omega⟩ (i 1)) := by
    refine Eq.trans ?_ (emb15 t _ _).symm
    exact ext2 (by show (i 0).val = t.val * 256 + (i 0).val % 256; omega) rfl
  rw [e]
  exact View.emb_mem_set ((cfg0.win 15).blk t).view _

theorem cover16 (i : S64x32768.Idx) : ∃ t : Fin cfg0.N, (cfg0.win 16).flush t = true ∧ i ∈ ((cfg0.win 16).blk t).view.set := by
  have h1 : (i 1).val < 32768 := (i 1).isLt
  have hN : cfg0.N = 128 := N_0
  obtain ⟨t, ht⟩ : ∃ t : Fin cfg0.N, t.val = (i 1).val / 256 := ⟨⟨_, by omega⟩, rfl⟩
  refine ⟨t, flush0_16 _, ?_⟩
  have e : i = (win0_16.rect t).emb (ix2 (i 0) ⟨(i 1).val % 256, by omega⟩) := by
    refine Eq.trans ?_ (emb16 t _ _).symm
    exact ext2 rfl (by show (i 1).val = t.val * 256 + (i 1).val % 256; omega)
  rw [e]
  exact View.emb_mem_set ((cfg0.win 16).blk t).view _

theorem final14 (c : Dev nD) : (dats m 0 c).arrAt 14 cfg0.N = resX (args m c) :=
  (dats m 0 c).arrAt_eq_of_cover 14 (resX (args m c)) (fun t _ => flushed14_eq m c t) cover14
theorem final15 (c : Dev nD) : (dats m 0 c).arrAt 15 cfg0.N = resH (args m c) :=
  (dats m 0 c).arrAt_eq_of_cover 15 (resH (args m c)) (fun t _ => flushed15_eq m c t) cover15
theorem final16 (c : Dev nD) : (dats m 0 c).arrAt 16 cfg0.N = resL2 (args m c) :=
  (dats m 0 c).arrAt_eq_of_cover 16 (resL2 (args m c)) (fun t _ => flushed16_eq m c t) cover16

/-! ## On finite arguments the low parts vanish -/

/-- Every argument is a real number. -/
structure Real (A : Args) : Prop where
  x : ∀ i, IsReal (A.x i)
  oa : ∀ i, IsReal (A.oa i)
  ob : ∀ i, IsReal (A.ob i)
  ga : ∀ i, IsReal (A.ga i)
  gb : ∀ i, IsReal (A.gb i)
  woa : ∀ i, IsReal (A.woa i)
  wob : ∀ i, IsReal (A.wob i)
  wout : ∀ i, IsReal (A.wout i)
  md : ∀ i, IsReal (A.md i)
  gain : ∀ i, IsReal (A.gain i)
  router : ∀ i, IsReal (A.router i)

theorem isReal_xn {A : Args} (h : Real A) (b : Fin 16) (q : Fin 2048) (d : Fin 1024) : IsReal (xn A b q d) :=
  isReal_mix _ _ _ _ _ _ _ _ _ (fun _ => h.x _) (fun _ => h.ga _) (fun _ => h.gb _) (fun _ => h.md _) (fun _ => h.oa _) (fun _ => h.ob _)
    (fun _ _ => h.woa _) (fun _ _ => h.wob _) (fun _ _ => h.wout _) d

theorem isReal_hn {A : Args} (h : Real A) (b : Fin 16) (q : Fin 2048) (d : Fin 1024) : IsReal (hn A b q d) :=
  isReal_mod _ _ _ _ (isReal_xn h b q) (fun _ => h.gain _) (fun _ => h.md _) (fun _ => h.md _) d

theorem resL2_eq {A : Args} (h : Real A) : resL2 A = resL A :=
  funext fun i => logitSplit_eq _ _ (fun _ => h.router _) (isReal_hn h _ _)

end Cert.MergeArray

end
-- ==== Proof.Merge.lean ====
module

public import proofs.«01_k».proof.Defs
public import proofs.«01_k».proof.Proof.MergeArray
public import proofs.«01_k».proof.Proof.Finite
public import proofs.«01_k».proof.Proof.Gen.Kernel3.Frame
public import proofs.«01_k».proof.Proof.Gen.Reference3Ideal.Run
public import proofs.«01_k».proof.Proof.Gen.Pre_merged_finite
public import Idealize.ShloMosaic.Lib.Quiescent

/-!
The merge's call and its reference leave the same results where no argument holds an infinity.
-/

@[expose] public section

set_option maxRecDepth 16384

noncomputable section

namespace Cert.Merge

open Idealize.ShloMosaic Idealize.SL.Sem Cert.Finite Cert.MergeArray

/-- The reference's run leaves its arguments and, having no semaphore, all counters at zero. -/
theorem frame_reference : Cert.quiescent_Reference3Ideal := fun m g _ =>
  (θ_run Cert.Reference3Ideal.defs _ _).mono (fun r h => ⟨fun c => (h c).2.2.2, Idealize.ShloMosaic.sem_eq_zero_of_no_sems (by decide) r.2⟩)
    (Cert.Reference3Ideal.Value.run (F := Ideal) m g)

variable [Cert.Pre_merged_finite.Facts]

theorem real_of_pre (m : (ℓ : Loc Cert.Kernel3Ideal.nD Cert.Kernel3Ideal.τ Cert.Kernel3Ideal.sig) → Buf (Elt Ideal) ℓ)
    (hpre : Cert.Pre_Kernel3Ideal_merged_finite m) (c : Dev Cert.Kernel3Ideal.nD) : Real (args m c) := by
  obtain ⟨h0, h1, h2, h3, h4, h5, h6, h7, h8, h9, h10⟩ := hpre c
  exact ⟨fun i => isReal_of _ (congrFun h0 i), fun i => isReal_of _ (congrFun h1 i), fun i => isReal_of _ (congrFun h2 i),
    fun i => isReal_of _ (congrFun h3 i), fun i => isReal_of _ (congrFun h4 i), fun i => isReal_of _ (congrFun h5 i),
    fun i => isReal_of _ (congrFun h6 i), fun i => isReal_of _ (congrFun h7 i), fun i => isReal_of _ (congrFun h8 i),
    fun i => isReal_of _ (congrFun h9 i), fun i => isReal_of _ (congrFun h10 i)⟩

/-- On finite arguments kernel and reference leave the same results. -/
theorem merge : Cert.algebraic_Kernel3Ideal_Reference3Ideal_pre_merged_finite := by
  intro m g m' g' hpre heq
  refine ⟨fun c => resX (args m c), fun c => resH (args m c), fun c => resL (args m c), ?_, ?_⟩
  · exact (θ_run Cert.Kernel3Ideal.defs _ _).mono
      (fun r h c => ⟨(h c).1.trans (final14 m c), (h c).2.1.trans (final15 m c),
        (h c).2.2.1.trans ((final16 m c).trans (resL2_eq (real_of_pre m hpre c))), (h c).2.2.2⟩)
      (Cert.Kernel3Ideal.Value.run_blocks (F := Ideal) m g)
  · refine (θ_run Cert.Reference3Ideal.defs _ _).mono
      (fun r h c => ⟨(h c).1.trans ?_, (h c).2.1.trans ?_, (h c).2.2.1.trans ?_, (h c).2.2.2⟩) (Cert.Reference3Ideal.Value.run (F := Ideal) m' g')
    all_goals obtain ⟨e0, e1, e2, e3, e4, e5, e6, e7, e8, e9, e10⟩ := heq c
    · refine (Cert.Reference3Ideal.Read.val_main_v18_eq _ _ _ _ _ _ _ _ _).trans ?_
      rw [e0, e1, e2, e3, e4, e5, e6, e7, e8]
      exact refX (args m c)
    · refine (Cert.Reference3Ideal.Read.val_main_v40_eq m' c).trans ?_
      rw [e0, e1, e2, e3, e4, e5, e6, e7, e8, e9]
      exact refH (args m c)
    · refine (Cert.Reference3Ideal.Read.val_main_v41_eq m' c).trans ?_
      rw [e0, e1, e2, e3, e4, e5, e6, e7, e8, e9, e10]
      exact refL (args m c)

end Cert.Merge

end
-- ==== Proof.ProjRef.lean ====
/- The projection of the tokens, for the results it is claimed of: the modulated norm's columns, the normed heads, the latent
   values and the two gates; and what the reference computes at an index is these. -/
module

public import proofs.«01_k».proof.Proof.MergeRef
public import proofs.«01_k».proof.Proof.Gen.Reference4Ideal.Read

@[expose] public section

set_option maxRecDepth 16384

noncomputable section

namespace Cert.Proj

open Idealize.ShloMosaic Idealize.ShloMosaic.ValueIdx Cert.Softmax Cert.Rows
open Cert.Merge (eps one inv inv_div mod up)

theorem latents : Ideal.ofBits .f32 0x43800000#32 = ((256 : ℝ) : EReal) := by
  simp [Ideal.ofBits, Ideal.ieee]
  norm_num [← EReal.coe_mul]

theorem per_latent : Ideal.ofBits .f32 0x3B800000#32 = ((1 / 256 : ℝ) : EReal) := by
  simp [Ideal.ofBits, Ideal.ieee]
  norm_num [← EReal.coe_mul]

/-- The reciprocal root of the mean square of a latent. -/
def invc (v : Fin 256 → EReal) : EReal := Ideal.rsqrt ((∑ k, v k * v k) * Ideal.ofBits .f32 0x3B800000#32 + eps)

theorem invc_div (v : Fin 256 → EReal) :
    Ideal.rsqrt (Ideal.div (∑ k, v k * v k) (Ideal.ofBits .f32 0x43800000#32) + eps) = invc v := by
  unfold invc
  rw [latents, per_latent, Ideal.div_coe (by norm_num)]

/-- A latent's norm. -/
def lat (v g : Fin 256 → EReal) (k : Fin 256) : EReal := v k * invc v * g k

theorem head_width : Ideal.ofBits .f32 0x42800000#32 = ((64 : ℝ) : EReal) := by
  simp [Ideal.ofBits, Ideal.ieee]
  norm_num [← EReal.coe_mul]

theorem per_head : Ideal.ofBits .f32 0x3C800000#32 = ((1 / 64 : ℝ) : EReal) := by
  simp [Ideal.ofBits, Ideal.ieee]
  norm_num [← EReal.coe_mul]

/-- The lanes of a head: the head of lane `j`, its lane `k`, and where in its head `j` is. -/
def lane (j : Fin 512) (k : Fin 64) : Fin 512 := ⟨j.val / 64 * 64 + k.val, by omega⟩
def within (j : Fin 512) : Fin 64 := ⟨j.val % 64, by omega⟩

/-- The reciprocal root of a head's mean square. -/
def invh (v : Fin 64 → EReal) : EReal := Ideal.rsqrt ((∑ k, v k * v k) * Ideal.ofBits .f32 0x3C800000#32 + eps)

theorem invh_div (v : Fin 64 → EReal) :
    Ideal.rsqrt (Ideal.div (∑ k, v k * v k) (Ideal.ofBits .f32 0x42800000#32) + eps) = invh v := by
  unfold invh
  rw [head_width, per_head, Ideal.div_coe (by norm_num)]

/-- The norm of each head. -/
def normed (z : Fin 512 → EReal) (g : Fin 64 → EReal) (j : Fin 512) : EReal := z j * invh (fun k => z (lane j k)) * g (within j)

/-- The factor of the queries. -/
abbrev eighth : EReal := Ideal.ofBits .f32 0x3E000000#32

/-! ## The same norm through products with heads' indicators, of a high and a low part -/

/-- The reciprocal root of column `h`'s mean square, its square's rest apart. -/
def colInv (e : Fin 512 → Fin 128 → EReal) (z : Fin 512 → EReal) (h : Fin 128) : EReal :=
  Ideal.rsqrt (((∑ k, z k * z k * e k h) + ∑ k, (z k * z k - z k * z k) * e k h) * Ideal.ofBits .f32 0x3C800000#32 + eps)

def split (e : Fin 512 → Fin 128 → EReal) (et : Fin 128 → Fin 512 → EReal) (z g : Fin 512 → EReal) (j : Fin 512) : EReal :=
  z j * ((∑ h, colInv e z h * et h j) + ∑ h, (colInv e z h - colInv e z h) * et h j) * g j

/-- Whether lane `k` is of head `h`. -/
def ind (k : Fin 512) (h : Fin 128) : EReal := if k.val / 64 = h.val then 1 else 0

theorem sum_ind (a : Fin 512 → EReal) (j : Fin 512) : (∑ k, a k * ind k ⟨j.val / 64, by omega⟩) = ∑ k, a (lane j k) := by
  unfold ind
  simp only [mul_ite, mul_one, mul_zero]
  rw [← Finset.sum_filter]
  refine Finset.sum_nbij' (fun k => within k) (fun k => lane j k) (fun _ _ => Finset.mem_univ _) (fun k _ => ?_) (fun k hk => ?_) (fun k _ => ?_)
    (fun k hk => ?_)
  · rw [Finset.mem_filter]
    exact ⟨Finset.mem_univ _, show (j.val / 64 * 64 + k.val) / 64 = j.val / 64 by omega⟩
  · have := (Finset.mem_filter.mp hk).2
    have e : k.val / 64 = j.val / 64 := this
    exact Fin.ext (show j.val / 64 * 64 + k.val % 64 = k.val by omega)
  · exact Fin.ext (show (j.val / 64 * 64 + k.val) % 64 = k.val by omega)
  · have := (Finset.mem_filter.mp hk).2
    have e : k.val / 64 = j.val / 64 := this
    exact congrArg a (Fin.ext (show k.val = j.val / 64 * 64 + k.val % 64 by omega))

theorem isReal_ind (k : Fin 512) (h : Fin 128) : IsReal (ind k h) := by
  unfold ind
  split_ifs
  · exact isReal_coe 1
  · exact isReal_coe 0

theorem colInv_eq (z : Fin 512 → EReal) (hz : ∀ k, IsReal (z k)) (h : Fin 128) :
    colInv ind z h = Ideal.rsqrt ((∑ k, z k * z k * ind k h) * Ideal.ofBits .f32 0x3C800000#32 + eps) := by
  unfold colInv
  rw [Finset.sum_eq_zero (fun k _ => by rw [Cert.Merge.sub_self_real ((hz k).mul (hz k)), zero_mul] :
    ∀ k ∈ Finset.univ, (z k * z k - z k * z k) * ind k h = 0), add_zero]

theorem isReal_colInv (z : Fin 512 → EReal) (hz : ∀ k, IsReal (z k)) (h : Fin 128) : IsReal (colInv ind z h) := by
  rw [colInv_eq z hz h]
  choose r hr using fun d => (hz d).exists
  obtain ⟨e, he, ee⟩ := Cert.Merge.eps_pos
  have hs : (∑ k, z k * z k * ind k h) = ((∑ k : Fin 512, r k * r k * (if k.val / 64 = h.val then 1 else 0) : ℝ) : EReal) := by
    rw [coe_sum]
    refine Finset.sum_congr rfl fun k _ => ?_
    unfold ind
    rw [hr]
    split_ifs
    · rw [mul_one, mul_one, EReal.coe_mul]
    · rw [mul_zero, mul_zero, EReal.coe_zero]
  have hp : 0 < (∑ k : Fin 512, r k * r k * (if k.val / 64 = h.val then (1 : ℝ) else 0)) * (1 / 64) + e :=
    add_pos_of_nonneg_of_pos (mul_nonneg (Finset.sum_nonneg fun k _ => mul_nonneg (mul_self_nonneg (r k)) (by split_ifs <;> norm_num)) (by norm_num)) he
  rw [hs, per_head, ee, ← EReal.coe_mul, ← EReal.coe_add, Ideal.rsqrt_coe, if_neg (not_lt.mpr hp.le), if_neg hp.ne']
  exact isReal_coe _

theorem sum_heads (r : Fin 128 → EReal) (j : Fin 512) : (∑ h, r h * ind j h) = r ⟨j.val / 64, by omega⟩ := by
  refine (Finset.sum_eq_single (⟨j.val / 64, by omega⟩ : Fin 128) (fun h _ hne => ?_) (fun hn => absurd (Finset.mem_univ _) hn)).trans ?_
  · exact (congrArg (r h * ·) (if_neg fun e => hne (Fin.ext e.symm))).trans (mul_zero _)
  · exact (congrArg (r _ * ·) (if_pos rfl)).trans (mul_one _)

theorem split_eq (z : Fin 512 → EReal) (hz : ∀ k, IsReal (z k)) (g : Fin 64 → EReal) (j : Fin 512) :
    split ind (fun h k => ind k h) z (fun k => g (within k)) j = normed z g j := by
  unfold split normed
  rw [Finset.sum_eq_zero (fun h _ => by rw [Cert.Merge.sub_self_real (isReal_colInv z hz h), zero_mul] :
    ∀ h ∈ Finset.univ, (colInv ind z h - colInv ind z h) * ind j h = 0), add_zero]
  refine congrArg (fun s => z j * s * g (within j)) ((sum_heads (colInv ind z) j).trans ?_)
  rw [colInv_eq z hz, sum_ind (fun k => z k * z k) j]
  rfl

/-- The sigmoid. -/
def sig (z : EReal) : EReal := Ideal.div one (one + Ideal.exp (-z))

/-- The arguments that are read. -/
structure Args where
  x : FVec Ideal ⟨3, ![16, 2048, 1024]⟩ .f32
  md : FVec Ideal ⟨3, ![24, 1, 6144]⟩ .f32
  gain : FVec Ideal ⟨3, ![2, 1, 1024]⟩ .f32
  win : FVec Ideal ⟨3, ![2, 1024, 4256]⟩ .f32
  qgain : FVec Ideal ⟨2, ![2, 64]⟩ .f32
  kgain : FVec Ideal ⟨2, ![2, 64]⟩ .f32
  lgain : FVec Ideal ⟨2, ![2, 256]⟩ .f32
  wukv : FVec Ideal ⟨3, ![2, 256, 1024]⟩ .f32

variable (A : Args)

/-- The modulation of an image from lane `o` on. -/
def mdAt (o : ℕ) (ho : o + 1024 ≤ 6144) (b : Fin 16) (d : Fin 1024) : EReal := A.md (ix3 (up b) 0 ⟨o + d.val, by omega⟩)

def hn (b : Fin 16) (q : Fin 2048) : Fin 1024 → EReal :=
  mod (fun d => A.x (ix3 b q d)) (fun d => A.gain (ix3 0 0 d)) (mdAt A 1024 (by omega) b) (mdAt A 0 (by omega) b)

/-- A column of a token's projection. -/
def proj (b : Fin 16) (q : Fin 2048) (j : Fin 4256) : EReal := ∑ d, hn A b q d * A.win (ix3 0 d j)

def ckv (b : Fin 16) (q : Fin 2048) : Fin 256 → EReal :=
  lat (fun k => proj A b q ⟨1920 + k.val, by omega⟩) (fun k => A.lgain (ix2 0 k))

/-- The column of the latent's weights that holds value lane `j`: a head's keys come before its values. -/
def vcol (j : Fin 512) : Fin 1024 := ⟨j.val / 64 * 128 + (64 + j.val % 64), by omega⟩

/-- The columns of the queries and of the keys. -/
def zq (b : Fin 16) (q : Fin 2048) (j : Fin 512) : EReal := proj A b q ⟨0 + j.val, by omega⟩
def zk (b : Fin 16) (q : Fin 2048) (j : Fin 512) : EReal := proj A b q ⟨512 + j.val, by omega⟩

def qa (b : Fin 16) (q : Fin 2048) (j : Fin 512) : EReal := normed (zq A b q) (fun k => A.qgain (ix2 0 k)) j * eighth
def ka (b : Fin 16) (q : Fin 2048) (j : Fin 512) : EReal := normed (zk A b q) (fun k => A.kgain (ix2 0 k)) j
def va (b : Fin 16) (q : Fin 2048) (j : Fin 512) : EReal := proj A b q ⟨1024 + j.val, by omega⟩
def vb (b : Fin 16) (q : Fin 2048) (j : Fin 512) : EReal := ∑ k, ckv A b q k * A.wukv (ix3 0 k (vcol j))
def ga (b : Fin 16) (q : Fin 2048) (j : Fin 1024) : EReal := sig (proj A b q ⟨2208 + j.val, by omega⟩)
def gb (b : Fin 16) (q : Fin 2048) (j : Fin 1024) : EReal := sig (proj A b q ⟨3232 + j.val, by omega⟩)

def resQa : FVec Ideal ⟨3, ![16, 2048, 512]⟩ .bf16 := fun i => qa A (i 0) (i 1) (i 2)
def resKa : FVec Ideal ⟨3, ![16, 2048, 512]⟩ .bf16 := fun i => ka A (i 0) (i 1) (i 2)
def resVa : FVec Ideal ⟨3, ![16, 2048, 512]⟩ .bf16 := fun i => va A (i 0) (i 1) (i 2)
def resVb : FVec Ideal ⟨3, ![16, 2048, 512]⟩ .bf16 := fun i => vb A (i 0) (i 1) (i 2)
def resGa : FVec Ideal ⟨3, ![16, 2048, 1024]⟩ .bf16 := fun i => ga A (i 0) (i 1) (i 2)
def resGb : FVec Ideal ⟨3, ![16, 2048, 1024]⟩ .bf16 := fun i => gb A (i 0) (i 1) (i 2)

/-! ## Real arguments give real columns -/

/-- The tokens, the modulation, the gain and the weights are real. -/
structure Args.Real : Prop where
  x : ∀ i, IsReal (A.x i)
  md : ∀ i, IsReal (A.md i)
  gain : ∀ i, IsReal (A.gain i)
  win : ∀ i, IsReal (A.win i)

theorem isReal_proj (h : A.Real) (b : Fin 16) (q : Fin 2048) (j : Fin 4256) : IsReal (proj A b q j) :=
  isReal_sum _ _ fun d _ => (Cert.Merge.isReal_mod _ _ _ _ (fun _ => h.x _) (fun _ => h.gain _) (fun _ => h.md _) (fun _ => h.md _) d).mul (h.win _)

/-! ## What the reference computes -/

open Cert.Reference4Ideal Cert.Reference4Ideal.Read

theorem ref_inv (b : Fin 16) (q : Fin 2048) :
    val_main_v9 (F := Ideal) A.x (ix3 b q 0) = inv (fun d => A.x (ix3 b q d)) := by
  rw [val_main_v9_apply, val_main_v8_apply, val_main_v7_apply, val_main_v6_apply, val_main_v5_apply, val_main_v4_apply, val_main_v3_apply]
  refine Eq.trans ?_ (inv_div fun d => A.x (ix3 b q d))
  refine congrArg (fun s => Ideal.rsqrt (Ideal.div s (Ideal.ofBits .f32 0x44800000#32) + eps)) ?_
  refine (congrArg (· + _) Ideal.ofBits_zero_f32).trans ((zero_add _).trans (Finset.sum_congr rfl fun k _ => ?_))
  have e : idx_main_v3 (idx_main_v4 (ix3 b q 0)) k = ix3 b q k := ext3 rfl rfl rfl
  rw [e, val_main_v2_apply]; rfl

theorem ref_hn (b : Fin 16) (q : Fin 2048) (d : Fin 1024) :
    val_main_v22 (F := Ideal) A.x A.md A.gain (ix3 b q d) = hn A b q d := by
  rw [val_main_v22_apply, val_main_v21_apply, val_main_v20_apply, val_main_v19_apply, val_main_v18_apply, val_main_v17_apply, val_main_v16_apply,
    val_main_v15_apply, val_main_v14_apply, val_main_v13_apply, val_main_v12_apply, val_main_v11_apply, val_main_v10_apply, val_main_v1_apply,
    val_main_v0_apply]
  have e10 : idx_main_v10 (ix3 b q d) = ix3 b q 0 := ext3 rfl rfl rfl
  have e15 : idx_main_v15 (idx_main_v18 (ix3 b q d)) = ix3 (up b) 0 ⟨1024 + d.val, by omega⟩ := ext3 rfl rfl rfl
  have e20 : idx_main_v20 (idx_main_v21 (ix3 b q d)) = ix3 (up b) 0 ⟨0 + d.val, by omega⟩ := ext3 rfl rfl (show d.val = 0 + d.val by omega)
  have eg : idx_main_v0 (idx_main_v1 (idx_main_v12 (idx_main_v13 (ix3 b q d)))) = ix3 0 0 d :=
    ext3 rfl rfl (show (0 * 1024 + d.val) % 1024 = d.val by omega)
  rw [e10, ref_inv, e15, e20, eg]; rfl

theorem ref_proj (b : Fin 16) (q : Fin 2048) (j : Fin 4256) :
    val_main_v25 (F := Ideal) A.x A.md A.gain A.win (ix3 b q j) = proj A b q j := by
  rw [val_main_v25_apply]
  show _ = ∑ d, hn A b q d * A.win (ix3 0 d j)
  refine Finset.sum_congr rfl fun d _ => ?_
  have el : lidx_main_v25 (ix3 b q j) d = ix3 b q d := ext3 rfl rfl rfl
  have er : ridx_main_v25 (ix3 b q j) d = ix2 d j := ext2 rfl rfl
  have ew : idx_main_v23 (idx_main_v24 (ix2 d j)) = ix3 0 d j :=
    ext3 rfl (show (d.val * 4256 + j.val) / 4256 % 1024 = d.val by omega) (show (d.val * 4256 + j.val) % 4256 = j.val by omega)
  rw [el, er, ref_hn, val_main_v24_apply, val_main_v23_apply, ew]

theorem ref_lat (b : Fin 16) (q : Fin 2048) (k : Fin 256) :
    val_main_v28 (F := Ideal) A.x A.md A.gain A.win (ix3 b q k) = proj A b q ⟨1920 + k.val, by omega⟩ := by
  rw [val_main_v28_apply]
  have e : idx_main_v28 (ix3 b q k) = ix3 b q ⟨1920 + k.val, by omega⟩ := ext3 rfl rfl rfl
  rw [e, ref_proj]

theorem ref_invc (b : Fin 16) (q : Fin 2048) :
    val_main_v41 (F := Ideal) A.x A.md A.gain A.win (ix3 b q 0) = invc (fun k => proj A b q ⟨1920 + k.val, by omega⟩) := by
  rw [val_main_v41_apply, val_main_v40_apply, val_main_v39_apply, val_main_v38_apply, val_main_v37_apply, val_main_v36_apply, val_main_v35_apply]
  refine Eq.trans ?_ (invc_div fun k => proj A b q ⟨1920 + k.val, by omega⟩)
  refine congrArg (fun s => Ideal.rsqrt (Ideal.div s (Ideal.ofBits .f32 0x43800000#32) + eps)) ?_
  refine (congrArg (· + _) Ideal.ofBits_zero_f32).trans ((zero_add _).trans (Finset.sum_congr rfl fun k _ => ?_))
  have e : idx_main_v35 (idx_main_v36 (ix3 b q 0)) k = ix3 b q k := ext3 rfl rfl rfl
  rw [e, val_main_v34_apply, ref_lat]; rfl

theorem ref_ckv (b : Fin 16) (q : Fin 2048) (k : Fin 256) :
    val_main_v46 (F := Ideal) A.x A.md A.gain A.win A.lgain (ix3 b q k) = ckv A b q k := by
  rw [val_main_v46_apply, val_main_v45_apply, val_main_v44_apply, val_main_v43_apply, val_main_v42_apply, val_main_v33_apply, val_main_v32_apply, ref_lat]
  have e42 : idx_main_v42 (ix3 b q k) = ix3 b q 0 := ext3 rfl rfl rfl
  have eg : idx_main_v32 (idx_main_v33 (idx_main_v44 (idx_main_v45 (ix3 b q k)))) = ix2 0 k :=
    ext2 rfl (show k.val % 256 = k.val by omega)
  rw [e42, ref_invc, eg]; rfl

theorem ref_kv (b : Fin 16) (q : Fin 2048) (j : Fin 1024) :
    val_main_v49 (F := Ideal) A.x A.md A.gain A.win A.lgain A.wukv (ix3 b q j) = ∑ k, ckv A b q k * A.wukv (ix3 0 k j) := by
  rw [val_main_v49_apply]
  refine Finset.sum_congr rfl fun k _ => ?_
  have el : lidx_main_v49 (ix3 b q j) k = ix3 b q k := ext3 rfl rfl rfl
  have er : ridx_main_v49 (ix3 b q j) k = ix2 k j := ext2 rfl rfl
  have ew : idx_main_v47 (idx_main_v48 (ix2 k j)) = ix3 0 k j :=
    ext3 rfl (show (k.val * 1024 + j.val) / 1024 % 256 = k.val by omega) (show (k.val * 1024 + j.val) % 1024 = j.val by omega)
  rw [el, er, ref_ckv, val_main_v48_apply, val_main_v47_apply, ew]

/-- Two places of a five-dimensional array are one where their coordinates are. -/
theorem ext5 {n0 n1 n2 n3 n4 : ℕ} {i j : (⟨5, ![n0, n1, n2, n3, n4]⟩ : Shape).Idx} (h0 : (i 0).val = (j 0).val) (h1 : (i 1).val = (j 1).val)
    (h2 : (i 2).val = (j 2).val) (h3 : (i 3).val = (j 3).val) (h4 : (i 4).val = (j 4).val) : i = j := funext fun a => Fin.ext (by
  match a with
  | ⟨0, _⟩ => exact h0
  | ⟨1, _⟩ => exact h1
  | ⟨2, _⟩ => exact h2
  | ⟨3, _⟩ => exact h3
  | ⟨4, _⟩ => exact h4)

/-- The three parts' columns, head by head. -/
theorem ref_za (b : Fin 16) (q : Fin 2048) (p : Fin 3) (h : Fin 8) (k : Fin 64) :
    val_main_v51 (F := Ideal) A.x A.md A.gain A.win (ix5 b q p h k) = proj A b q ⟨p.val * 512 + (h.val * 64 + k.val), by omega⟩ := by
  rw [val_main_v51_apply, val_main_v26_apply]
  have e : idx_main_v26 (idx_main_v51 (ix5 b q p h k)) = ix3 b q ⟨p.val * 512 + (h.val * 64 + k.val), by omega⟩ :=
    ext3 (show ((((b.val * 2048 + q.val) * 3 + p.val) * 8 + h.val) * 64 + k.val) / 3145728 = b.val by omega)
      (show ((((b.val * 2048 + q.val) * 3 + p.val) * 8 + h.val) * 64 + k.val) / 1536 % 2048 = q.val by omega)
      (show ((((b.val * 2048 + q.val) * 3 + p.val) * 8 + h.val) * 64 + k.val) % 1536 = p.val * 512 + (h.val * 64 + k.val) by omega)
  rw [e, ref_proj]

theorem ref_zq (b : Fin 16) (q : Fin 2048) (h : Fin 8) (k : Fin 64) :
    val_main_v53 (F := Ideal) A.x A.md A.gain A.win (ix4 b q h k) = proj A b q ⟨0 + (h.val * 64 + k.val), by omega⟩ := by
  rw [val_main_v53_apply, val_main_v52_apply]
  have e1 : idx_main_v53 (ix4 b q h k) = ix5 b q (0 : Fin 1) h k :=
    ext5 (show (((b.val * 2048 + q.val) * 8 + h.val) * 64 + k.val) / 1048576 = b.val by omega)
      (show (((b.val * 2048 + q.val) * 8 + h.val) * 64 + k.val) / 512 % 2048 = q.val by omega) rfl
      (show (((b.val * 2048 + q.val) * 8 + h.val) * 64 + k.val) / 64 % 8 = h.val by omega)
      (show (((b.val * 2048 + q.val) * 8 + h.val) * 64 + k.val) % 64 = k.val by omega)
  have e2 : idx_main_v52 (ix5 b q (0 : Fin 1) h k) = ix5 b q (0 : Fin 3) h k := ext5 rfl rfl rfl rfl rfl
  rw [e1, e2, ref_za]
  exact congrArg (proj A b q) (Fin.ext rfl)

theorem ref_zk (b : Fin 16) (q : Fin 2048) (h : Fin 8) (k : Fin 64) :
    val_main_v72 (F := Ideal) A.x A.md A.gain A.win (ix4 b q h k) = proj A b q ⟨512 + (h.val * 64 + k.val), by omega⟩ := by
  rw [val_main_v72_apply, val_main_v71_apply]
  have e1 : idx_main_v72 (ix4 b q h k) = ix5 b q (0 : Fin 1) h k :=
    ext5 (show (((b.val * 2048 + q.val) * 8 + h.val) * 64 + k.val) / 1048576 = b.val by omega)
      (show (((b.val * 2048 + q.val) * 8 + h.val) * 64 + k.val) / 512 % 2048 = q.val by omega) rfl
      (show (((b.val * 2048 + q.val) * 8 + h.val) * 64 + k.val) / 64 % 8 = h.val by omega)
      (show (((b.val * 2048 + q.val) * 8 + h.val) * 64 + k.val) % 64 = k.val by omega)
  have e2 : idx_main_v71 (ix5 b q (0 : Fin 1) h k) = ix5 b q (1 : Fin 3) h k := ext5 rfl rfl rfl rfl rfl
  rw [e1, e2, ref_za]
  exact congrArg (proj A b q) (Fin.ext rfl)

theorem ref_zv (b : Fin 16) (q : Fin 2048) (h : Fin 8) (k : Fin 64) :
    val_main_v89 (F := Ideal) A.x A.md A.gain A.win (ix4 b q h k) = proj A b q ⟨1024 + (h.val * 64 + k.val), by omega⟩ := by
  rw [val_main_v89_apply, val_main_v88_apply]
  have e1 : idx_main_v89 (ix4 b q h k) = ix5 b q (0 : Fin 1) h k :=
    ext5 (show (((b.val * 2048 + q.val) * 8 + h.val) * 64 + k.val) / 1048576 = b.val by omega)
      (show (((b.val * 2048 + q.val) * 8 + h.val) * 64 + k.val) / 512 % 2048 = q.val by omega) rfl
      (show (((b.val * 2048 + q.val) * 8 + h.val) * 64 + k.val) / 64 % 8 = h.val by omega)
      (show (((b.val * 2048 + q.val) * 8 + h.val) * 64 + k.val) % 64 = k.val by omega)
  have e2 : idx_main_v88 (ix5 b q (0 : Fin 1) h k) = ix5 b q (2 : Fin 3) h k := ext5 rfl rfl rfl rfl rfl
  rw [e1, e2, ref_za]
  exact congrArg (proj A b q) (Fin.ext rfl)

theorem ref_invq (b : Fin 16) (q : Fin 2048) (j : Fin 512) :
    val_main_v63 (F := Ideal) A.x A.md A.gain A.win (ix4 b q (⟨j.val / 64, by omega⟩ : Fin 8) (0 : Fin 1)) = invh (fun k => zq A b q (lane j k)) := by
  rw [val_main_v63_apply, val_main_v62_apply, val_main_v61_apply, val_main_v60_apply, val_main_v59_apply, val_main_v58_apply, val_main_v57_apply]
  refine Eq.trans ?_ (invh_div fun k => zq A b q (lane j k))
  refine congrArg (fun s => Ideal.rsqrt (Ideal.div s (Ideal.ofBits .f32 0x42800000#32) + eps)) ?_
  refine (congrArg (· + _) Ideal.ofBits_zero_f32).trans ((zero_add _).trans (Finset.sum_congr rfl fun k _ => ?_))
  have e : idx_main_v57 (idx_main_v58 (ix4 b q (⟨j.val / 64, by omega⟩ : Fin 8) (0 : Fin 1))) k = ix4 b q (⟨j.val / 64, by omega⟩ : Fin 8) k :=
    ext4 rfl rfl rfl rfl
  rw [e, val_main_v56_apply, ref_zq]; rfl

theorem ref_invk (b : Fin 16) (q : Fin 2048) (j : Fin 512) :
    val_main_v82 (F := Ideal) A.x A.md A.gain A.win (ix4 b q (⟨j.val / 64, by omega⟩ : Fin 8) (0 : Fin 1)) = invh (fun k => zk A b q (lane j k)) := by
  rw [val_main_v82_apply, val_main_v81_apply, val_main_v80_apply, val_main_v79_apply, val_main_v78_apply, val_main_v77_apply, val_main_v76_apply]
  refine Eq.trans ?_ (invh_div fun k => zk A b q (lane j k))
  refine congrArg (fun s => Ideal.rsqrt (Ideal.div s (Ideal.ofBits .f32 0x42800000#32) + eps)) ?_
  refine (congrArg (· + _) Ideal.ofBits_zero_f32).trans ((zero_add _).trans (Finset.sum_congr rfl fun k _ => ?_))
  have e : idx_main_v76 (idx_main_v77 (ix4 b q (⟨j.val / 64, by omega⟩ : Fin 8) (0 : Fin 1))) k = ix4 b q (⟨j.val / 64, by omega⟩ : Fin 8) k :=
    ext4 rfl rfl rfl rfl
  rw [e, val_main_v75_apply, ref_zk]; rfl

theorem refQa : val_main_v107 (F := Ideal) A.x A.md A.gain A.win A.qgain = resQa A := by
  funext i
  obtain ⟨b, q, j, rfl⟩ : ∃ (b : Fin 16) (q : Fin 2048) (j : Fin 512), i = ix3 b q j := ⟨i 0, i 1, i 2, ext3 rfl rfl rfl⟩
  rw [val_main_v107_apply, val_main_v91_apply, val_main_v70_apply, val_main_v69_apply, val_main_v68_apply, val_main_v67_apply, val_main_v66_apply, val_main_v65_apply, val_main_v64_apply, val_main_v55_apply, val_main_v54_apply]
  have e91 : idx_main_v91 (ix3 b q j) = ix4 b q (⟨j.val / 64, by omega⟩ : Fin 8) (⟨j.val % 64, by omega⟩ : Fin 64) :=
    ext4 (show ((b.val * 2048 + q.val) * 512 + j.val) / 1048576 = b.val by omega)
      (show ((b.val * 2048 + q.val) * 512 + j.val) / 512 % 2048 = q.val by omega)
      (show ((b.val * 2048 + q.val) * 512 + j.val) / 64 % 8 = j.val / 64 by omega)
      (show ((b.val * 2048 + q.val) * 512 + j.val) % 64 = j.val % 64 by omega)
  rw [e91]
  have es : idx_main_v64 (ix4 b q (⟨j.val / 64, by omega⟩ : Fin 8) (⟨j.val % 64, by omega⟩ : Fin 64)) = ix4 b q (⟨j.val / 64, by omega⟩ : Fin 8) (0 : Fin 1) :=
    ext4 rfl rfl rfl rfl
  have eg : idx_main_v54 (idx_main_v55 (idx_main_v66 (idx_main_v67 (ix4 b q (⟨j.val / 64, by omega⟩ : Fin 8) (⟨j.val % 64, by omega⟩ : Fin 64))))) = ix2 0 (within j) :=
    ext2 rfl (show j.val % 64 % 64 = j.val % 64 by omega)
  have ej : (⟨0 + (j.val / 64 * 64 + j.val % 64), by omega⟩ : Fin 4256) = ⟨0 + j.val, by omega⟩ :=
    Fin.ext (show 0 + (j.val / 64 * 64 + j.val % 64) = 0 + j.val by omega)
  rw [es, ref_invq, eg, ref_zq, ej]; rfl

theorem refKa : val_main_v108 (F := Ideal) A.x A.md A.gain A.win A.kgain = resKa A := by
  funext i
  obtain ⟨b, q, j, rfl⟩ : ∃ (b : Fin 16) (q : Fin 2048) (j : Fin 512), i = ix3 b q j := ⟨i 0, i 1, i 2, ext3 rfl rfl rfl⟩
  rw [val_main_v108_apply, val_main_v92_apply, val_main_v87_apply, val_main_v86_apply, val_main_v85_apply, val_main_v84_apply, val_main_v83_apply, val_main_v74_apply, val_main_v73_apply]
  have e92 : idx_main_v92 (ix3 b q j) = ix4 b q (⟨j.val / 64, by omega⟩ : Fin 8) (⟨j.val % 64, by omega⟩ : Fin 64) :=
    ext4 (show ((b.val * 2048 + q.val) * 512 + j.val) / 1048576 = b.val by omega)
      (show ((b.val * 2048 + q.val) * 512 + j.val) / 512 % 2048 = q.val by omega)
      (show ((b.val * 2048 + q.val) * 512 + j.val) / 64 % 8 = j.val / 64 by omega)
      (show ((b.val * 2048 + q.val) * 512 + j.val) % 64 = j.val % 64 by omega)
  rw [e92]
  have es : idx_main_v83 (ix4 b q (⟨j.val / 64, by omega⟩ : Fin 8) (⟨j.val % 64, by omega⟩ : Fin 64)) = ix4 b q (⟨j.val / 64, by omega⟩ : Fin 8) (0 : Fin 1) :=
    ext4 rfl rfl rfl rfl
  have eg : idx_main_v73 (idx_main_v74 (idx_main_v85 (idx_main_v86 (ix4 b q (⟨j.val / 64, by omega⟩ : Fin 8) (⟨j.val % 64, by omega⟩ : Fin 64))))) = ix2 0 (within j) :=
    ext2 rfl (show j.val % 64 % 64 = j.val % 64 by omega)
  have ej : (⟨512 + (j.val / 64 * 64 + j.val % 64), by omega⟩ : Fin 4256) = ⟨512 + j.val, by omega⟩ :=
    Fin.ext (show 512 + (j.val / 64 * 64 + j.val % 64) = 512 + j.val by omega)
  rw [es, ref_invk, eg, ref_zk, ej]; rfl

theorem refVa : val_main_v109 (F := Ideal) A.x A.md A.gain A.win = resVa A := by
  funext i
  obtain ⟨b, q, j, rfl⟩ : ∃ (b : Fin 16) (q : Fin 2048) (j : Fin 512), i = ix3 b q j := ⟨i 0, i 1, i 2, ext3 rfl rfl rfl⟩
  rw [val_main_v109_apply, val_main_v93_apply]
  have e93 : idx_main_v93 (ix3 b q j) = ix4 b q (⟨j.val / 64, by omega⟩ : Fin 8) (⟨j.val % 64, by omega⟩ : Fin 64) :=
    ext4 (show ((b.val * 2048 + q.val) * 512 + j.val) / 1048576 = b.val by omega)
      (show ((b.val * 2048 + q.val) * 512 + j.val) / 512 % 2048 = q.val by omega)
      (show ((b.val * 2048 + q.val) * 512 + j.val) / 64 % 8 = j.val / 64 by omega)
      (show ((b.val * 2048 + q.val) * 512 + j.val) % 64 = j.val % 64 by omega)
  rw [e93, ref_zv]
  exact congrArg (proj A b q) (Fin.ext (show 1024 + (j.val / 64 * 64 + j.val % 64) = 1024 + j.val by omega))

theorem refVb : val_main_v110 (F := Ideal) A.x A.md A.gain A.win A.lgain A.wukv = resVb A := by
  funext i
  obtain ⟨b, q, j, rfl⟩ : ∃ (b : Fin 16) (q : Fin 2048) (j : Fin 512), i = ix3 b q j := ⟨i 0, i 1, i 2, ext3 rfl rfl rfl⟩
  rw [val_main_v110_apply, val_main_v94_apply, val_main_v90_apply, val_main_v50_apply]
  have e94 : idx_main_v94 (ix3 b q j) = ix4 b q (⟨j.val / 64, by omega⟩ : Fin 8) (⟨j.val % 64, by omega⟩ : Fin 64) :=
    ext4 (show ((b.val * 2048 + q.val) * 512 + j.val) / 1048576 = b.val by omega)
      (show ((b.val * 2048 + q.val) * 512 + j.val) / 512 % 2048 = q.val by omega)
      (show ((b.val * 2048 + q.val) * 512 + j.val) / 64 % 8 = j.val / 64 by omega)
      (show ((b.val * 2048 + q.val) * 512 + j.val) % 64 = j.val % 64 by omega)
  have e90 : idx_main_v90 (ix4 b q (⟨j.val / 64, by omega⟩ : Fin 8) (⟨j.val % 64, by omega⟩ : Fin 64))
      = ix4 b q (⟨j.val / 64, by omega⟩ : Fin 8) (⟨64 + j.val % 64, by omega⟩ : Fin 128) := ext4 rfl rfl rfl rfl
  have e50 : idx_main_v50 (ix4 b q (⟨j.val / 64, by omega⟩ : Fin 8) (⟨64 + j.val % 64, by omega⟩ : Fin 128)) = ix3 b q (vcol j) :=
    ext3 (show (((b.val * 2048 + q.val) * 8 + j.val / 64) * 128 + (64 + j.val % 64)) / 2097152 = b.val by omega)
      (show (((b.val * 2048 + q.val) * 8 + j.val / 64) * 128 + (64 + j.val % 64)) / 1024 % 2048 = q.val by omega)
      (show (((b.val * 2048 + q.val) * 8 + j.val / 64) * 128 + (64 + j.val % 64)) % 1024 = j.val / 64 * 128 + (64 + j.val % 64) by omega)
  rw [e94, e90, e50, ref_kv]; rfl

theorem refGa : val_main_v111 (F := Ideal) A.x A.md A.gain A.win = resGa A := by
  funext i
  obtain ⟨b, q, j, rfl⟩ : ∃ (b : Fin 16) (q : Fin 2048) (j : Fin 1024), i = ix3 b q j := ⟨i 0, i 1, i 2, ext3 rfl rfl rfl⟩
  rw [val_main_v111_apply, val_main_v100_apply, val_main_v99_apply, val_main_v98_apply, val_main_v97_apply, val_main_v96_apply, val_main_v95_apply,
    val_main_v30_apply]
  have e : idx_main_v30 (ix3 b q j) = ix3 b q ⟨2208 + j.val, by omega⟩ := ext3 rfl rfl rfl
  rw [e, ref_proj]; rfl

theorem refGb : val_main_v112 (F := Ideal) A.x A.md A.gain A.win = resGb A := by
  funext i
  obtain ⟨b, q, j, rfl⟩ : ∃ (b : Fin 16) (q : Fin 2048) (j : Fin 1024), i = ix3 b q j := ⟨i 0, i 1, i 2, ext3 rfl rfl rfl⟩
  rw [val_main_v112_apply, val_main_v106_apply, val_main_v105_apply, val_main_v104_apply, val_main_v103_apply, val_main_v102_apply, val_main_v101_apply,
    val_main_v31_apply]
  have e : idx_main_v31 (ix3 b q j) = ix3 b q ⟨3232 + j.val, by omega⟩ := ext3 rfl rfl rfl
  rw [e, ref_proj]; rfl

end Cert.Proj

end
-- ==== Proof.ProjKernel.lean ====
/- What the projection's body leaves in six of its output blocks, at an index. -/
module

public import proofs.«01_k».proof.Proof.ProjRef
public import proofs.«01_k».proof.Proof.MergeKernel
public import proofs.«01_k».proof.Proof.Gen.Kernel4Ideal.Value
public import proofs.«01_k».proof.Proof.Gen.Kernel4Ideal.Points

@[expose] public section

set_option maxRecDepth 16384

noncomputable section

namespace Cert.ProjBlock

open Cert.Kernel4Ideal Cert.Kernel4Ideal.Gen Idealize.ShloMosaic Idealize.ShloMosaic.ValueIdx Cert.Softmax Cert.Rows
open Cert.Merge (eps one inv mod)
open Cert.MergeBlock (line_at hz3 hz2)
open Cert.Proj (lat invc sig split colInv eighth)

/-- A line spread over the rows of a block. -/
theorem bline_at (x : FVec Ideal S1x1x1024 .f32) (r : Fin 256) (k : Fin 1024) :
    broadcastTo S256x1024 (shapeCast S1x1024 x shapeCasts_S1x1x1024_S1x1024) broadcasts_S1x1024_S256x1024 (ix2 r k) = x (ix3 0 0 k) :=
  (line_at (by decide) _ _ r k).trans (drop_at x _ 0 k)

/-- A product of a block's rows with the columns of a matrix. -/
theorem prod_at {n m p : ℕ} (d : DotDims ⟨2, ![n, m]⟩ ⟨2, ![m, p]⟩ ⟨2, ![n, p]⟩) (hd : d = DotDims.plain n m p) (v : FVec Ideal ⟨2, ![n, m]⟩ .bf16)
    (w : FVec Ideal ⟨2, ![m, p]⟩ .bf16) (h : Shape.ShapeCasts ⟨2, ![m, p]⟩ ⟨2, ![m, p]⟩) (r : Fin n) (j : Fin p) :
    FloatOps.matmul d none v (shapeCast ⟨2, ![m, p]⟩ w h) (constant ⟨2, ![n, p]⟩ .f32 0x00000000#32) (ix2 r j)
      = ∑ k : Fin m, v (ix2 r k) * w (ix2 k j) :=
  (plain_at (φ₁ := .bf16) (φ₂ := .bf16) d hd v _ r j).trans
    (Finset.sum_congr rfl fun k _ => congrArg (v (ix2 r k) * ·) (shapeCast_apply w h _ (ix2 k j) rfl))

section
variable {e : EltTy}
theorem ld0 (x : Vec Ideal S1x256x1024 e) : View.ld x r0_0 = x := View.ld_unit_zero hz3 _ _
theorem ld1 (x : Vec Ideal S1x1x1024 e) : View.ld x r0_1 = x := View.ld_unit_zero hz3 _ _
theorem ld23 (x : Vec Ideal S1x256 e) : View.ld x r0_23 = x := View.ld_unit_zero hz2 _ _
theorem ld26 (x : Vec Ideal S256x512 e) : View.ld x r0_26 = x := View.ld_unit_zero hz2 _ _
theorem ld2 (x : Vec Ideal S512x128 e) : View.ld x r0_2 = x := View.ld_unit_zero hz2 _ _
theorem ld3 (x : Vec Ideal S128x512 e) : View.ld x r0_3 = x := View.ld_unit_zero hz2 _ _
theorem ld5 (x : Vec Ideal S1x512 e) : View.ld x r0_5 = x := View.ld_unit_zero hz2 _ _
theorem ld4_at (x : Vec Ideal S1024x4352 e) (k : Fin 1024) (j : Fin 512) : View.ld x r0_4 (ix2 k j) = x (ix2 k ⟨0 + j.val, by omega⟩) :=
  congrArg x (ext2 (show 0 + 1 * k.val = k.val by omega) (show 0 + 1 * j.val = 0 + j.val by omega))
theorem ld7_at (x : Vec Ideal S1024x4352 e) (k : Fin 1024) (j : Fin 512) : View.ld x r0_7 (ix2 k j) = x (ix2 k ⟨512 + j.val, by omega⟩) :=
  congrArg x (ext2 (show 0 + 1 * k.val = k.val by omega) (show 512 + 1 * j.val = 512 + j.val by omega))
theorem ld8_at (x : Vec Ideal S1024x4352 e) (k : Fin 1024) (j : Fin 512) : View.ld x r0_8 (ix2 k j) = x (ix2 k ⟨1024 + j.val, by omega⟩) :=
  congrArg x (ext2 (show 0 + 1 * k.val = k.val by omega) (show 1024 + 1 * j.val = 1024 + j.val by omega))
theorem ld22_at (x : Vec Ideal S1024x4352 e) (k : Fin 1024) (j : Fin 256) : View.ld x r0_22 (ix2 k j) = x (ix2 k ⟨1920 + j.val, by omega⟩) :=
  congrArg x (ext2 (show 0 + 1 * k.val = k.val by omega) (show 1920 + 1 * j.val = 1920 + j.val by omega))
theorem ld27_at (x : Vec Ideal S1024x4352 e) (k : Fin 1024) (j : Fin 1024) : View.ld x r0_27 (ix2 k j) = x (ix2 k ⟨2304 + j.val, by omega⟩) :=
  congrArg x (ext2 (show 0 + 1 * k.val = k.val by omega) (show 2304 + 1 * j.val = 2304 + j.val by omega))
theorem ld28_at (x : Vec Ideal S1024x4352 e) (k : Fin 1024) (j : Fin 1024) : View.ld x r0_28 (ix2 k j) = x (ix2 k ⟨3328 + j.val, by omega⟩) :=
  congrArg x (ext2 (show 0 + 1 * k.val = k.val by omega) (show 3328 + 1 * j.val = 3328 + j.val by omega))
end

/-! ## The body's values on any blocks -/

theorem norm_at (v : FVec Ideal S1x256x1024 .f32) (g sc sh : FVec Ideal S1x1x1024 .f32) (r : Fin 256) (d : Fin 1024) :
    k0_pay3 (F := Ideal) v g sc sh (ix2 r d)
      = mod (fun k => v (ix3 0 r k)) (fun k => g (ix3 0 0 k)) (fun k => sc (ix3 0 0 k)) (fun k => sh (ix3 0 0 k)) d := by
  refine congrArg₂ (· + ·) (congrArg₂ (· * ·) (congrArg₂ (· * ·) (congrArg₂ (· * ·) (drop_at v _ r d) ?_) (bline_at g r d)) ?_) (bline_at sh r d)
  · refine (spread_at (by decide) _ _ r d).trans ?_
    refine congrArg (fun s => Ideal.rsqrt (s * Ideal.ofBits .f32 0x3A800000#32 + eps)) ?_
    refine (column_at _ _ r).trans ((rowSum_at _ _ _ _ r).trans ?_)
    exact Finset.sum_congr rfl fun k _ => congrArg₂ (· * ·) (drop_at v _ r k) (drop_at v _ r k)
  · refine (line_at (by decide) _ _ r d).trans ?_
    exact congrArg (one + ·) (drop_at sc _ 0 d)

/-- The reciprocal roots of the heads' mean squares, a row of the block each. -/
def roots (e : FVec Ideal S512x128 .bf16) (z : FVec Ideal S256x512 .f32) : FVec Ideal S256x128 .f32 :=
  rsqrt (addf (mulf (addf
    (matmul dot_S256x512_S512x128_S256x128_1_0_0_1_n_n none (truncf .bf16 (mulf z z) bitsLt_bf16_f32) e (constant S256x128 .f32 0x00000000#32))
    (matmul dot_S256x512_S512x128_S256x128_1_0_0_1_n_n none
      (truncf .bf16 (subf (mulf z z) (extf .f32 (truncf .bf16 (mulf z z) bitsLt_bf16_f32) bitsLt_bf16_f32)) bitsLt_bf16_f32) e
      (constant S256x128 .f32 0x00000000#32)))
    (broadcast S256x128 (Scalar.ofBits .f32 0x3C800000#32))) (broadcast S256x128 (Scalar.ofBits .f32 0x358637BD#32)))

theorem roots_at (e : FVec Ideal S512x128 .bf16) (z : FVec Ideal S256x512 .f32) (r : Fin 256) (h : Fin 128) :
    roots e z (ix2 r h) = colInv (fun k h => e (ix2 k h)) (fun k => z (ix2 r k)) h :=
  congrArg (fun s => Ideal.rsqrt (s * Ideal.ofBits .f32 0x3C800000#32 + eps)) (congrArg₂ (· + ·)
    (plain_at (φ₁ := .bf16) (φ₂ := .bf16) dot_S256x512_S512x128_S256x128_1_0_0_1_n_n rfl _ e r h)
    (plain_at (φ₁ := .bf16) (φ₂ := .bf16) dot_S256x512_S512x128_S256x128_1_0_0_1_n_n rfl _ e r h))

/-- The roots spread over their heads' lanes, and times the block and the gain. -/
def spreads (e : FVec Ideal S512x128 .bf16) (et : FVec Ideal S128x512 .bf16) (z : FVec Ideal S256x512 .f32) (g : FVec Ideal S1x512 .f32) :
    FVec Ideal S256x512 .f32 :=
  mulf (mulf z (addf
    (matmul dot_S256x128_S128x512_S256x512_1_0_0_1_n_n none (truncf .bf16 (roots e z) bitsLt_bf16_f32) et (constant S256x512 .f32 0x00000000#32))
    (matmul dot_S256x128_S128x512_S256x512_1_0_0_1_n_n none
      (truncf .bf16 (subf (roots e z) (extf .f32 (truncf .bf16 (roots e z) bitsLt_bf16_f32) bitsLt_bf16_f32)) bitsLt_bf16_f32) et
      (constant S256x512 .f32 0x00000000#32)))) (broadcastTo S256x512 (shapeCast S1x512 g shapeCasts_S1x512_S1x512) broadcasts_S1x512_S256x512)

theorem spreads_at (e : FVec Ideal S512x128 .bf16) (et : FVec Ideal S128x512 .bf16) (z : FVec Ideal S256x512 .f32) (g : FVec Ideal S1x512 .f32)
    (r : Fin 256) (j : Fin 512) :
    spreads e et z g (ix2 r j)
      = split (fun k h => e (ix2 k h)) (fun h k => et (ix2 h k)) (fun k => z (ix2 r k)) (fun k => g (ix2 0 k)) j := by
  refine congrArg₂ (· * ·) (congrArg (z (ix2 r j) * ·) (congrArg₂ (· + ·) ?_ ?_))
    ((line_at (by decide) _ _ r j).trans (shapeCast_apply g _ _ (ix2 0 j) rfl))
  · exact (plain_at (φ₁ := .bf16) (φ₂ := .bf16) dot_S256x128_S128x512_S256x512_1_0_0_1_n_n rfl _ et r j).trans
      (Finset.sum_congr rfl fun h _ => congrArg (· * et (ix2 h j)) (roots_at e z r h))
  · exact (plain_at (φ₁ := .bf16) (φ₂ := .bf16) dot_S256x128_S128x512_S256x512_1_0_0_1_n_n rfl _ et r j).trans
      (Finset.sum_congr rfl fun h _ => congrArg (· * et (ix2 h j)) (congrArg₂ (· - ·) (roots_at e z r h) (roots_at e z r h)))

theorem pay7_at (e : FVec Ideal S512x128 .bf16) (et : FVec Ideal S128x512 .bf16) (z : FVec Ideal S256x512 .f32) (g : FVec Ideal S1x512 .f32)
    (r : Fin 256) (j : Fin 512) :
    k0_pay7 (F := Ideal) e et z g (ix3 0 r j)
      = split (fun k h => e (ix2 k h)) (fun h k => et (ix2 h k)) (fun k => z (ix2 r k)) (fun k => g (ix2 0 k)) j * eighth := by
  refine Eq.trans ?_ (congrArg (· * eighth) (spreads_at e et z g r j))
  unfold k0_pay7
  exact add_at _ _ r j

theorem pay14_at (e : FVec Ideal S512x128 .bf16) (et : FVec Ideal S128x512 .bf16) (v : FVec Ideal S256x1024 .bf16) (w : FVec Ideal S1024x512 .bf16)
    (g : FVec Ideal S1x512 .f32) (r : Fin 256) (j : Fin 512) :
    k0_pay14 (F := Ideal) e et (k0_pay8 v w) (k0_pay9 g) (k0_pay12 v w) (k0_pay13 v e w) (ix3 0 r j)
      = split (fun k h => e (ix2 k h)) (fun h k => et (ix2 h k)) (fun k => k0_pay8 (F := Ideal) v w (ix2 r k)) (fun k => g (ix2 0 k)) j := by
  refine Eq.trans ?_ (spreads_at e et (k0_pay8 v w) g r j)
  unfold k0_pay14
  exact add_at _ _ r j

theorem split_congr {e e' : Fin 512 → Fin 128 → EReal} {et et' : Fin 128 → Fin 512 → EReal} {z z' g g' : Fin 512 → EReal} (he : ∀ k h, e k h = e' k h)
    (ht : ∀ h k, et h k = et' h k) (hz : ∀ k, z k = z' k) (hg : ∀ k, g k = g' k) (j : Fin 512) : split e et z g j = split e' et' z' g' j := by
  rw [show e = e' from funext fun k => funext (he k), show et = et' from funext fun h => funext (ht h), show z = z' from funext hz,
    show g = g' from funext hg]

theorem pay15_at (v : FVec Ideal S256x1024 .bf16) (w : FVec Ideal S1024x512 .bf16) (r : Fin 256) (j : Fin 512) :
    k0_pay15 (F := Ideal) v w (ix3 0 r j) = ∑ k : Fin 1024, v (ix2 r k) * w (ix2 k j) :=
  (add_at _ _ r j).trans (prod_at dot_S256x1024_S1024x512_S256x512_1_0_0_1_n_n rfl v w shapeCasts_S1024x512_S1024x512 r j)

theorem pay56_at (v : FVec Ideal S256x256 .bf16) (w : FVec Ideal S256x512 .bf16) (r : Fin 256) (j : Fin 512) :
    k0_pay56 (F := Ideal) v w (ix3 0 r j) = ∑ k : Fin 256, v (ix2 r k) * w (ix2 k j) :=
  (add_at _ _ r j).trans (prod_at dot_S256x256_S256x512_S256x512_1_0_0_1_n_n rfl v w shapeCasts_S256x512_S256x512 r j)

theorem pay36_at (v : FVec Ideal S256x1024 .bf16) (w : FVec Ideal S1024x256 .bf16) (g : FVec Ideal S1x256 .f32) (r : Fin 256) (j : Fin 256) :
    k0_pay36 (F := Ideal) v w g (ix2 r j) = lat (fun j => ∑ k : Fin 1024, v (ix2 r k) * w (ix2 k j)) (fun j => g (ix2 0 j)) j := by
  have hp := fun j => prod_at dot_S256x1024_S1024x256_S256x256_1_0_0_1_n_n rfl v w shapeCasts_S1024x256_S1024x256 r j
  refine congrArg₂ (· * ·) (congrArg₂ (· * ·) (hp j) ?_) ?_
  · refine (spread_at (by decide) _ _ r j).trans ?_
    refine congrArg (fun s => Ideal.rsqrt (s * Ideal.ofBits .f32 0x3B800000#32 + eps)) ?_
    refine (column_at _ _ r).trans ((rowSum_at _ _ _ _ r).trans ?_)
    exact Finset.sum_congr rfl fun k _ => congrArg₂ (· * ·) (hp k) (hp k)
  · exact (line_at (by decide) _ _ r j).trans (shapeCast_apply g _ _ (ix2 0 j) rfl)

theorem sig_of {z s : EReal} (h : z = s) : Ideal.div one (one + Ideal.exp (Ideal.ofBits .f32 0x00000000#32 - z)) = sig s := by
  rw [h, Ideal.ofBits_zero_f32, zero_sub]; rfl

theorem pay1_at (v : FVec Ideal S256x1024 .bf16) (w : FVec Ideal S1024x1024 .bf16) (r : Fin 256) (j : Fin 1024) :
    k0_pay1 (F := Ideal) (k0_pay57 v w) k0_pay58 (ix3 0 r j) = sig (∑ k : Fin 1024, v (ix2 r k) * w (ix2 k j)) := by
  refine Eq.trans ?_ (sig_of (prod_at dot_S256x1024_S1024x1024_S256x1024_1_0_0_1_n_n rfl v w shapeCasts_S1024x1024_S1024x1024 r j))
  unfold k0_pay1 k0_pay57 k0_pay58
  exact add_at _ _ r j

theorem pay2_at (v : FVec Ideal S256x1024 .bf16) (w : FVec Ideal S1024x1024 .bf16) (r : Fin 256) (j : Fin 1024) :
    k0_pay2 (F := Ideal) v w (ix3 0 r j) = sig (∑ k : Fin 1024, v (ix2 r k) * w (ix2 k j)) := by
  refine Eq.trans ?_ (sig_of (prod_at dot_S256x1024_S1024x1024_S256x1024_1_0_0_1_n_n rfl v w shapeCasts_S1024x1024_S1024x1024 r j))
  unfold k0_pay2
  exact add_at _ _ r j

/-! ## The blocks -/

section
variable (x0 : FVec Ideal S1x256x1024 .f32) (x1 x2 x3 : FVec Ideal S1x1x1024 .f32) (x4 : FVec Ideal S1024x4352 .bf16) (x5 x6 : FVec Ideal S1x512 .f32)
  (x7 : FVec Ideal S1x384 .f32) (x8 : FVec Ideal S1x256 .f32) (x9 : FVec Ideal S384x1024 .bf16) (x10 : FVec Ideal S256x1024 .bf16)
  (x11 : FVec Ideal S256x512 .bf16) (x12 x13 : FVec Ideal S1x128 .f32) (x14 x15 x16 : FVec Ideal S256x128 .f32) (x17 : FVec Ideal S512x128 .bf16)
  (x18 : FVec Ideal S128x512 .bf16)

/-- The modulated norm of row `r` of a block, and a column of its projection. -/
def bhn (r : Fin 256) : Fin 1024 → EReal :=
  mod (fun d => x0 (ix3 0 r d)) (fun d => x3 (ix3 0 0 d)) (fun d => x2 (ix3 0 0 d)) (fun d => x1 (ix3 0 0 d))
def bproj (r : Fin 256) (j : Fin 4352) : EReal := ∑ d, bhn x0 x1 x2 x3 r d * x4 (ix2 d j)

theorem pay59_at (r : Fin 256) (d : Fin 1024) :
    k0_pay59 (F := Ideal) x0 x1 x2 x3 x4 x5 x6 x7 x8 x9 x10 x11 x12 x13 x14 x15 x16 x17 x18 (ix2 r d) = bhn x0 x1 x2 x3 r d := by
  unfold k0_pay59
  rw [ld0 (e := .f32) x0, ld1 (e := .f32) x1, ld1 (e := .f32) x2, ld1 (e := .f32) x3]
  exact norm_at _ _ _ _ r d

theorem pay60_at (k : Fin 512) (h : Fin 128) :
    k0_pay60 (F := Ideal) x0 x1 x2 x3 x4 x5 x6 x7 x8 x9 x10 x11 x12 x13 x14 x15 x16 x17 x18 (ix2 k h) = x17 (ix2 k h) := by
  unfold k0_pay60
  rw [ld2 (e := .bf16) x17]
  exact shapeCast_apply x17 _ _ (ix2 k h) rfl
theorem pay61_at (h : Fin 128) (k : Fin 512) :
    k0_pay61 (F := Ideal) x0 x1 x2 x3 x4 x5 x6 x7 x8 x9 x10 x11 x12 x13 x14 x15 x16 x17 x18 (ix2 h k) = x18 (ix2 h k) := by
  unfold k0_pay61
  rw [ld3 (e := .bf16) x18]
  exact shapeCast_apply x18 _ _ (ix2 h k) rfl

theorem out19_at (r : Fin 256) (j : Fin 512) :
    out0_19 (F := Ideal) x0 x1 x2 x3 x4 x5 x6 x7 x8 x9 x10 x11 x12 x13 x14 x15 x16 x17 x18 (ix3 0 r j)
      = split (fun k h => x17 (ix2 k h)) (fun h k => x18 (ix2 h k)) (fun k => bproj x0 x1 x2 x3 x4 r ⟨0 + k.val, by omega⟩) (fun k => x5 (ix2 0 k)) j
        * eighth := by
  unfold out0_19
  rw [View.canon_unit_zero hz3]
  rw [ld5 (e := .f32) x5, ld0 (e := .f32) x0, ld1 (e := .f32) x1, ld1 (e := .f32) x2, ld1 (e := .f32) x3]
  refine (pay7_at _ _ _ _ r j).trans (congrArg (· * eighth) (split_congr (fun k h => ?_) (fun h k => ?_) (fun k => ?_) (fun _ => rfl) j))
  · exact pay60_at x0 x1 x2 x3 x4 x5 x6 x7 x8 x9 x10 x11 x12 x13 x14 x15 x16 x17 x18 k h
  · exact pay61_at x0 x1 x2 x3 x4 x5 x6 x7 x8 x9 x10 x11 x12 x13 x14 x15 x16 x17 x18 h k
  · exact (prod_at dot_S256x1024_S1024x512_S256x512_1_0_0_1_n_n rfl _ _ shapeCasts_S1024x512_S1024x512 r k).trans
      (Finset.sum_congr rfl fun d _ => congrArg₂ (· * ·) (norm_at x0 x3 x2 x1 r d) (ld4_at (e := .bf16) x4 d k))

theorem out20_at (r : Fin 256) (j : Fin 512) :
    out0_20 (F := Ideal) x0 x1 x2 x3 x4 x5 x6 x7 x8 x9 x10 x11 x12 x13 x14 x15 x16 x17 x18 (ix3 0 r j)
      = split (fun k h => x17 (ix2 k h)) (fun h k => x18 (ix2 h k)) (fun k => bproj x0 x1 x2 x3 x4 r ⟨512 + k.val, by omega⟩) (fun k => x6 (ix2 0 k)) j := by
  unfold out0_20
  rw [View.canon_unit_zero hz3]
  rw [ld5 (e := .f32) x6]
  refine (pay14_at _ _ _ _ _ r j).trans (split_congr (fun k h => ?_) (fun h k => ?_) (fun k => ?_) (fun _ => rfl) j)
  · exact pay60_at x0 x1 x2 x3 x4 x5 x6 x7 x8 x9 x10 x11 x12 x13 x14 x15 x16 x17 x18 k h
  · exact pay61_at x0 x1 x2 x3 x4 x5 x6 x7 x8 x9 x10 x11 x12 x13 x14 x15 x16 x17 x18 h k
  · exact (prod_at dot_S256x1024_S1024x512_S256x512_1_0_0_1_n_n rfl _ _ shapeCasts_S1024x512_S1024x512 r k).trans
      (Finset.sum_congr rfl fun d _ => congrArg₂ (· * ·) (pay59_at x0 x1 x2 x3 x4 x5 x6 x7 x8 x9 x10 x11 x12 x13 x14 x15 x16 x17 x18 r d)
        (ld7_at (e := .bf16) x4 d k))

theorem out21_at (r : Fin 256) (j : Fin 512) :
    out0_21 (F := Ideal) x0 x1 x2 x3 x4 x5 x6 x7 x8 x9 x10 x11 x12 x13 x14 x15 x16 x17 x18 (ix3 0 r j)
      = bproj x0 x1 x2 x3 x4 r ⟨1024 + j.val, by omega⟩ := by
  unfold out0_21
  rw [View.canon_unit_zero hz3]
  refine (pay15_at _ _ r j).trans (Finset.sum_congr rfl fun k _ => congrArg₂ (· * ·) ?_ (ld8_at (e := .bf16) x4 k j))
  exact pay59_at x0 x1 x2 x3 x4 x5 x6 x7 x8 x9 x10 x11 x12 x13 x14 x15 x16 x17 x18 r k

theorem out24_at (r : Fin 256) (j : Fin 512) :
    out0_24 (F := Ideal) x0 x1 x2 x3 x4 x5 x6 x7 x8 x9 x10 x11 x12 x13 x14 x15 x16 x17 x18 (ix3 0 r j)
      = ∑ k : Fin 256, lat (fun k => bproj x0 x1 x2 x3 x4 r ⟨1920 + k.val, by omega⟩) (fun k => x8 (ix2 0 k)) k * x11 (ix2 k j) := by
  unfold out0_24
  rw [View.canon_unit_zero hz3]
  rw [ld23 (e := .f32) x8, ld26 (e := .bf16) x11]
  refine (pay56_at _ _ r j).trans (Finset.sum_congr rfl fun k _ => congrArg (· * x11 (ix2 k j)) ((pay36_at _ _ _ r k).trans ?_))
  refine congrArg (fun v => lat v (fun k => x8 (ix2 0 k)) k) (funext fun i => Finset.sum_congr rfl fun d _ => congrArg₂ (· * ·) ?_ (ld22_at (e := .bf16) x4 d i))
  exact pay59_at x0 x1 x2 x3 x4 x5 x6 x7 x8 x9 x10 x11 x12 x13 x14 x15 x16 x17 x18 r d

theorem out25_at (r : Fin 256) (j : Fin 1024) :
    out0_25 (F := Ideal) x0 x1 x2 x3 x4 x5 x6 x7 x8 x9 x10 x11 x12 x13 x14 x15 x16 x17 x18 (ix3 0 r j)
      = sig (bproj x0 x1 x2 x3 x4 r ⟨2304 + j.val, by omega⟩) := by
  unfold out0_25
  rw [View.canon_unit_zero hz3]
  refine (pay1_at _ _ r j).trans (congrArg sig (Finset.sum_congr rfl fun k _ => congrArg₂ (· * ·) ?_ (ld27_at (e := .bf16) x4 k j)))
  exact pay59_at x0 x1 x2 x3 x4 x5 x6 x7 x8 x9 x10 x11 x12 x13 x14 x15 x16 x17 x18 r k

theorem out26_at (r : Fin 256) (j : Fin 1024) :
    out0_26 (F := Ideal) x0 x1 x2 x3 x4 x5 x6 x7 x8 x9 x10 x11 x12 x13 x14 x15 x16 x17 x18 (ix3 0 r j)
      = sig (bproj x0 x1 x2 x3 x4 r ⟨3328 + j.val, by omega⟩) := by
  unfold out0_26
  rw [View.canon_unit_zero hz3]
  refine (pay2_at _ _ r j).trans (congrArg sig (Finset.sum_congr rfl fun k _ => congrArg₂ (· * ·) ?_ (ld28_at (e := .bf16) x4 k j)))
  exact pay59_at x0 x1 x2 x3 x4 x5 x6 x7 x8 x9 x10 x11 x12 x13 x14 x15 x16 x17 x18 r k

end

end Cert.ProjBlock

end
-- ==== Proof.ProjHost.lean ====
/- What the host hands the projection: the weights' columns with the rotated keys' set apart, the heads' and the latent's gains, the
   lanes' heads and the latent's value columns. -/
module

public import proofs.«01_k».proof.Proof.ProjRef
public import proofs.«01_k».proof.Proof.Gen.Kernel4Ideal.Frame
public import Idealize.ShloMosaic.Lib.StableHlo.RunRead

@[expose] public section

set_option maxRecDepth 16384

noncomputable section

namespace Cert.ProjHost

open Cert.Kernel4Ideal Cert.Kernel4Ideal.Gen Idealize.ShloMosaic Idealize.ShloMosaic.TcCoe Idealize.SL.Sem Idealize.ShloMosaic.ValueIdx
open Cert.Softmax Cert.Rows Cert.Proj

variable (m : (ℓ : Loc nD τ sig) → Buf (Elt Ideal) ℓ)

/-- The arguments of device `c`. -/
def args (c : Dev nD) : Args where
  x := m ((c : Thread nD τ).loc main_arg0)
  md := m ((c : Thread nD τ).loc main_arg1)
  gain := m ((c : Thread nD τ).loc main_arg2)
  win := m ((c : Thread nD τ).loc main_arg3)
  qgain := m ((c : Thread nD τ).loc main_arg4)
  kgain := m ((c : Thread nD τ).loc main_arg5)
  lgain := m ((c : Thread nD τ).loc main_arg8)
  wukv := m ((c : Thread nD τ).loc main_arg9)

/-! ## As terms of the arguments -/

/-- The first layer's weights as a matrix. -/
def first (w : FVec Ideal S2x1024x4256 .f32) : FVec Ideal S1024x4256 .f32 :=
  shapeCast S1024x4256 (extractStridedSlice S1x1024x4256 ![0, 0, 0] w slices_S2x1024x4256_S1x1024x4256_0_0_0) shapeCasts_S1x1024x4256_S1024x4256

/-- Its columns, in pieces: those of the rotated keys have a place of their own. -/
abbrev pieces (w : FVec Ideal S2x1024x4256 .f32) (y : FVec Ideal S1024x128 .f32) : List ((s : Shape) × (s.Idx → EReal)) :=
  [⟨S1024x2176, extractStridedSlice S1024x2176 ![0, 0] (first w) slices_S1024x4256_S1024x2176_0_0⟩, ⟨S1024x128, y⟩,
    ⟨S1024x2048, extractStridedSlice S1024x2048 ![0, 2208] (first w) slices_S1024x4256_S1024x2048_0_2208⟩]

def cols (w : FVec Ideal S2x1024x4256 .f32) (y : FVec Ideal S1024x128 .f32) : FVec Ideal S1024x4352 .f32 :=
  concatenate S1024x4352 1 (pieces w y) concatenates_S1024x2176_S1024x128_S1024x2048_S1024x4352_d1

theorem V_win (c : Dev nD) : V m c main_v9
    = (truncf .bf16 (cols (m ((c : Thread nD τ).loc main_arg3)) (V m c main_v5)) bitsLt_bf16_f32 : FVec Ideal S1024x4352 .bf16) := by
  unfold cols pieces first
  simp only [V, List.flatten_cons, List.flatten_nil, List.append_nil]
  after_reads_simp
  rfl

theorem V_gain (c : Dev nD) : V m c main_v39
    = (broadcastInDim S1x256 ![1] bcast_S256_S1x256_1 (shapeCast S256 (extractStridedSlice S1x256 ![0, 0] (m ((c : Thread nD τ).loc main_arg8))
        slices_S2x256_S1x256_0_0) shapeCasts_S1x256_S256) : FVec Ideal S1x256 .f32) := by
  simp only [V, List.flatten_cons, List.flatten_nil, List.append_nil]
  after_reads_simp
  rfl

/-- The value columns of the latent's weights. -/
def vals (w : FVec Ideal S2x256x1024 .f32) : FVec Ideal S256x512 .f32 :=
  shapeCast S256x512 (extractStridedSlice S256x8x64 ![0, 0, 64] (shapeCast S256x8x128 (shapeCast S256x1024
    (extractStridedSlice S1x256x1024 ![0, 0, 0] w slices_S2x256x1024_S1x256x1024_0_0_0) shapeCasts_S1x256x1024_S256x1024)
    shapeCasts_S256x1024_S256x8x128) slices_S256x8x128_S256x8x64_0_0_64) shapeCasts_S256x8x64_S256x512

theorem V_val (c : Dev nD) : V m c main_v54
    = (truncf .bf16 (vals (m ((c : Thread nD τ).loc main_arg9))) bitsLt_bf16_f32 : FVec Ideal S256x512 .bf16) := by
  unfold vals
  simp only [V, List.flatten_cons, List.flatten_nil, List.append_nil]
  after_reads_simp
  rfl

/-- A head's gain, once for every head. -/
def tiled (w : FVec Ideal S2x64 .f32) : FVec Ideal S1x512 .f32 :=
  broadcastInDim S1x512 ![1] bcast_S512_S1x512_1 (shapeCast S512 (broadcastInDim S8x64 ![0, 1] bcast_S1x64_S8x64_0_1
    (shapeCast S1x64 (shapeCast S64 (extractStridedSlice S1x64 ![0, 0] w slices_S2x64_S1x64_0_0) shapeCasts_S1x64_S64) shapeCasts_S64_S1x64))
    shapeCasts_S8x64_S512)

theorem V_qgain (c : Dev nD) : V m c main_v27 = (tiled (m ((c : Thread nD τ).loc main_arg4)) : FVec Ideal S1x512 .f32) := by
  unfold tiled
  simp only [V, List.flatten_cons, List.flatten_nil, List.append_nil]
  after_reads_simp
  rfl

theorem V_kgain (c : Dev nD) : V m c main_v33 = (tiled (m ((c : Thread nD τ).loc main_arg5)) : FVec Ideal S1x512 .f32) := by
  unfold tiled
  simp only [V, List.flatten_cons, List.flatten_nil, List.append_nil]
  after_reads_simp
  rfl

/-- The lanes' numbers, a number over the lanes, and the lanes' numbers divided by 64, rounded down. -/
abbrev lanes : IVec S512x1 32 := broadcastInDim S512x1 ![0] bcast_S512_S512x1_0 (iotaInDim S512 32 0)
abbrev all (x : IVec S_ 32) : IVec S512x1 32 := broadcastInDim S512x1 ![] bcast_S_S512x1 x
abbrev headOf : IVec S512x1 32 :=
  select (andi (cmpi .ne (signi lanes) (all (signi (constantI S_ 32 64#32)))) (cmpi .ne (Host.remsi lanes (all (constantI S_ 32 64#32)))
    (all (constantI S_ 32 0#32)))) (subi (Host.divsi lanes (all (constantI S_ 32 64#32))) (all (constantI S_ 32 1#32)))
    (Host.divsi lanes (all (constantI S_ 32 64#32)))

/-- Where a lane's head is the column's number. -/
def seg : FVec Ideal S512x128 .bf16 :=
  uitofp .bf16 (cmpi .eq (broadcastInDim S512x128 ![0, 1] bcast_S512x1_S512x128_0_1 headOf)
    (broadcastInDim S512x128 ![0, 1] bcast_S1x128_S512x128_0_1 (broadcastInDim S1x128 ![1] bcast_S128_S1x128_1 (iotaInDim S128 32 0))))

theorem V_seg (c : Dev nD) : V m c main_v21 = seg := by
  unfold seg
  simp only [V, List.flatten_cons, List.flatten_nil, List.append_nil]
  after_reads_simp
  rfl

theorem V_segT (c : Dev nD) : V m c main_v63 = (transpose S128x512 [1, 0] seg transposes_S512x128_S128x512_1_0 : FVec Ideal S128x512 .bf16) := by
  unfold seg
  simp only [V, List.flatten_cons, List.flatten_nil, List.append_nil]
  after_reads_simp
  rfl

/-! ## At an index -/

theorem tiled_at (w : FVec Ideal S2x64 .f32) (j : Fin 512) : tiled w (ix2 0 j) = w (ix2 0 (within j)) := by
  unfold tiled
  refine (broadcastInDim_apply _ _ _ _ (ix1 j) fun a => ?_).trans ?_
  · match a with
    | ⟨0, _⟩ => rfl
  refine (shapeCast_apply _ _ _ (ix2 (⟨j.val / 64, by omega⟩ : Fin 8) (within j)) ?_).trans ?_
  · rw [Shape.rowMajor_val_one, Shape.rowMajor_val_two]
    show j.val / 64 * 64 + j.val % 64 = j.val
    omega
  refine (broadcastInDim_apply _ _ _ _ (ix2 (0 : Fin 1) (within j)) fun a => ?_).trans ?_
  · match a with
    | ⟨0, _⟩ => rfl
    | ⟨1, _⟩ => rfl
  refine (shapeCast_apply _ _ _ (ix1 (within j)) ?_).trans ?_
  · rw [Shape.rowMajor_val_one, Shape.rowMajor_val_two]
    show j.val % 64 = 0 * 64 + j.val % 64
    omega
  refine (shapeCast_apply _ _ _ (ix2 (0 : Fin 1) (within j)) ?_).trans ?_
  · rw [Shape.rowMajor_val_one, Shape.rowMajor_val_two]
    show 0 * 64 + j.val % 64 = j.val % 64
    omega
  · exact extractStridedSlice_apply _ _ _ _ (ix2 0 (within j)) fun a => by
      match a with
      | ⟨0, _⟩ => rfl
      | ⟨1, _⟩ => exact (Nat.zero_add _).symm

theorem qgain_at (c : Dev nD) (j : Fin 512) : V m c main_v27 (ix2 0 j) = (args m c).qgain (ix2 0 (within j)) :=
  (congrFun (V_qgain m c) _).trans (tiled_at _ j)
theorem kgain_at (c : Dev nD) (j : Fin 512) : V m c main_v33 (ix2 0 j) = (args m c).kgain (ix2 0 (within j)) :=
  (congrFun (V_kgain m c) _).trans (tiled_at _ j)

theorem headOf_at : ∀ k : Fin 512, headOf (ix2 k 0) = BitVec.ofNat 32 (k.val / 64) := by decide +kernel

theorem bit_at (a b : ℕ) (ha : a < 2 ^ 32) (hb : b < 2 ^ 32) :
    (FloatOps.uitofp .bf16 (IntOp.cmpi .eq (BitVec.ofNat 32 a) (BitVec.ofNat 32 b)) : Ideal .bf16) = if a = b then (1 : EReal) else 0 := by
  by_cases h : a = b
  · subst h
    rw [if_pos rfl, show IntOp.cmpi .eq (BitVec.ofNat 32 a) (BitVec.ofNat 32 a) = 1#1 by simp [IntOp.cmpi]]
    show (((1#1 : BitVec 1).toNat : ℝ) : EReal) = 1
    simp
  · have hne : BitVec.ofNat 32 a ≠ BitVec.ofNat 32 b := fun e => h (by
      have := congrArg BitVec.toNat e
      rwa [BitVec.toNat_ofNat, BitVec.toNat_ofNat, Nat.mod_eq_of_lt ha, Nat.mod_eq_of_lt hb] at this)
    rw [if_neg h, show IntOp.cmpi .eq (BitVec.ofNat 32 a) (BitVec.ofNat 32 b) = 0#1 by
      show BitVec.ofBool (BitVec.ofNat 32 a == BitVec.ofNat 32 b) = 0#1
      rw [beq_false_of_ne hne]
      rfl]
    show (((0#1 : BitVec 1).toNat : ℝ) : EReal) = 0
    simp

theorem seg_ind (k : Fin 512) (h : Fin 128) : seg (ix2 k h) = ind k h := by
  have e1 : broadcastInDim S512x128 ![0, 1] bcast_S512x1_S512x128_0_1 headOf (ix2 k h) = BitVec.ofNat 32 (k.val / 64) :=
    (broadcastInDim_apply _ _ headOf _ (ix2 k (0 : Fin 1)) fun a => by
      match a with
      | ⟨0, _⟩ => rfl
      | ⟨1, _⟩ => rfl).trans (headOf_at k)
  have e2 : broadcastInDim S512x128 ![0, 1] bcast_S1x128_S512x128_0_1 (broadcastInDim S1x128 ![1] bcast_S128_S1x128_1 (iotaInDim S128 32 0)) (ix2 k h)
      = BitVec.ofNat 32 h.val :=
    (broadcastInDim_apply _ _ _ _ (ix2 (0 : Fin 1) h) fun a => by
      match a with
      | ⟨0, _⟩ => rfl
      | ⟨1, _⟩ => rfl).trans (broadcastInDim_apply _ _ (iotaInDim S128 32 0) _ (ix1 h) fun a => by
      match a with
      | ⟨0, _⟩ => rfl)
  exact (congrArg₂ (fun x y => (FloatOps.uitofp .bf16 (IntOp.cmpi .eq x y) : Ideal .bf16)) e1 e2).trans
    (bit_at _ _ (by have := k.isLt; omega) (by have := h.isLt; omega))

theorem seg_at (c : Dev nD) (k : Fin 512) (h : Fin 128) : V m c main_v21 (ix2 k h) = ind k h :=
  (congrFun (V_seg m c) _).trans (seg_ind k h)

theorem segT_at (c : Dev nD) (k : Fin 512) (h : Fin 128) : V m c main_v63 (ix2 h k) = ind k h :=
  (congrFun (V_segT m c) _).trans ((transpose_apply _ _ _ _ (ix2 k h) fun a => by
    match a with
    | ⟨0, _⟩ => rfl
    | ⟨1, _⟩ => rfl).trans (seg_ind k h))

theorem first_at (w : FVec Ideal S2x1024x4256 .f32) (d : Fin 1024) (j : Fin 4256) : first w (ix2 d j) = w (ix3 0 d j) :=
  (drop_at _ _ d j).trans (extractStridedSlice_apply _ w _ _ (ix3 0 d j) fun a => by
    match a with
    | ⟨0, _⟩ => rfl
    | ⟨1, _⟩ => exact (Nat.zero_add _).symm
    | ⟨2, _⟩ => exact (Nat.zero_add _).symm)

theorem cols_lo (w : FVec Ideal S2x1024x4256 .f32) (y : FVec Ideal S1024x128 .f32) (d : Fin 1024) (j : Fin 2176) :
    cols w y (ix2 d ⟨j.val, by omega⟩) = extractStridedSlice S1024x2176 ![0, 0] (first w) slices_S1024x4256_S1024x2176_0_0 (ix2 d j) := by
  unfold cols
  exact concatenate_apply_piece (t := S1024x4352) 1 (pieces w y)
    concatenates_S1024x2176_S1024x128_S1024x2048_S1024x4352_d1 (ix2 d ⟨j.val, by omega⟩) 0 (show 0 < 3 by decide) S1024x2176 _ rfl rfl 0 rfl (ix2 d j)
    (fun b hb => by
      match b, hb with
      | ⟨0, _⟩, _ => rfl
      | ⟨1, _⟩, hb => exact absurd rfl hb) (Nat.zero_add _)

theorem cols_hi (w : FVec Ideal S2x1024x4256 .f32) (y : FVec Ideal S1024x128 .f32) (d : Fin 1024) (j : Fin 2048) :
    cols w y (ix2 d ⟨2304 + j.val, by omega⟩)
      = extractStridedSlice S1024x2048 ![0, 2208] (first w) slices_S1024x4256_S1024x2048_0_2208 (ix2 d j) := by
  unfold cols
  exact concatenate_apply_piece (t := S1024x4352) 1 (pieces w y)
    concatenates_S1024x2176_S1024x128_S1024x2048_S1024x4352_d1 (ix2 d ⟨2304 + j.val, by omega⟩) 2 (show 2 < 3 by decide) S1024x2048 _ rfl rfl 2304 rfl (ix2 d j)
    (fun b hb => by
      match b, hb with
      | ⟨0, _⟩, _ => rfl
      | ⟨1, _⟩, hb => exact absurd rfl hb) rfl

/-- A column before the rotated keys'. -/
theorem win_lo (c : Dev nD) (d : Fin 1024) (j : Fin 4352) (hj : j.val < 2176) :
    V m c main_v9 (ix2 d j) = (args m c).win (ix3 0 d ⟨j.val, by omega⟩) := by
  refine (congrFun (V_win m c) _).trans ((cols_lo _ _ d ⟨j.val, hj⟩).trans ?_)
  refine (extractStridedSlice_apply _ _ _ _ (ix2 d (⟨j.val, by omega⟩ : Fin 4256)) fun a => ?_).trans (first_at _ d _)
  match a with
  | ⟨0, _⟩ => exact (Nat.zero_add _).symm
  | ⟨1, _⟩ => exact (Nat.zero_add _).symm

/-- A column after them. -/
theorem win_hi (c : Dev nD) (d : Fin 1024) (j : Fin 2048) :
    V m c main_v9 (ix2 d ⟨2304 + j.val, by omega⟩) = (args m c).win (ix3 0 d ⟨2208 + j.val, by omega⟩) := by
  refine (congrFun (V_win m c) _).trans ((cols_hi _ _ d j).trans ?_)
  refine (extractStridedSlice_apply _ _ _ _ (ix2 d (⟨2208 + j.val, by omega⟩ : Fin 4256)) fun a => ?_).trans (first_at _ d _)
  match a with
  | ⟨0, _⟩ => exact (Nat.zero_add _).symm
  | ⟨1, _⟩ => rfl

theorem gain_at (c : Dev nD) (k : Fin 256) : V m c main_v39 (ix2 0 k) = (args m c).lgain (ix2 0 k) := by
  rw [V_gain]
  refine (broadcastInDim_apply _ _ _ _ (ix1 k) fun a => ?_).trans ?_
  · match a with
    | ⟨0, _⟩ => rfl
  refine (shapeCast_apply _ _ _ (ix2 0 k) ?_).trans ?_
  · rw [Shape.rowMajor_val_one, Shape.rowMajor_val_two]
    show 0 * 256 + k.val = k.val
    omega
  · exact extractStridedSlice_apply _ _ _ _ (ix2 0 k) fun a => by
      match a with
      | ⟨0, _⟩ => rfl
      | ⟨1, _⟩ => exact (Nat.zero_add _).symm

theorem vals_at (w : FVec Ideal S2x256x1024 .f32) (k : Fin 256) (j : Fin 512) : vals w (ix2 k j) = w (ix3 0 k (vcol j)) := by
  unfold vals
  refine (shapeCast_apply _ shapeCasts_S256x8x64_S256x512 _ (ix3 k (⟨j.val / 64, by omega⟩ : Fin 8) (⟨j.val % 64, by omega⟩ : Fin 64)) ?_).trans ?_
  · rw [Shape.rowMajor_val_three, Shape.rowMajor_val_two]
    show (k.val * 8 + j.val / 64) * 64 + j.val % 64 = k.val * 512 + j.val
    omega
  refine (extractStridedSlice_apply _ _ _ _ (ix3 k (⟨j.val / 64, by omega⟩ : Fin 8) (⟨64 + j.val % 64, by omega⟩ : Fin 128)) fun a => ?_).trans ?_
  · match a with
    | ⟨0, _⟩ => exact (Nat.zero_add _).symm
    | ⟨1, _⟩ => exact (Nat.zero_add _).symm
    | ⟨2, _⟩ => rfl
  refine (shapeCast_apply _ shapeCasts_S256x1024_S256x8x128 _ (ix2 k (vcol j)) ?_).trans ?_
  · rw [Shape.rowMajor_val_two, Shape.rowMajor_val_three]
    show k.val * 1024 + (j.val / 64 * 128 + (64 + j.val % 64)) = (k.val * 8 + j.val / 64) * 128 + (64 + j.val % 64)
    omega
  exact (drop_at _ _ k (vcol j)).trans (extractStridedSlice_apply _ _ _ _ (ix3 0 k (vcol j)) fun a => by
    match a with
    | ⟨0, _⟩ => rfl
    | ⟨1, _⟩ => exact (Nat.zero_add _).symm
    | ⟨2, _⟩ => exact (Nat.zero_add _).symm)

theorem val_at (c : Dev nD) (k : Fin 256) (j : Fin 512) : V m c main_v54 (ix2 k j) = (args m c).wukv (ix3 0 k (vcol j)) :=
  (congrFun (V_val m c) _).trans (vals_at _ k j)

end Cert.ProjHost

end
-- ==== Proof.ProjArray.lean ====
/- The projection's result arrays: what the blocks written back leave in them, index by index. -/
module

public import proofs.«01_k».proof.Proof.ProjKernel
public import proofs.«01_k».proof.Proof.ProjHost

@[expose] public section

set_option maxRecDepth 16384

noncomputable section

namespace Cert.ProjArray

open Cert.Kernel4Ideal Cert.Kernel4Ideal.Gen Idealize.ShloMosaic Idealize.ShloMosaic.TcCoe Idealize.SL.Sem Idealize.ShloMosaic.ValueIdx
open Cert.Softmax Cert.Rows Cert.Proj Cert.ProjBlock Cert.ProjHost
open Cert.Merge (mod up)
open Idealize.ShloMosaic.Pipeline (Dat Window)

variable (m : (ℓ : Loc nD τ sig) → Buf (Elt Ideal) ℓ)

/-! ## The blocks of a point -/

theorem moves : ∀ t : Fin grid0.N,
    (win0_0.index t 0 = t.val / 8 ∧ win0_0.index t 1 = t.val % 8 ∧ win0_0.index t 2 = 0)
    ∧ (win0_21.index t 0 = t.val / 8 ∧ win0_21.index t 1 = t.val % 8 ∧ win0_21.index t 2 = 0)
    ∧ (win0_24.index t 0 = t.val / 8 ∧ win0_24.index t 1 = t.val % 8 ∧ win0_24.index t 2 = 0)
    ∧ (win0_25.index t 0 = t.val / 8 ∧ win0_25.index t 1 = t.val % 8 ∧ win0_25.index t 2 = 0)
    ∧ (win0_26.index t 0 = t.val / 8 ∧ win0_26.index t 1 = t.val % 8 ∧ win0_26.index t 2 = 0) := by decide +kernel

theorem movesA : ∀ t : Fin grid0.N,
    (win0_19.index t 0 = t.val / 8 ∧ win0_19.index t 1 = t.val % 8 ∧ win0_19.index t 2 = 0)
    ∧ (win0_20.index t 0 = t.val / 8 ∧ win0_20.index t 1 = t.val % 8 ∧ win0_20.index t 2 = 0) := by decide +kernel

theorem staysA : ∀ t : Fin grid0.N,
    (win0_5.index t 0 = 0 ∧ win0_5.index t 1 = 0) ∧ (win0_6.index t 0 = 0 ∧ win0_6.index t 1 = 0)
    ∧ (win0_17.index t 0 = 0 ∧ win0_17.index t 1 = 0) ∧ (win0_18.index t 0 = 0 ∧ win0_18.index t 1 = 0) := by decide +kernel

theorem turns : ∀ t : Fin grid0.N,
    (win0_1.index t 0 = t.val / 8 ∧ win0_1.index t 1 = 0 ∧ win0_1.index t 2 = 0)
    ∧ (win0_2.index t 0 = t.val / 8 ∧ win0_2.index t 1 = 0 ∧ win0_2.index t 2 = 1) := by decide +kernel

theorem stays : ∀ t : Fin grid0.N,
    (win0_3.index t 0 = 0 ∧ win0_3.index t 1 = 0 ∧ win0_3.index t 2 = 0) ∧ (win0_4.index t 0 = 0 ∧ win0_4.index t 1 = 0)
    ∧ (win0_8.index t 0 = 0 ∧ win0_8.index t 1 = 0) ∧ (win0_11.index t 0 = 0 ∧ win0_11.index t 1 = 0) := by decide +kernel

def im (t : Fin grid0.N) : Fin 16 := ⟨t.val / 8, by have := lt_of_lt_of_eq t.isLt Gen.N_0; omega⟩
def row (t : Fin grid0.N) (r : Fin 256) : Fin 2048 := ⟨t.val % 8 * 256 + r.val, by omega⟩

/-- The block of a token array at a point. -/
theorem place {n : ℕ} (t : Fin grid0.N) (r : Fin 256) (d : Fin n) (a0 a1 a2 : ℕ) (h0 : a0 = t.val / 8) (h1 : a1 = t.val % 8) (h2 : a2 = 0) :
    a0 * 1 + 0 = (im t).val ∧ a1 * 256 + r.val = (row t r).val ∧ a2 * n + d.val = d.val := by
  subst h0 h1 h2
  exact ⟨by show t.val / 8 * 1 + 0 = t.val / 8; omega, rfl, by omega⟩

theorem emb0 (t : Fin grid0.N) (r : Fin 256) (d : Fin 1024) : (win0_0.rect t).emb (ix3 0 r d) = ix3 (im t) (row t r) d := by
  obtain ⟨⟨e0, e1, e2⟩, _⟩ := moves t
  have p := place t r d _ _ _ e0 e1 e2
  refine ext3 ?_ ?_ ?_ <;> rw [Window.rect_emb_val win0_0 t]
  exacts [p.1, p.2.1, p.2.2]
theorem emb19 (t : Fin grid0.N) (r : Fin 256) (d : Fin 512) : (win0_19.rect t).emb (ix3 0 r d) = ix3 (im t) (row t r) d := by
  obtain ⟨⟨e0, e1, e2⟩, _⟩ := movesA t
  have p := place t r d _ _ _ e0 e1 e2
  refine ext3 ?_ ?_ ?_ <;> rw [Window.rect_emb_val win0_19 t]
  exacts [p.1, p.2.1, p.2.2]
theorem emb20 (t : Fin grid0.N) (r : Fin 256) (d : Fin 512) : (win0_20.rect t).emb (ix3 0 r d) = ix3 (im t) (row t r) d := by
  obtain ⟨_, e0, e1, e2⟩ := movesA t
  have p := place t r d _ _ _ e0 e1 e2
  refine ext3 ?_ ?_ ?_ <;> rw [Window.rect_emb_val win0_20 t]
  exacts [p.1, p.2.1, p.2.2]
theorem emb21 (t : Fin grid0.N) (r : Fin 256) (d : Fin 512) : (win0_21.rect t).emb (ix3 0 r d) = ix3 (im t) (row t r) d := by
  obtain ⟨_, ⟨e0, e1, e2⟩, _⟩ := moves t
  have p := place t r d _ _ _ e0 e1 e2
  refine ext3 ?_ ?_ ?_ <;> rw [Window.rect_emb_val win0_21 t]
  exacts [p.1, p.2.1, p.2.2]
theorem emb24 (t : Fin grid0.N) (r : Fin 256) (d : Fin 512) : (win0_24.rect t).emb (ix3 0 r d) = ix3 (im t) (row t r) d := by
  obtain ⟨_, _, ⟨e0, e1, e2⟩, _⟩ := moves t
  have p := place t r d _ _ _ e0 e1 e2
  refine ext3 ?_ ?_ ?_ <;> rw [Window.rect_emb_val win0_24 t]
  exacts [p.1, p.2.1, p.2.2]
theorem emb25 (t : Fin grid0.N) (r : Fin 256) (d : Fin 1024) : (win0_25.rect t).emb (ix3 0 r d) = ix3 (im t) (row t r) d := by
  obtain ⟨_, _, _, ⟨e0, e1, e2⟩, _⟩ := moves t
  have p := place t r d _ _ _ e0 e1 e2
  refine ext3 ?_ ?_ ?_ <;> rw [Window.rect_emb_val win0_25 t]
  exacts [p.1, p.2.1, p.2.2]
theorem emb26 (t : Fin grid0.N) (r : Fin 256) (d : Fin 1024) : (win0_26.rect t).emb (ix3 0 r d) = ix3 (im t) (row t r) d := by
  obtain ⟨_, _, _, _, e0, e1, e2⟩ := moves t
  have p := place t r d _ _ _ e0 e1 e2
  refine ext3 ?_ ?_ ?_ <;> rw [Window.rect_emb_val win0_26 t]
  exacts [p.1, p.2.1, p.2.2]

theorem emb1 (t : Fin grid0.N) (d : Fin 1024) : (win0_1.rect t).emb (ix3 0 0 d) = ix3 (up (im t)) 0 ⟨0 + d.val, by omega⟩ := by
  obtain ⟨⟨e0, e1, e2⟩, _⟩ := turns t
  refine ext3 ?_ ?_ ?_ <;> rw [Window.rect_emb_val win0_1 t]
  · rw [e0]; show t.val / 8 * 1 + 0 = t.val / 8; omega
  · rw [e1]; rfl
  · rw [e2]; show 0 * 1024 + d.val = 0 + d.val; omega
theorem emb2 (t : Fin grid0.N) (d : Fin 1024) : (win0_2.rect t).emb (ix3 0 0 d) = ix3 (up (im t)) 0 ⟨1024 + d.val, by omega⟩ := by
  obtain ⟨_, e0, e1, e2⟩ := turns t
  refine ext3 ?_ ?_ ?_ <;> rw [Window.rect_emb_val win0_2 t]
  · rw [e0]; show t.val / 8 * 1 + 0 = t.val / 8; omega
  · rw [e1]; rfl
  · rw [e2]; rfl
theorem emb3 (t : Fin grid0.N) (d : Fin 1024) : (win0_3.rect t).emb (ix3 0 0 d) = ix3 0 0 d := by
  obtain ⟨⟨e0, e1, e2⟩, _⟩ := stays t
  refine ext3 ?_ ?_ ?_ <;> rw [Window.rect_emb_val win0_3 t]
  · rw [e0]; rfl
  · rw [e1]; rfl
  · rw [e2]; show 0 * 1024 + d.val = d.val; omega
theorem emb4 (t : Fin grid0.N) (r : Fin 1024) (d : Fin 4352) : (win0_4.rect t).emb (ix2 r d) = ix2 r d := by
  obtain ⟨_, ⟨e0, e1⟩, _⟩ := stays t
  refine ext2 ?_ ?_ <;> rw [Window.rect_emb_val win0_4 t]
  · rw [e0]; show 0 * 1024 + r.val = r.val; omega
  · rw [e1]; show 0 * 4352 + d.val = d.val; omega
theorem emb5 (t : Fin grid0.N) (r : Fin 1) (d : Fin 512) : (win0_5.rect t).emb (ix2 r d) = ix2 r d := by
  obtain ⟨⟨e0, e1⟩, _⟩ := staysA t
  refine ext2 ?_ ?_ <;> rw [Window.rect_emb_val win0_5 t]
  · rw [e0]; show 0 * 1 + r.val = r.val; omega
  · rw [e1]; show 0 * 512 + d.val = d.val; omega
theorem emb6 (t : Fin grid0.N) (r : Fin 1) (d : Fin 512) : (win0_6.rect t).emb (ix2 r d) = ix2 r d := by
  obtain ⟨_, ⟨e0, e1⟩, _⟩ := staysA t
  refine ext2 ?_ ?_ <;> rw [Window.rect_emb_val win0_6 t]
  · rw [e0]; show 0 * 1 + r.val = r.val; omega
  · rw [e1]; show 0 * 512 + d.val = d.val; omega
theorem emb17 (t : Fin grid0.N) (r : Fin 512) (d : Fin 128) : (win0_17.rect t).emb (ix2 r d) = ix2 r d := by
  obtain ⟨_, _, ⟨e0, e1⟩, _⟩ := staysA t
  refine ext2 ?_ ?_ <;> rw [Window.rect_emb_val win0_17 t]
  · rw [e0]; show 0 * 512 + r.val = r.val; omega
  · rw [e1]; show 0 * 128 + d.val = d.val; omega
theorem emb18 (t : Fin grid0.N) (r : Fin 128) (d : Fin 512) : (win0_18.rect t).emb (ix2 r d) = ix2 r d := by
  obtain ⟨_, _, _, e0, e1⟩ := staysA t
  refine ext2 ?_ ?_ <;> rw [Window.rect_emb_val win0_18 t]
  · rw [e0]; show 0 * 128 + r.val = r.val; omega
  · rw [e1]; show 0 * 512 + d.val = d.val; omega
theorem emb8 (t : Fin grid0.N) (r : Fin 1) (d : Fin 256) : (win0_8.rect t).emb (ix2 r d) = ix2 r d := by
  obtain ⟨_, _, ⟨e0, e1⟩, _⟩ := stays t
  refine ext2 ?_ ?_ <;> rw [Window.rect_emb_val win0_8 t]
  · rw [e0]; show 0 * 1 + r.val = r.val; omega
  · rw [e1]; show 0 * 256 + d.val = d.val; omega
theorem emb11 (t : Fin grid0.N) (r : Fin 256) (d : Fin 512) : (win0_11.rect t).emb (ix2 r d) = ix2 r d := by
  obtain ⟨_, _, _, e0, e1⟩ := stays t
  refine ext2 ?_ ?_ <;> rw [Window.rect_emb_val win0_11 t]
  · rw [e0]; show 0 * 256 + r.val = r.val; omega
  · rw [e1]; show 0 * 512 + d.val = d.val; omega

section
variable (c : Dev nD) (t : Fin grid0.N)

theorem in0 (r : Fin 256) (d : Fin 1024) : iblk m c 0 t (ix3 0 r d) = (args m c).x (ix3 (im t) (row t r) d) :=
  (congrArg (V m c main_arg0) (emb0 t r d)).trans (congrFun (V_main_arg0 m c) _)
theorem in1 (d : Fin 1024) : iblk m c 1 t (ix3 0 0 d) = mdAt (args m c) 0 (by omega) (im t) d :=
  (congrArg (V m c main_arg1) (emb1 t d)).trans (congrFun (V_main_arg1 m c) _)
theorem in2 (d : Fin 1024) : iblk m c 2 t (ix3 0 0 d) = mdAt (args m c) 1024 (by omega) (im t) d :=
  (congrArg (V m c main_arg1) (emb2 t d)).trans (congrFun (V_main_arg1 m c) _)
theorem in3 (d : Fin 1024) : iblk m c 3 t (ix3 0 0 d) = (args m c).gain (ix3 0 0 d) :=
  (congrArg (V m c main_arg2) (emb3 t d)).trans (congrFun (V_main_arg2 m c) _)
theorem in4 (d : Fin 1024) (j : Fin 4352) : iblk m c 4 t (ix2 d j) = V m c main_v9 (ix2 d j) :=
  congrArg (V m c main_v9) (emb4 t d j)
theorem in5 (k : Fin 512) : iblk m c 5 t (ix2 0 k) = (args m c).qgain (ix2 0 (within k)) :=
  (congrArg (V m c main_v27) (emb5 t 0 k)).trans (qgain_at m c k)
theorem in6 (k : Fin 512) : iblk m c 6 t (ix2 0 k) = (args m c).kgain (ix2 0 (within k)) :=
  (congrArg (V m c main_v33) (emb6 t 0 k)).trans (kgain_at m c k)
theorem in17 (k : Fin 512) (h : Fin 128) : iblk m c 17 t (ix2 k h) = ind k h :=
  (congrArg (V m c main_v21) (emb17 t k h)).trans (seg_at m c k h)
theorem in18 (h : Fin 128) (k : Fin 512) : iblk m c 18 t (ix2 h k) = ind k h :=
  (congrArg (V m c main_v63) (emb18 t h k)).trans (segT_at m c k h)
theorem in8 (k : Fin 256) : iblk m c 8 t (ix2 0 k) = (args m c).lgain (ix2 0 k) :=
  (congrArg (V m c main_v39) (emb8 t 0 k)).trans (gain_at m c k)
theorem in11 (k : Fin 256) (j : Fin 512) : iblk m c 11 t (ix2 k j) = (args m c).wukv (ix3 0 k (vcol j)) :=
  (congrArg (V m c main_v54) (emb11 t k j)).trans (val_at m c k j)

/-- The norms of a block are the call's. -/
theorem bhn_eq (r : Fin 256) : bhn (iblk m c 0 t) (iblk m c 1 t) (iblk m c 2 t) (iblk m c 3 t) r = hn (args m c) (im t) (row t r) := by
  unfold bhn hn
  rw [show (fun d => iblk m c 0 t (ix3 0 r d)) = fun d => (args m c).x (ix3 (im t) (row t r) d) from funext fun d => in0 m c t r d]
  exact congr (congrArg₂ (mod _) (funext fun d => in3 m c t d) (funext fun d => in2 m c t d)) (funext fun d => in1 m c t d)

/-- And so are the columns that lie before the rotated keys', and those that lie after. -/
theorem bproj_lo (r : Fin 256) (j : ℕ) (hj : j < 2176) :
    bproj (iblk m c 0 t) (iblk m c 1 t) (iblk m c 2 t) (iblk m c 3 t) (iblk m c 4 t) r ⟨j, by omega⟩
      = proj (args m c) (im t) (row t r) ⟨j, by omega⟩ := by
  unfold bproj proj
  rw [bhn_eq]
  exact Finset.sum_congr rfl fun d _ => congrArg (hn (args m c) (im t) (row t r) d * ·) ((in4 m c t d _).trans (win_lo m c d _ hj))

theorem bproj_hi (r : Fin 256) (j : Fin 2048) :
    bproj (iblk m c 0 t) (iblk m c 1 t) (iblk m c 2 t) (iblk m c 3 t) (iblk m c 4 t) r ⟨2304 + j.val, by omega⟩
      = proj (args m c) (im t) (row t r) ⟨2208 + j.val, by omega⟩ := by
  unfold bproj proj
  rw [bhn_eq]
  exact Finset.sum_congr rfl fun d _ => congrArg (hn (args m c) (im t) (row t r) d * ·) ((in4 m c t d _).trans (win_hi m c d j))

end

/-! ## The results -/

theorem flushed19_eq (c : Dev nD) (hr : (args m c).Real) (t : Fin cfg0.N) :
    (dats m 0 c).flushed 19 t = ((cfg0.win 19).blk t).view.read (Elt Ideal) (resQa (args m c)) := by
  rw [Value.flushed19]
  funext y
  obtain ⟨r, j, rfl⟩ : ∃ (r : Fin 256) (j : Fin 512), y = (ix3 0 r j : S1x256x512.Idx) := by
    have h0 : (y 0).val < 1 := (y 0).isLt
    exact ⟨y 1, y 2, ext3 (by show (y 0).val = 0; omega) rfl rfl⟩
  refine (out19_at _ _ _ _ _ _ _ _ _ _ _ _ _ _ _ _ _ _ _ r j).trans ?_
  refine Eq.trans ?_ (congrArg (resQa (args m c)) (emb19 t r j)).symm
  exact congrArg (· * eighth) ((split_congr (fun k h => in17 m c t k h) (fun h k => in18 m c t h k) (fun k => bproj_lo m c t r (0 + k.val) (by omega))
    (fun k => in5 m c t k) j).trans (split_eq (zq (args m c) (im t) (row t r)) (fun k => isReal_proj (args m c) hr (im t) (row t r) _) (fun k => (args m c).qgain (ix2 0 k)) j))

theorem flushed20_eq (c : Dev nD) (hr : (args m c).Real) (t : Fin cfg0.N) :
    (dats m 0 c).flushed 20 t = ((cfg0.win 20).blk t).view.read (Elt Ideal) (resKa (args m c)) := by
  rw [Value.flushed20]
  funext y
  obtain ⟨r, j, rfl⟩ : ∃ (r : Fin 256) (j : Fin 512), y = (ix3 0 r j : S1x256x512.Idx) := by
    have h0 : (y 0).val < 1 := (y 0).isLt
    exact ⟨y 1, y 2, ext3 (by show (y 0).val = 0; omega) rfl rfl⟩
  refine (out20_at _ _ _ _ _ _ _ _ _ _ _ _ _ _ _ _ _ _ _ r j).trans ?_
  refine Eq.trans ?_ (congrArg (resKa (args m c)) (emb20 t r j)).symm
  exact (split_congr (fun k h => in17 m c t k h) (fun h k => in18 m c t h k) (fun k => bproj_lo m c t r (512 + k.val) (by omega))
    (fun k => in6 m c t k) j).trans (split_eq (zk (args m c) (im t) (row t r)) (fun k => isReal_proj (args m c) hr (im t) (row t r) _) (fun k => (args m c).kgain (ix2 0 k)) j)

theorem flushed21_eq (c : Dev nD) (t : Fin cfg0.N) :
    (dats m 0 c).flushed 21 t = ((cfg0.win 21).blk t).view.read (Elt Ideal) (resVa (args m c)) := by
  rw [Value.flushed21]
  funext y
  obtain ⟨r, j, rfl⟩ : ∃ (r : Fin 256) (j : Fin 512), y = (ix3 0 r j : S1x256x512.Idx) := by
    have h0 : (y 0).val < 1 := (y 0).isLt
    exact ⟨y 1, y 2, ext3 (by show (y 0).val = 0; omega) rfl rfl⟩
  refine (out21_at _ _ _ _ _ _ _ _ _ _ _ _ _ _ _ _ _ _ _ r j).trans ?_
  refine Eq.trans ?_ (congrArg (resVa (args m c)) (emb21 t r j)).symm
  exact bproj_lo m c t r (1024 + j.val) (by omega)

theorem flushed24_eq (c : Dev nD) (t : Fin cfg0.N) :
    (dats m 0 c).flushed 24 t = ((cfg0.win 24).blk t).view.read (Elt Ideal) (resVb (args m c)) := by
  rw [Value.flushed24]
  funext y
  obtain ⟨r, j, rfl⟩ : ∃ (r : Fin 256) (j : Fin 512), y = (ix3 0 r j : S1x256x512.Idx) := by
    have h0 : (y 0).val < 1 := (y 0).isLt
    exact ⟨y 1, y 2, ext3 (by show (y 0).val = 0; omega) rfl rfl⟩
  refine (out24_at _ _ _ _ _ _ _ _ _ _ _ _ _ _ _ _ _ _ _ r j).trans ?_
  refine Eq.trans ?_ (congrArg (resVb (args m c)) (emb24 t r j)).symm
  show _ = ∑ k, ckv (args m c) (im t) (row t r) k * (args m c).wukv (ix3 0 k (vcol j))
  refine Finset.sum_congr rfl fun k _ => congrArg₂ (· * ·) ?_ (in11 m c t k j)
  exact congrFun (congrArg₂ lat (funext fun k => bproj_lo m c t r (1920 + k.val) (by omega)) (funext fun k => in8 m c t k)) k

theorem flushed25_eq (c : Dev nD) (t : Fin cfg0.N) :
    (dats m 0 c).flushed 25 t = ((cfg0.win 25).blk t).view.read (Elt Ideal) (resGa (args m c)) := by
  rw [Value.flushed25]
  funext y
  obtain ⟨r, j, rfl⟩ : ∃ (r : Fin 256) (j : Fin 1024), y = (ix3 0 r j : S1x256x1024.Idx) := by
    have h0 : (y 0).val < 1 := (y 0).isLt
    exact ⟨y 1, y 2, ext3 (by show (y 0).val = 0; omega) rfl rfl⟩
  refine (out25_at _ _ _ _ _ _ _ _ _ _ _ _ _ _ _ _ _ _ _ r j).trans ?_
  refine Eq.trans ?_ (congrArg (resGa (args m c)) (emb25 t r j)).symm
  exact congrArg sig (bproj_hi m c t r ⟨j.val, by omega⟩)

theorem flushed26_eq (c : Dev nD) (t : Fin cfg0.N) :
    (dats m 0 c).flushed 26 t = ((cfg0.win 26).blk t).view.read (Elt Ideal) (resGb (args m c)) := by
  rw [Value.flushed26]
  funext y
  obtain ⟨r, j, rfl⟩ : ∃ (r : Fin 256) (j : Fin 1024), y = (ix3 0 r j : S1x256x1024.Idx) := by
    have h0 : (y 0).val < 1 := (y 0).isLt
    exact ⟨y 1, y 2, ext3 (by show (y 0).val = 0; omega) rfl rfl⟩
  refine (out26_at _ _ _ _ _ _ _ _ _ _ _ _ _ _ _ _ _ _ _ r j).trans ?_
  refine Eq.trans ?_ (congrArg (resGb (args m c)) (emb26 t r j)).symm
  refine congrArg sig (Eq.trans ?_ ((bproj_hi m c t r ⟨1024 + j.val, by omega⟩).trans ?_))
  · exact congrArg _ (Fin.ext (show 3328 + j.val = 2304 + (1024 + j.val) by omega))
  · exact congrArg _ (Fin.ext (show 2208 + (1024 + j.val) = 3232 + j.val by omega))

/-- The block and the place in it of an index of a token array. -/
theorem block_of {n : ℕ} (i : (⟨3, ![16, 2048, n]⟩ : Shape).Idx) : ∃ (t : Fin grid0.N) (r : Fin 256), i = ix3 (im t) (row t r) (i 2) := by
  have h0 : (i 0).val < 16 := (i 0).isLt
  have h1 : (i 1).val < 2048 := (i 1).isLt
  have hN : grid0.N = 128 := N_0
  obtain ⟨t, ht⟩ : ∃ t : Fin grid0.N, t.val = (i 0).val * 8 + (i 1).val / 256 := ⟨⟨_, by omega⟩, rfl⟩
  refine ⟨t, ⟨(i 1).val % 256, by omega⟩, ext3 ?_ ?_ rfl⟩
  · show (i 0).val = t.val / 8; omega
  · show (i 1).val = t.val % 8 * 256 + (i 1).val % 256; omega

theorem cover19 (i : S16x2048x512.Idx) : ∃ t : Fin cfg0.N, (cfg0.win 19).flush t = true ∧ i ∈ ((cfg0.win 19).blk t).view.set := by
  obtain ⟨t, r, e⟩ := block_of i
  refine ⟨t, flush0_19 _, ?_⟩
  rw [e.trans (emb19 t r (i 2)).symm]
  exact View.emb_mem_set ((cfg0.win 19).blk t).view _
theorem cover20 (i : S16x2048x512.Idx) : ∃ t : Fin cfg0.N, (cfg0.win 20).flush t = true ∧ i ∈ ((cfg0.win 20).blk t).view.set := by
  obtain ⟨t, r, e⟩ := block_of i
  refine ⟨t, flush0_20 _, ?_⟩
  rw [e.trans (emb20 t r (i 2)).symm]
  exact View.emb_mem_set ((cfg0.win 20).blk t).view _
theorem cover21 (i : S16x2048x512.Idx) : ∃ t : Fin cfg0.N, (cfg0.win 21).flush t = true ∧ i ∈ ((cfg0.win 21).blk t).view.set := by
  obtain ⟨t, r, e⟩ := block_of i
  refine ⟨t, flush0_21 _, ?_⟩
  rw [e.trans (emb21 t r (i 2)).symm]
  exact View.emb_mem_set ((cfg0.win 21).blk t).view _
theorem cover24 (i : S16x2048x512.Idx) : ∃ t : Fin cfg0.N, (cfg0.win 24).flush t = true ∧ i ∈ ((cfg0.win 24).blk t).view.set := by
  obtain ⟨t, r, e⟩ := block_of i
  refine ⟨t, flush0_24 _, ?_⟩
  rw [e.trans (emb24 t r (i 2)).symm]
  exact View.emb_mem_set ((cfg0.win 24).blk t).view _
theorem cover25 (i : S16x2048x1024.Idx) : ∃ t : Fin cfg0.N, (cfg0.win 25).flush t = true ∧ i ∈ ((cfg0.win 25).blk t).view.set := by
  obtain ⟨t, r, e⟩ := block_of i
  refine ⟨t, flush0_25 _, ?_⟩
  rw [e.trans (emb25 t r (i 2)).symm]
  exact View.emb_mem_set ((cfg0.win 25).blk t).view _
theorem cover26 (i : S16x2048x1024.Idx) : ∃ t : Fin cfg0.N, (cfg0.win 26).flush t = true ∧ i ∈ ((cfg0.win 26).blk t).view.set := by
  obtain ⟨t, r, e⟩ := block_of i
  refine ⟨t, flush0_26 _, ?_⟩
  rw [e.trans (emb26 t r (i 2)).symm]
  exact View.emb_mem_set ((cfg0.win 26).blk t).view _

theorem final19 (c : Dev nD) (hr : (args m c).Real) : (dats m 0 c).arrAt 19 cfg0.N = resQa (args m c) :=
  (dats m 0 c).arrAt_eq_of_cover 19 (resQa (args m c)) (fun t _ => flushed19_eq m c hr t) cover19
theorem final20 (c : Dev nD) (hr : (args m c).Real) : (dats m 0 c).arrAt 20 cfg0.N = resKa (args m c) :=
  (dats m 0 c).arrAt_eq_of_cover 20 (resKa (args m c)) (fun t _ => flushed20_eq m c hr t) cover20
theorem final21 (c : Dev nD) : (dats m 0 c).arrAt 21 cfg0.N = resVa (args m c) :=
  (dats m 0 c).arrAt_eq_of_cover 21 (resVa (args m c)) (fun t _ => flushed21_eq m c t) cover21
theorem final24 (c : Dev nD) : (dats m 0 c).arrAt 24 cfg0.N = resVb (args m c) :=
  (dats m 0 c).arrAt_eq_of_cover 24 (resVb (args m c)) (fun t _ => flushed24_eq m c t) cover24
theorem final25 (c : Dev nD) : (dats m 0 c).arrAt 25 cfg0.N = resGa (args m c) :=
  (dats m 0 c).arrAt_eq_of_cover 25 (resGa (args m c)) (fun t _ => flushed25_eq m c t) cover25
theorem final26 (c : Dev nD) : (dats m 0 c).arrAt 26 cfg0.N = resGb (args m c) :=
  (dats m 0 c).arrAt_eq_of_cover 26 (resGb (args m c)) (fun t _ => flushed26_eq m c t) cover26

end Cert.ProjArray

end
-- ==== Proof.Proj.lean ====
module

public import proofs.«01_k».proof.Defs
public import proofs.«01_k».proof.Proof.ProjArray
public import proofs.«01_k».proof.Proof.Finite
public import proofs.«01_k».proof.Proof.Gen.Kernel4.Frame
public import proofs.«01_k».proof.Proof.Gen.Reference4Ideal.Run
public import proofs.«01_k».proof.Proof.Gen.Pre_projected_finite
public import Idealize.ShloMosaic.Lib.Quiescent

/-!
The projection's call and its reference leave the same queries, keys, values and gates where the tokens, the modulation, the gain
and the weights hold no infinity.
-/

@[expose] public section

set_option maxRecDepth 16384

noncomputable section

namespace Cert.Proj

open Idealize.ShloMosaic Idealize.SL.Sem Cert.Finite Cert.ProjHost Cert.ProjArray

/-- The reference's run leaves its arguments and, having no semaphore, all counters at zero. -/
theorem frame_reference : Cert.quiescent_Reference4Ideal := fun m g _ =>
  (θ_run Cert.Reference4Ideal.defs _ _).mono (fun r h => ⟨fun c => (h c).2.2.2.2.2.2, Idealize.ShloMosaic.sem_eq_zero_of_no_sems (by decide) r.2⟩)
    (Cert.Reference4Ideal.Value.run (F := Ideal) m g)

variable [Cert.Pre_projected_finite.Facts]

theorem real_of_pre (m : (ℓ : Loc Cert.Kernel4Ideal.nD Cert.Kernel4Ideal.τ Cert.Kernel4Ideal.sig) → Buf (Elt Ideal) ℓ)
    (hpre : Cert.Pre_Kernel4Ideal_projected_finite m) (c : Dev Cert.Kernel4Ideal.nD) : (args m c).Real := by
  obtain ⟨h0, h1, h2, h3⟩ := hpre c
  exact ⟨fun i => isReal_of _ (congrFun h0 i), fun i => isReal_of _ (congrFun h1 i), fun i => isReal_of _ (congrFun h2 i),
    fun i => isReal_of _ (congrFun h3 i)⟩

/-- On such arguments kernel and reference leave the same results. -/
theorem projection : Cert.algebraic_Kernel4Ideal_Reference4Ideal_pre_projected_finite := by
  intro m g m' g' hpre heq
  refine ⟨fun c => resQa (args m c), fun c => resKa (args m c), fun c => resVa (args m c), fun c => resVb (args m c), fun c => resGa (args m c),
    fun c => resGb (args m c), ?_, ?_⟩
  · exact (θ_run Cert.Kernel4Ideal.defs _ _).mono
      (fun r h c => by
        obtain ⟨h0, h1, h2, _, _, h5, h6, h7, ha⟩ := h c
        have hr := real_of_pre m hpre c
        exact ⟨h0.trans (final19 m c hr), h1.trans (final20 m c hr), h2.trans (final21 m c), h5.trans (final24 m c), h6.trans (final25 m c),
          h7.trans (final26 m c), ha⟩)
      (Cert.Kernel4Ideal.Value.run_blocks (F := Ideal) m g)
  · refine (θ_run Cert.Reference4Ideal.defs _ _).mono
      (fun r h c => ⟨(h c).1.trans ?_, (h c).2.1.trans ?_, (h c).2.2.1.trans ?_, (h c).2.2.2.1.trans ?_, (h c).2.2.2.2.1.trans ?_,
        (h c).2.2.2.2.2.1.trans ?_, (h c).2.2.2.2.2.2⟩)
      (Cert.Reference4Ideal.Value.run (F := Ideal) m' g')
    all_goals obtain ⟨e0, e1, e2, e3, e4, e5, _, _, e8, e9, _, _⟩ := heq c
    · refine (Cert.Reference4Ideal.Read.val_main_v107_eq m' c).trans ?_
      rw [e0, e1, e2, e3, e4]
      exact refQa (args m c)
    · refine (Cert.Reference4Ideal.Read.val_main_v108_eq m' c).trans ?_
      rw [e0, e1, e2, e3, e5]
      exact refKa (args m c)
    · refine (Cert.Reference4Ideal.Read.val_main_v109_eq _ _ _ _).trans ?_
      rw [e0, e1, e2, e3]
      exact refVa (args m c)
    · refine (Cert.Reference4Ideal.Read.val_main_v110_eq m' c).trans ?_
      rw [e0, e1, e2, e3, e8, e9]
      exact refVb (args m c)
    · refine (Cert.Reference4Ideal.Read.val_main_v111_eq _ _ _ _).trans ?_
      rw [e0, e1, e2, e3]
      exact refGa (args m c)
    · refine (Cert.Reference4Ideal.Read.val_main_v112_eq _ _ _ _).trans ?_
      rw [e0, e1, e2, e3]
      exact refGb (args m c)

end Cert.Proj

end
-- ==== Proof.lean ====
/- The claims about the latent attention, the experts, the merge and the projection: each program's frame, that the idealization is the kernel's own text, and
   that kernel and reference leave the same result. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.MlaArray
public import proofs.«01_k».proof.Proof.Finite
public import proofs.«01_k».proof.Proof.Experts
public import proofs.«01_k».proof.Proof.ExpertsBitsArray
public import proofs.«01_k».proof.Proof.Merge
public import proofs.«01_k».proof.Proof.Proj
public import Idealize.ShloMosaic.Lib.Quiescent

@[expose] public section

set_option maxRecDepth 16384

noncomputable section

namespace Cert.Proof

open Idealize.ShloMosaic Idealize.SL.Sem

/-- The reference's run leaves its arguments and, having no semaphore, all counters at zero. -/
theorem frame_ri : Cert.quiescent_ReferenceIdeal := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

/-- On finite queries and keys both programs leave the same result. -/
theorem attention [Cert.Pre_finite.Facts] : Cert.algebraic_KernelIdeal_ReferenceIdeal_pre_finite := by
  intro m g m' g' hpre heq
  refine ⟨fun c => Cert.MlaArray.result m c, ?_, ?_⟩
  · exact (θ_run Cert.KernelIdeal.defs _ _).mono (fun r h c => ⟨(h c).1.trans (Cert.MlaArray.final m c), (h c).2⟩)
      (Cert.KernelIdeal.Value.run_blocks (F := Ideal) m g)
  · refine (θ_run Cert.ReferenceIdeal.defs _ _).mono (fun r h c => ⟨(h c).1.trans ?_, (h c).2⟩)
      (Cert.ReferenceIdeal.Value.run (F := Ideal) m' g')
    obtain ⟨e0, e1, e2, e3, e4⟩ := heq c
    refine (Cert.ReferenceIdeal.Read.val_main_v32_eq m' c).trans ?_
    rw [e0, e1, e2, e3, e4]
    exact (Cert.Mla.res_eq _ _ _ _ _ (Cert.Finite.real0 _ _ _ _ _ (hpre c).1) (Cert.Finite.real1 _ _ _ _ _ (hpre c).2.1)
      (Cert.Finite.real3 _ _ _ _ _ (hpre c).2.2)).symm

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Kernel4.Gen.facts,
    Cert.Kernel4Ideal.Gen.facts, Cert.Reference4Ideal.Gen.facts,
    Cert.Finite.facts, Cert.Pre_experts_named.Gen.facts, Cert.Pre_merged_finite.Gen.facts, Cert.Pre_projected_finite.Gen.facts,
    fun m ρ _ => Cert.Kernel.Gen.frame m ρ, fun m ρ _ => Cert.KernelIdeal.Gen.frame m ρ, fun m ρ _ => Cert.KernelIdeal.Gen.frame m ρ,
    frame_ri, fun m ρ _ => frame_ri m ρ trivial,
    Cert.ExpertsBits.frame_experts, Cert.Experts.frame_experts, Cert.Experts.frame_reference,
    fun m ρ _ => Cert.Experts.frame_reference m ρ trivial,
    fun m ρ _ => Cert.Kernel3.Gen.frame m ρ, fun m ρ _ => Cert.Kernel3Ideal.Gen.frame m ρ, fun m ρ _ => Cert.Kernel3Ideal.Gen.frame m ρ,
    Cert.Merge.frame_reference, fun m ρ _ => Cert.Merge.frame_reference m ρ trivial,
    fun m ρ _ => Cert.Kernel4.Gen.frame m ρ, fun m ρ _ => Cert.Kernel4Ideal.Gen.frame m ρ, fun m ρ _ => Cert.Kernel4Ideal.Gen.frame m ρ,
    Cert.Proj.frame_reference, fun m ρ _ => Cert.Proj.frame_reference m ρ trivial,
    trivial, @attention Cert.Finite.facts, trivial, Cert.Experts.experts, trivial, @Cert.Merge.merge Cert.Pre_merged_finite.Gen.facts,
    trivial, @Cert.Proj.projection Cert.Pre_projected_finite.Gen.facts⟩

end Cert.Proof

end
